-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_device : Cert.Pre_device.Facts] (m : (ℓ : Loc Cert.Kernel8.nD Cert.Kernel8.τ Cert.Kernel8.sig) → Buf (Elt Bits) ℓ) : Prop :=
  ∀ c : Dev Cert.Kernel8.nD,
    (Cert.Pre_device.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6)) (m ((c.tc : Thread Cert.Kernel8.nD Cert.Kernel8.τ).loc Cert.Kernel8.main_arg7)) (m ((c.tc : Thread Cert.Kernel8.nD Cert.Kernel8.τ).loc Cert.Kernel8.main_arg8)) (m ((c.tc : Thread Cert.Kernel8.nD Cert.Kernel8.τ).loc Cert.Kernel8.main_arg9))) = (fun _ => 1#1)

def Pre_Kernel8Ideal [hPre_device : Cert.Pre_device.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_device.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_device [hPre_device : Cert.Pre_device.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_device.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9))) = (fun _ => 1#1)

def Pre_Kernel9 [hPre_device9 : Cert.Pre_device9.Facts] (m : (ℓ : Loc Cert.Kernel9.nD Cert.Kernel9.τ Cert.Kernel9.sig) → Buf (Elt Bits) ℓ) : Prop :=
  ∀ c : Dev Cert.Kernel9.nD,
    (Cert.Pre_device9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5)) (m ((c.tc : Thread Cert.Kernel9.nD Cert.Kernel9.τ).loc Cert.Kernel9.main_arg6)) (m ((c.tc : Thread Cert.Kernel9.nD Cert.Kernel9.τ).loc Cert.Kernel9.main_arg7)) (m ((c.tc : Thread Cert.Kernel9.nD Cert.Kernel9.τ).loc Cert.Kernel9.main_arg8)) (m ((c.tc : Thread Cert.Kernel9.nD Cert.Kernel9.τ).loc Cert.Kernel9.main_arg9))) = (fun _ => 1#1)

def Pre_Kernel9Ideal [hPre_device9 : Cert.Pre_device9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_device9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_device9 [hPre_device9 : Cert.Pre_device9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_device9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9))) = (fun _ => 1#1)

def Pre_Kernel10 [hPre_device10 : Cert.Pre_device10.Facts] (m : (ℓ : Loc Cert.Kernel10.nD Cert.Kernel10.τ Cert.Kernel10.sig) → Buf (Elt Bits) ℓ) : Prop :=
  ∀ c : Dev Cert.Kernel10.nD,
    (Cert.Pre_device10.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5)) (m ((c.tc : Thread Cert.Kernel10.nD Cert.Kernel10.τ).loc Cert.Kernel10.main_arg6)) (m ((c.tc : Thread Cert.Kernel10.nD Cert.Kernel10.τ).loc Cert.Kernel10.main_arg7)) (m ((c.tc : Thread Cert.Kernel10.nD Cert.Kernel10.τ).loc Cert.Kernel10.main_arg8)) (m ((c.tc : Thread Cert.Kernel10.nD Cert.Kernel10.τ).loc Cert.Kernel10.main_arg9))) = (fun _ => 1#1)

def Pre_Kernel10Ideal [hPre_device10 : Cert.Pre_device10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_device10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_device10 [hPre_device10 : Cert.Pre_device10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_device10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))) = (fun _ => 1#1)

def Pre_Kernel11 [hPre_device11 : Cert.Pre_device11.Facts] (m : (ℓ : Loc Cert.Kernel11.nD Cert.Kernel11.τ Cert.Kernel11.sig) → Buf (Elt Bits) ℓ) : Prop :=
  ∀ c : Dev Cert.Kernel11.nD,
    (Cert.Pre_device11.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6)) (m ((c.tc : Thread Cert.Kernel11.nD Cert.Kernel11.τ).loc Cert.Kernel11.main_arg7)) (m ((c.tc : Thread Cert.Kernel11.nD Cert.Kernel11.τ).loc Cert.Kernel11.main_arg8)) (m ((c.tc : Thread Cert.Kernel11.nD Cert.Kernel11.τ).loc Cert.Kernel11.main_arg9))) = (fun _ => 1#1)

def Pre_Kernel11Ideal [hPre_device11 : Cert.Pre_device11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_device11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg9))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_device11 [hPre_device11 : Cert.Pre_device11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_device11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8)) (m ((c.tc : Thread Cert.Reference11Ideal.nD Cert.Reference11Ideal.τ).loc Cert.Reference11Ideal.main_arg9))) = (fun _ => 1#1)

def Pre_Kernel12 [hPre_device12 : Cert.Pre_device12.Facts] (m : (ℓ : Loc Cert.Kernel12.nD Cert.Kernel12.τ Cert.Kernel12.sig) → Buf (Elt Bits) ℓ) : Prop :=
  ∀ c : Dev Cert.Kernel12.nD,
    (Cert.Pre_device12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5)) (m ((c.tc : Thread Cert.Kernel12.nD Cert.Kernel12.τ).loc Cert.Kernel12.main_arg6)) (m ((c.tc : Thread Cert.Kernel12.nD Cert.Kernel12.τ).loc Cert.Kernel12.main_arg7)) (m ((c.tc : Thread Cert.Kernel12.nD Cert.Kernel12.τ).loc Cert.Kernel12.main_arg8)) (m ((c.tc : Thread Cert.Kernel12.nD Cert.Kernel12.τ).loc Cert.Kernel12.main_arg9))) = (fun _ => 1#1)

def Pre_Kernel12Ideal [hPre_device12 : Cert.Pre_device12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_device12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)) (m ((c.tc : Thread Cert.Kernel12Ideal.nD Cert.Kernel12Ideal.τ).loc Cert.Kernel12Ideal.main_arg9))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_device12 [hPre_device12 : Cert.Pre_device12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_device12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8)) (m ((c.tc : Thread Cert.Reference12Ideal.nD Cert.Reference12Ideal.τ).loc Cert.Reference12Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21)
      ∧ r.2.mem ((c.tc : Thread Cert.Kernel5.nD Cert.Kernel5.τ).loc Cert.Kernel5.main_arg22) = m ((c.tc : Thread Cert.Kernel5.nD Cert.Kernel5.τ).loc Cert.Kernel5.main_arg22)
      ∧ r.2.mem ((c.tc : Thread Cert.Kernel5.nD Cert.Kernel5.τ).loc Cert.Kernel5.main_arg23) = m ((c.tc : Thread Cert.Kernel5.nD Cert.Kernel5.τ).loc Cert.Kernel5.main_arg23)
      ∧ r.2.mem ((c.tc : Thread Cert.Kernel5.nD Cert.Kernel5.τ).loc Cert.Kernel5.main_arg24) = m ((c.tc : Thread Cert.Kernel5.nD Cert.Kernel5.τ).loc Cert.Kernel5.main_arg24)
      ∧ r.2.mem ((c.tc : Thread Cert.Kernel5.nD Cert.Kernel5.τ).loc Cert.Kernel5.main_arg25) = m ((c.tc : Thread Cert.Kernel5.nD Cert.Kernel5.τ).loc Cert.Kernel5.main_arg25)
      ∧ r.2.mem ((c.tc : Thread Cert.Kernel5.nD Cert.Kernel5.τ).loc Cert.Kernel5.main_arg26) = m ((c.tc : Thread Cert.Kernel5.nD Cert.Kernel5.τ).loc Cert.Kernel5.main_arg26)
      ∧ r.2.mem ((c.tc : Thread Cert.Kernel5.nD Cert.Kernel5.τ).loc Cert.Kernel5.main_arg27) = m ((c.tc : Thread Cert.Kernel5.nD Cert.Kernel5.τ).loc Cert.Kernel5.main_arg27))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23)
      ∧ r.2.mem ((c.tc : Thread Cert.Kernel5Ideal.nD Cert.Kernel5Ideal.τ).loc Cert.Kernel5Ideal.main_arg24) = m ((c.tc : Thread Cert.Kernel5Ideal.nD Cert.Kernel5Ideal.τ).loc Cert.Kernel5Ideal.main_arg24)
      ∧ r.2.mem ((c.tc : Thread Cert.Kernel5Ideal.nD Cert.Kernel5Ideal.τ).loc Cert.Kernel5Ideal.main_arg25) = m ((c.tc : Thread Cert.Kernel5Ideal.nD Cert.Kernel5Ideal.τ).loc Cert.Kernel5Ideal.main_arg25)
      ∧ r.2.mem ((c.tc : Thread Cert.Kernel5Ideal.nD Cert.Kernel5Ideal.τ).loc Cert.Kernel5Ideal.main_arg26) = m ((c.tc : Thread Cert.Kernel5Ideal.nD Cert.Kernel5Ideal.τ).loc Cert.Kernel5Ideal.main_arg26)
      ∧ r.2.mem ((c.tc : Thread Cert.Kernel5Ideal.nD Cert.Kernel5Ideal.τ).loc Cert.Kernel5Ideal.main_arg27) = m ((c.tc : Thread Cert.Kernel5Ideal.nD Cert.Kernel5Ideal.τ).loc Cert.Kernel5Ideal.main_arg27))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23)
      ∧ r.2.mem ((c.tc : Thread Cert.Reference5Ideal.nD Cert.Reference5Ideal.τ).loc Cert.Reference5Ideal.main_arg24) = m ((c.tc : Thread Cert.Reference5Ideal.nD Cert.Reference5Ideal.τ).loc Cert.Reference5Ideal.main_arg24)
      ∧ r.2.mem ((c.tc : Thread Cert.Reference5Ideal.nD Cert.Reference5Ideal.τ).loc Cert.Reference5Ideal.main_arg25) = m ((c.tc : Thread Cert.Reference5Ideal.nD Cert.Reference5Ideal.τ).loc Cert.Reference5Ideal.main_arg25)
      ∧ r.2.mem ((c.tc : Thread Cert.Reference5Ideal.nD Cert.Reference5Ideal.τ).loc Cert.Reference5Ideal.main_arg26) = m ((c.tc : Thread Cert.Reference5Ideal.nD Cert.Reference5Ideal.τ).loc Cert.Reference5Ideal.main_arg26)
      ∧ r.2.mem ((c.tc : Thread Cert.Reference5Ideal.nD Cert.Reference5Ideal.τ).loc Cert.Reference5Ideal.main_arg27) = m ((c.tc : Thread Cert.Reference5Ideal.nD Cert.Reference5Ideal.τ).loc Cert.Reference5Ideal.main_arg27))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] [hPre_device : Cert.Pre_device.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] [hPre_device : Cert.Pre_device.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Reference8Ideal_pre_device [hReference8Ideal : Cert.Reference8Ideal.Facts] [hPre_device : Cert.Pre_device.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_device m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] [hPre_device9 : Cert.Pre_device9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] [hPre_device9 : Cert.Pre_device9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Reference9Ideal_pre_device9 [hReference9Ideal : Cert.Reference9Ideal.Facts] [hPre_device9 : Cert.Pre_device9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_device9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] [hPre_device10 : Cert.Pre_device10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] [hPre_device10 : Cert.Pre_device10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Reference10Ideal_pre_device10 [hReference10Ideal : Cert.Reference10Ideal.Facts] [hPre_device10 : Cert.Pre_device10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_device10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] [hPre_device11 : Cert.Pre_device11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] [hPre_device11 : Cert.Pre_device11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def quiescent_Reference11Ideal_pre_device11 [hReference11Ideal : Cert.Reference11Ideal.Facts] [hPre_device11 : Cert.Pre_device11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_device11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def quiescent_Kernel12 [hKernel12 : Cert.Kernel12.Facts] [hPre_device12 : Cert.Pre_device12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] [hPre_device12 : Cert.Pre_device12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Reference12Ideal_pre_device12 [hReference12Ideal : Cert.Reference12Ideal.Facts] [hPre_device12 : Cert.Pre_device12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_device12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v9_0)) (v2 : (c : Dev Cert.Kernel2Ideal.nD) → Buf (Elt Ideal) ((c.tc : Thread Cert.Kernel2Ideal.nD Cert.Kernel2Ideal.τ).loc Cert.Kernel2Ideal.main_v9_1)) (v3 : (c : Dev Cert.Kernel2Ideal.nD) → Buf (Elt Ideal) ((c.tc : Thread Cert.Kernel2Ideal.nD Cert.Kernel2Ideal.τ).loc Cert.Kernel2Ideal.main_v10)) (v4 : (c : Dev Cert.Kernel2Ideal.nD) → Buf (Elt Ideal) ((c.tc : Thread Cert.Kernel2Ideal.nD Cert.Kernel2Ideal.τ).loc Cert.Kernel2Ideal.main_v11)) (v5 : (c : Dev Cert.Kernel2Ideal.nD) → Buf (Elt Ideal) ((c.tc : Thread Cert.Kernel2Ideal.nD Cert.Kernel2Ideal.τ).loc Cert.Kernel2Ideal.main_v12)) (v6 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v9_0) = v1 c
          ∧ r.2.mem ((c.tc : Thread Cert.Kernel2Ideal.nD Cert.Kernel2Ideal.τ).loc Cert.Kernel2Ideal.main_v9_1) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_v11) = v4 c
          ∧ r.2.mem ((c.tc : Thread Cert.Kernel2Ideal.nD Cert.Kernel2Ideal.τ).loc Cert.Kernel2Ideal.main_v12) = v5 c
          ∧ r.2.mem ((c.tc : Thread Cert.Kernel2Ideal.nD Cert.Kernel2Ideal.τ).loc Cert.Kernel2Ideal.main_v13) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_v8) = v4 c
          ∧ r.2.mem ((c.tc : Thread Cert.Reference2Ideal.nD Cert.Reference2Ideal.τ).loc Cert.Reference2Ideal.main_v43) = v5 c
          ∧ r.2.mem ((c.tc : Thread Cert.Reference2Ideal.nD Cert.Reference2Ideal.τ).loc Cert.Reference2Ideal.main_v17) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v9_0)) (v2 : (c : Dev Cert.Kernel3Ideal.nD) → Buf (Elt Ideal) ((c.tc : Thread Cert.Kernel3Ideal.nD Cert.Kernel3Ideal.τ).loc Cert.Kernel3Ideal.main_v9_1)) (v3 : (c : Dev Cert.Kernel3Ideal.nD) → Buf (Elt Ideal) ((c.tc : Thread Cert.Kernel3Ideal.nD Cert.Kernel3Ideal.τ).loc Cert.Kernel3Ideal.main_v10)) (v4 : (c : Dev Cert.Kernel3Ideal.nD) → Buf (Elt Ideal) ((c.tc : Thread Cert.Kernel3Ideal.nD Cert.Kernel3Ideal.τ).loc Cert.Kernel3Ideal.main_v11)) (v5 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v9_0) = v1 c
          ∧ r.2.mem ((c.tc : Thread Cert.Kernel3Ideal.nD Cert.Kernel3Ideal.τ).loc Cert.Kernel3Ideal.main_v9_1) = v2 c
          ∧ r.2.mem ((c.tc : Thread Cert.Kernel3Ideal.nD Cert.Kernel3Ideal.τ).loc Cert.Kernel3Ideal.main_v10) = v3 c
          ∧ r.2.mem ((c.tc : Thread Cert.Kernel3Ideal.nD Cert.Kernel3Ideal.τ).loc Cert.Kernel3Ideal.main_v11) = v4 c
          ∧ r.2.mem ((c.tc : Thread Cert.Kernel3Ideal.nD Cert.Kernel3Ideal.τ).loc Cert.Kernel3Ideal.main_v12) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_v8) = v4 c
          ∧ r.2.mem ((c.tc : Thread Cert.Reference3Ideal.nD Cert.Reference3Ideal.τ).loc Cert.Reference3Ideal.main_v37) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v8)) (v2 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_v9) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)
      ∧ m' ((c.tc : Thread Cert.Reference5Ideal.nD Cert.Reference5Ideal.τ).loc Cert.Reference5Ideal.main_arg22) = m ((c.tc : Thread Cert.Kernel5Ideal.nD Cert.Kernel5Ideal.τ).loc Cert.Kernel5Ideal.main_arg22)
      ∧ m' ((c.tc : Thread Cert.Reference5Ideal.nD Cert.Reference5Ideal.τ).loc Cert.Reference5Ideal.main_arg23) = m ((c.tc : Thread Cert.Kernel5Ideal.nD Cert.Kernel5Ideal.τ).loc Cert.Kernel5Ideal.main_arg23)
      ∧ m' ((c.tc : Thread Cert.Reference5Ideal.nD Cert.Reference5Ideal.τ).loc Cert.Reference5Ideal.main_arg24) = m ((c.tc : Thread Cert.Kernel5Ideal.nD Cert.Kernel5Ideal.τ).loc Cert.Kernel5Ideal.main_arg24)
      ∧ m' ((c.tc : Thread Cert.Reference5Ideal.nD Cert.Reference5Ideal.τ).loc Cert.Reference5Ideal.main_arg25) = m ((c.tc : Thread Cert.Kernel5Ideal.nD Cert.Kernel5Ideal.τ).loc Cert.Kernel5Ideal.main_arg25)
      ∧ m' ((c.tc : Thread Cert.Reference5Ideal.nD Cert.Reference5Ideal.τ).loc Cert.Reference5Ideal.main_arg26) = m ((c.tc : Thread Cert.Kernel5Ideal.nD Cert.Kernel5Ideal.τ).loc Cert.Kernel5Ideal.main_arg26)
      ∧ m' ((c.tc : Thread Cert.Reference5Ideal.nD Cert.Reference5Ideal.τ).loc Cert.Reference5Ideal.main_arg27) = m ((c.tc : Thread Cert.Kernel5Ideal.nD Cert.Kernel5Ideal.τ).loc Cert.Kernel5Ideal.main_arg27)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v1_0)) (v4 : (c : Dev Cert.Kernel5Ideal.nD) → Buf (Elt Ideal) ((c.tc : Thread Cert.Kernel5Ideal.nD Cert.Kernel5Ideal.τ).loc Cert.Kernel5Ideal.main_v1_1)) (v5 : (c : Dev Cert.Kernel5Ideal.nD) → Buf (Elt Ideal) ((c.tc : Thread Cert.Kernel5Ideal.nD Cert.Kernel5Ideal.τ).loc Cert.Kernel5Ideal.main_v1_2)) (v6 : (c : Dev Cert.Kernel5Ideal.nD) → Buf (Elt Ideal) ((c.tc : Thread Cert.Kernel5Ideal.nD Cert.Kernel5Ideal.τ).loc Cert.Kernel5Ideal.main_v2_0)) (v7 : (c : Dev Cert.Kernel5Ideal.nD) → Buf (Elt Ideal) ((c.tc : Thread Cert.Kernel5Ideal.nD Cert.Kernel5Ideal.τ).loc Cert.Kernel5Ideal.main_v2_1)) (v8 : (c : Dev Cert.Kernel5Ideal.nD) → Buf (Elt Ideal) ((c.tc : Thread Cert.Kernel5Ideal.nD Cert.Kernel5Ideal.τ).loc Cert.Kernel5Ideal.main_v2_2)) (v9 : (c : Dev Cert.Kernel5Ideal.nD) → Buf (Elt Ideal) ((c.tc : Thread Cert.Kernel5Ideal.nD Cert.Kernel5Ideal.τ).loc Cert.Kernel5Ideal.main_v3_0)) (v10 : (c : Dev Cert.Kernel5Ideal.nD) → Buf (Elt Ideal) ((c.tc : Thread Cert.Kernel5Ideal.nD Cert.Kernel5Ideal.τ).loc Cert.Kernel5Ideal.main_v3_1)) (v11 : (c : Dev Cert.Kernel5Ideal.nD) → Buf (Elt Ideal) ((c.tc : Thread Cert.Kernel5Ideal.nD Cert.Kernel5Ideal.τ).loc Cert.Kernel5Ideal.main_v3_2)) (v12 : (c : Dev Cert.Kernel5Ideal.nD) → Buf (Elt Ideal) ((c.tc : Thread Cert.Kernel5Ideal.nD Cert.Kernel5Ideal.τ).loc Cert.Kernel5Ideal.main_v4_0)) (v13 : (c : Dev Cert.Kernel5Ideal.nD) → Buf (Elt Ideal) ((c.tc : Thread Cert.Kernel5Ideal.nD Cert.Kernel5Ideal.τ).loc Cert.Kernel5Ideal.main_v4_1)) (v14 : (c : Dev Cert.Kernel5Ideal.nD) → Buf (Elt Ideal) ((c.tc : Thread Cert.Kernel5Ideal.nD Cert.Kernel5Ideal.τ).loc Cert.Kernel5Ideal.main_v4_2)) (v15 : (c : Dev Cert.Kernel5Ideal.nD) → Buf (Elt Ideal) ((c.tc : Thread Cert.Kernel5Ideal.nD Cert.Kernel5Ideal.τ).loc Cert.Kernel5Ideal.main_v5_0)) (v16 : (c : Dev Cert.Kernel5Ideal.nD) → Buf (Elt Ideal) ((c.tc : Thread Cert.Kernel5Ideal.nD Cert.Kernel5Ideal.τ).loc Cert.Kernel5Ideal.main_v5_1)) (v17 : (c : Dev Cert.Kernel5Ideal.nD) → Buf (Elt Ideal) ((c.tc : Thread Cert.Kernel5Ideal.nD Cert.Kernel5Ideal.τ).loc Cert.Kernel5Ideal.main_v5_2)) (v18 : (c : Dev Cert.Kernel5Ideal.nD) → Buf (Elt Ideal) ((c.tc : Thread Cert.Kernel5Ideal.nD Cert.Kernel5Ideal.τ).loc Cert.Kernel5Ideal.main_v6_0)) (v19 : (c : Dev Cert.Kernel5Ideal.nD) → Buf (Elt Ideal) ((c.tc : Thread Cert.Kernel5Ideal.nD Cert.Kernel5Ideal.τ).loc Cert.Kernel5Ideal.main_v6_1)) (v20 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v1_0) = v3 c
          ∧ r.2.mem ((c.tc : Thread Cert.Kernel5Ideal.nD Cert.Kernel5Ideal.τ).loc Cert.Kernel5Ideal.main_v1_1) = v4 c
          ∧ r.2.mem ((c.tc : Thread Cert.Kernel5Ideal.nD Cert.Kernel5Ideal.τ).loc Cert.Kernel5Ideal.main_v1_2) = v5 c
          ∧ r.2.mem ((c.tc : Thread Cert.Kernel5Ideal.nD Cert.Kernel5Ideal.τ).loc Cert.Kernel5Ideal.main_v2_0) = v6 c
          ∧ r.2.mem ((c.tc : Thread Cert.Kernel5Ideal.nD Cert.Kernel5Ideal.τ).loc Cert.Kernel5Ideal.main_v2_1) = v7 c
          ∧ r.2.mem ((c.tc : Thread Cert.Kernel5Ideal.nD Cert.Kernel5Ideal.τ).loc Cert.Kernel5Ideal.main_v2_2) = v8 c
          ∧ r.2.mem ((c.tc : Thread Cert.Kernel5Ideal.nD Cert.Kernel5Ideal.τ).loc Cert.Kernel5Ideal.main_v3_0) = v9 c
          ∧ r.2.mem ((c.tc : Thread Cert.Kernel5Ideal.nD Cert.Kernel5Ideal.τ).loc Cert.Kernel5Ideal.main_v3_1) = v10 c
          ∧ r.2.mem ((c.tc : Thread Cert.Kernel5Ideal.nD Cert.Kernel5Ideal.τ).loc Cert.Kernel5Ideal.main_v3_2) = v11 c
          ∧ r.2.mem ((c.tc : Thread Cert.Kernel5Ideal.nD Cert.Kernel5Ideal.τ).loc Cert.Kernel5Ideal.main_v4_0) = v12 c
          ∧ r.2.mem ((c.tc : Thread Cert.Kernel5Ideal.nD Cert.Kernel5Ideal.τ).loc Cert.Kernel5Ideal.main_v4_1) = v13 c
          ∧ r.2.mem ((c.tc : Thread Cert.Kernel5Ideal.nD Cert.Kernel5Ideal.τ).loc Cert.Kernel5Ideal.main_v4_2) = v14 c
          ∧ r.2.mem ((c.tc : Thread Cert.Kernel5Ideal.nD Cert.Kernel5Ideal.τ).loc Cert.Kernel5Ideal.main_v5_0) = v15 c
          ∧ r.2.mem ((c.tc : Thread Cert.Kernel5Ideal.nD Cert.Kernel5Ideal.τ).loc Cert.Kernel5Ideal.main_v5_1) = v16 c
          ∧ r.2.mem ((c.tc : Thread Cert.Kernel5Ideal.nD Cert.Kernel5Ideal.τ).loc Cert.Kernel5Ideal.main_v5_2) = v17 c
          ∧ r.2.mem ((c.tc : Thread Cert.Kernel5Ideal.nD Cert.Kernel5Ideal.τ).loc Cert.Kernel5Ideal.main_v6_0) = v18 c
          ∧ r.2.mem ((c.tc : Thread Cert.Kernel5Ideal.nD Cert.Kernel5Ideal.τ).loc Cert.Kernel5Ideal.main_v6_1) = v19 c
          ∧ r.2.mem ((c.tc : Thread Cert.Kernel5Ideal.nD Cert.Kernel5Ideal.τ).loc Cert.Kernel5Ideal.main_v6_2) = v20 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
          ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
          ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23)
          ∧ r.2.mem ((c.tc : Thread Cert.Kernel5Ideal.nD Cert.Kernel5Ideal.τ).loc Cert.Kernel5Ideal.main_arg24) = m ((c.tc : Thread Cert.Kernel5Ideal.nD Cert.Kernel5Ideal.τ).loc Cert.Kernel5Ideal.main_arg24)
          ∧ r.2.mem ((c.tc : Thread Cert.Kernel5Ideal.nD Cert.Kernel5Ideal.τ).loc Cert.Kernel5Ideal.main_arg25) = m ((c.tc : Thread Cert.Kernel5Ideal.nD Cert.Kernel5Ideal.τ).loc Cert.Kernel5Ideal.main_arg25)
          ∧ r.2.mem ((c.tc : Thread Cert.Kernel5Ideal.nD Cert.Kernel5Ideal.τ).loc Cert.Kernel5Ideal.main_arg26) = m ((c.tc : Thread Cert.Kernel5Ideal.nD Cert.Kernel5Ideal.τ).loc Cert.Kernel5Ideal.main_arg26)
          ∧ r.2.mem ((c.tc : Thread Cert.Kernel5Ideal.nD Cert.Kernel5Ideal.τ).loc Cert.Kernel5Ideal.main_arg27) = m ((c.tc : Thread Cert.Kernel5Ideal.nD Cert.Kernel5Ideal.τ).loc Cert.Kernel5Ideal.main_arg27))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v71) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_v95) = v9 c
          ∧ r.2.mem ((c.tc : Thread Cert.Reference5Ideal.nD Cert.Reference5Ideal.τ).loc Cert.Reference5Ideal.main_v76) = v10 c
          ∧ r.2.mem ((c.tc : Thread Cert.Reference5Ideal.nD Cert.Reference5Ideal.τ).loc Cert.Reference5Ideal.main_v82) = v11 c
          ∧ r.2.mem ((c.tc : Thread Cert.Reference5Ideal.nD Cert.Reference5Ideal.τ).loc Cert.Reference5Ideal.main_v119) = v12 c
          ∧ r.2.mem ((c.tc : Thread Cert.Reference5Ideal.nD Cert.Reference5Ideal.τ).loc Cert.Reference5Ideal.main_v100) = v13 c
          ∧ r.2.mem ((c.tc : Thread Cert.Reference5Ideal.nD Cert.Reference5Ideal.τ).loc Cert.Reference5Ideal.main_v106) = v14 c
          ∧ r.2.mem ((c.tc : Thread Cert.Reference5Ideal.nD Cert.Reference5Ideal.τ).loc Cert.Reference5Ideal.main_v143) = v15 c
          ∧ r.2.mem ((c.tc : Thread Cert.Reference5Ideal.nD Cert.Reference5Ideal.τ).loc Cert.Reference5Ideal.main_v124) = v16 c
          ∧ r.2.mem ((c.tc : Thread Cert.Reference5Ideal.nD Cert.Reference5Ideal.τ).loc Cert.Reference5Ideal.main_v130) = v17 c
          ∧ r.2.mem ((c.tc : Thread Cert.Reference5Ideal.nD Cert.Reference5Ideal.τ).loc Cert.Reference5Ideal.main_v167) = v18 c
          ∧ r.2.mem ((c.tc : Thread Cert.Reference5Ideal.nD Cert.Reference5Ideal.τ).loc Cert.Reference5Ideal.main_v148) = v19 c
          ∧ r.2.mem ((c.tc : Thread Cert.Reference5Ideal.nD Cert.Reference5Ideal.τ).loc Cert.Reference5Ideal.main_v154) = v20 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21)
          ∧ r.2.mem ((c.tc : Thread Cert.Reference5Ideal.nD Cert.Reference5Ideal.τ).loc Cert.Reference5Ideal.main_arg22) = m' ((c.tc : Thread Cert.Reference5Ideal.nD Cert.Reference5Ideal.τ).loc Cert.Reference5Ideal.main_arg22)
          ∧ r.2.mem ((c.tc : Thread Cert.Reference5Ideal.nD Cert.Reference5Ideal.τ).loc Cert.Reference5Ideal.main_arg23) = m' ((c.tc : Thread Cert.Reference5Ideal.nD Cert.Reference5Ideal.τ).loc Cert.Reference5Ideal.main_arg23)
          ∧ r.2.mem ((c.tc : Thread Cert.Reference5Ideal.nD Cert.Reference5Ideal.τ).loc Cert.Reference5Ideal.main_arg24) = m' ((c.tc : Thread Cert.Reference5Ideal.nD Cert.Reference5Ideal.τ).loc Cert.Reference5Ideal.main_arg24)
          ∧ r.2.mem ((c.tc : Thread Cert.Reference5Ideal.nD Cert.Reference5Ideal.τ).loc Cert.Reference5Ideal.main_arg25) = m' ((c.tc : Thread Cert.Reference5Ideal.nD Cert.Reference5Ideal.τ).loc Cert.Reference5Ideal.main_arg25)
          ∧ r.2.mem ((c.tc : Thread Cert.Reference5Ideal.nD Cert.Reference5Ideal.τ).loc Cert.Reference5Ideal.main_arg26) = m' ((c.tc : Thread Cert.Reference5Ideal.nD Cert.Reference5Ideal.τ).loc Cert.Reference5Ideal.main_arg26)
          ∧ r.2.mem ((c.tc : Thread Cert.Reference5Ideal.nD Cert.Reference5Ideal.τ).loc Cert.Reference5Ideal.main_arg27) = m' ((c.tc : Thread Cert.Reference5Ideal.nD Cert.Reference5Ideal.τ).loc Cert.Reference5Ideal.main_arg27))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v1_0)) (v4 : (c : Dev Cert.Kernel6Ideal.nD) → Buf (Elt Ideal) ((c.tc : Thread Cert.Kernel6Ideal.nD Cert.Kernel6Ideal.τ).loc Cert.Kernel6Ideal.main_v1_1)) (v5 : (c : Dev Cert.Kernel6Ideal.nD) → Buf (Elt Ideal) ((c.tc : Thread Cert.Kernel6Ideal.nD Cert.Kernel6Ideal.τ).loc Cert.Kernel6Ideal.main_v1_2)) (v6 : (c : Dev Cert.Kernel6Ideal.nD) → Buf (Elt Ideal) ((c.tc : Thread Cert.Kernel6Ideal.nD Cert.Kernel6Ideal.τ).loc Cert.Kernel6Ideal.main_v2_0)) (v7 : (c : Dev Cert.Kernel6Ideal.nD) → Buf (Elt Ideal) ((c.tc : Thread Cert.Kernel6Ideal.nD Cert.Kernel6Ideal.τ).loc Cert.Kernel6Ideal.main_v2_1)) (v8 : (c : Dev Cert.Kernel6Ideal.nD) → Buf (Elt Ideal) ((c.tc : Thread Cert.Kernel6Ideal.nD Cert.Kernel6Ideal.τ).loc Cert.Kernel6Ideal.main_v2_2)) (v9 : (c : Dev Cert.Kernel6Ideal.nD) → Buf (Elt Ideal) ((c.tc : Thread Cert.Kernel6Ideal.nD Cert.Kernel6Ideal.τ).loc Cert.Kernel6Ideal.main_v3_0)) (v10 : (c : Dev Cert.Kernel6Ideal.nD) → Buf (Elt Ideal) ((c.tc : Thread Cert.Kernel6Ideal.nD Cert.Kernel6Ideal.τ).loc Cert.Kernel6Ideal.main_v3_1)) (v11 : (c : Dev Cert.Kernel6Ideal.nD) → Buf (Elt Ideal) ((c.tc : Thread Cert.Kernel6Ideal.nD Cert.Kernel6Ideal.τ).loc Cert.Kernel6Ideal.main_v3_2)) (v12 : (c : Dev Cert.Kernel6Ideal.nD) → Buf (Elt Ideal) ((c.tc : Thread Cert.Kernel6Ideal.nD Cert.Kernel6Ideal.τ).loc Cert.Kernel6Ideal.main_v4_0)) (v13 : (c : Dev Cert.Kernel6Ideal.nD) → Buf (Elt Ideal) ((c.tc : Thread Cert.Kernel6Ideal.nD Cert.Kernel6Ideal.τ).loc Cert.Kernel6Ideal.main_v4_1)) (v14 : (c : Dev Cert.Kernel6Ideal.nD) → Buf (Elt Ideal) ((c.tc : Thread Cert.Kernel6Ideal.nD Cert.Kernel6Ideal.τ).loc Cert.Kernel6Ideal.main_v4_2)) (v15 : (c : Dev Cert.Kernel6Ideal.nD) → Buf (Elt Ideal) ((c.tc : Thread Cert.Kernel6Ideal.nD Cert.Kernel6Ideal.τ).loc Cert.Kernel6Ideal.main_v5_0)) (v16 : (c : Dev Cert.Kernel6Ideal.nD) → Buf (Elt Ideal) ((c.tc : Thread Cert.Kernel6Ideal.nD Cert.Kernel6Ideal.τ).loc Cert.Kernel6Ideal.main_v5_1)) (v17 : (c : Dev Cert.Kernel6Ideal.nD) → Buf (Elt Ideal) ((c.tc : Thread Cert.Kernel6Ideal.nD Cert.Kernel6Ideal.τ).loc Cert.Kernel6Ideal.main_v5_2)) (v18 : (c : Dev Cert.Kernel6Ideal.nD) → Buf (Elt Ideal) ((c.tc : Thread Cert.Kernel6Ideal.nD Cert.Kernel6Ideal.τ).loc Cert.Kernel6Ideal.main_v6_0)) (v19 : (c : Dev Cert.Kernel6Ideal.nD) → Buf (Elt Ideal) ((c.tc : Thread Cert.Kernel6Ideal.nD Cert.Kernel6Ideal.τ).loc Cert.Kernel6Ideal.main_v6_1)) (v20 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v1_0) = v3 c
          ∧ r.2.mem ((c.tc : Thread Cert.Kernel6Ideal.nD Cert.Kernel6Ideal.τ).loc Cert.Kernel6Ideal.main_v1_1) = v4 c
          ∧ r.2.mem ((c.tc : Thread Cert.Kernel6Ideal.nD Cert.Kernel6Ideal.τ).loc Cert.Kernel6Ideal.main_v1_2) = v5 c
          ∧ r.2.mem ((c.tc : Thread Cert.Kernel6Ideal.nD Cert.Kernel6Ideal.τ).loc Cert.Kernel6Ideal.main_v2_0) = v6 c
          ∧ r.2.mem ((c.tc : Thread Cert.Kernel6Ideal.nD Cert.Kernel6Ideal.τ).loc Cert.Kernel6Ideal.main_v2_1) = v7 c
          ∧ r.2.mem ((c.tc : Thread Cert.Kernel6Ideal.nD Cert.Kernel6Ideal.τ).loc Cert.Kernel6Ideal.main_v2_2) = v8 c
          ∧ r.2.mem ((c.tc : Thread Cert.Kernel6Ideal.nD Cert.Kernel6Ideal.τ).loc Cert.Kernel6Ideal.main_v3_0) = v9 c
          ∧ r.2.mem ((c.tc : Thread Cert.Kernel6Ideal.nD Cert.Kernel6Ideal.τ).loc Cert.Kernel6Ideal.main_v3_1) = v10 c
          ∧ r.2.mem ((c.tc : Thread Cert.Kernel6Ideal.nD Cert.Kernel6Ideal.τ).loc Cert.Kernel6Ideal.main_v3_2) = v11 c
          ∧ r.2.mem ((c.tc : Thread Cert.Kernel6Ideal.nD Cert.Kernel6Ideal.τ).loc Cert.Kernel6Ideal.main_v4_0) = v12 c
          ∧ r.2.mem ((c.tc : Thread Cert.Kernel6Ideal.nD Cert.Kernel6Ideal.τ).loc Cert.Kernel6Ideal.main_v4_1) = v13 c
          ∧ r.2.mem ((c.tc : Thread Cert.Kernel6Ideal.nD Cert.Kernel6Ideal.τ).loc Cert.Kernel6Ideal.main_v4_2) = v14 c
          ∧ r.2.mem ((c.tc : Thread Cert.Kernel6Ideal.nD Cert.Kernel6Ideal.τ).loc Cert.Kernel6Ideal.main_v5_0) = v15 c
          ∧ r.2.mem ((c.tc : Thread Cert.Kernel6Ideal.nD Cert.Kernel6Ideal.τ).loc Cert.Kernel6Ideal.main_v5_1) = v16 c
          ∧ r.2.mem ((c.tc : Thread Cert.Kernel6Ideal.nD Cert.Kernel6Ideal.τ).loc Cert.Kernel6Ideal.main_v5_2) = v17 c
          ∧ r.2.mem ((c.tc : Thread Cert.Kernel6Ideal.nD Cert.Kernel6Ideal.τ).loc Cert.Kernel6Ideal.main_v6_0) = v18 c
          ∧ r.2.mem ((c.tc : Thread Cert.Kernel6Ideal.nD Cert.Kernel6Ideal.τ).loc Cert.Kernel6Ideal.main_v6_1) = v19 c
          ∧ r.2.mem ((c.tc : Thread Cert.Kernel6Ideal.nD Cert.Kernel6Ideal.τ).loc Cert.Kernel6Ideal.main_v6_2) = v20 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_v52) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v95) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v82) = v11 c
          ∧ r.2.mem ((c.tc : Thread Cert.Reference6Ideal.nD Cert.Reference6Ideal.τ).loc Cert.Reference6Ideal.main_v119) = v12 c
          ∧ r.2.mem ((c.tc : Thread Cert.Reference6Ideal.nD Cert.Reference6Ideal.τ).loc Cert.Reference6Ideal.main_v100) = v13 c
          ∧ r.2.mem ((c.tc : Thread Cert.Reference6Ideal.nD Cert.Reference6Ideal.τ).loc Cert.Reference6Ideal.main_v106) = v14 c
          ∧ r.2.mem ((c.tc : Thread Cert.Reference6Ideal.nD Cert.Reference6Ideal.τ).loc Cert.Reference6Ideal.main_v143) = v15 c
          ∧ r.2.mem ((c.tc : Thread Cert.Reference6Ideal.nD Cert.Reference6Ideal.τ).loc Cert.Reference6Ideal.main_v124) = v16 c
          ∧ r.2.mem ((c.tc : Thread Cert.Reference6Ideal.nD Cert.Reference6Ideal.τ).loc Cert.Reference6Ideal.main_v130) = v17 c
          ∧ r.2.mem ((c.tc : Thread Cert.Reference6Ideal.nD Cert.Reference6Ideal.τ).loc Cert.Reference6Ideal.main_v167) = v18 c
          ∧ r.2.mem ((c.tc : Thread Cert.Reference6Ideal.nD Cert.Reference6Ideal.τ).loc Cert.Reference6Ideal.main_v148) = v19 c
          ∧ r.2.mem ((c.tc : Thread Cert.Reference6Ideal.nD Cert.Reference6Ideal.τ).loc Cert.Reference6Ideal.main_v154) = v20 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] [hPre_device : Cert.Pre_device.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_v42) = v2 c
          ∧ r.2.mem ((c.tc : Thread Cert.Reference8Ideal.nD Cert.Reference8Ideal.τ).loc Cert.Reference8Ideal.main_v43) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] [hPre_device9 : Cert.Pre_device9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v42) = v2 c
          ∧ r.2.mem ((c.tc : Thread Cert.Reference9Ideal.nD Cert.Reference9Ideal.τ).loc Cert.Reference9Ideal.main_v43) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] [hPre_device10 : Cert.Pre_device10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_v43) = v2 c
          ∧ r.2.mem ((c.tc : Thread Cert.Reference10Ideal.nD Cert.Reference10Ideal.τ).loc Cert.Reference10Ideal.main_v44) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] [hPre_device11 : Cert.Pre_device11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v42) = v2 c
          ∧ r.2.mem ((c.tc : Thread Cert.Reference11Ideal.nD Cert.Reference11Ideal.τ).loc Cert.Reference11Ideal.main_v43) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def preserves_Kernel12_Kernel12Ideal : Prop :=
  True

def algebraic_Kernel12Ideal_Reference12Ideal [hKernel12Ideal : Cert.Kernel12Ideal.Facts] [hReference12Ideal : Cert.Reference12Ideal.Facts] [hPre_device12 : Cert.Pre_device12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v41) = v0 c
          ∧ r.2.mem ((c.tc : Thread Cert.Reference12Ideal.nD Cert.Reference12Ideal.τ).loc Cert.Reference12Ideal.main_v42) = v1 c
          ∧ r.2.mem ((c.tc : Thread Cert.Reference12Ideal.nD Cert.Reference12Ideal.τ).loc Cert.Reference12Ideal.main_v43) = v2 c
          ∧ r.2.mem ((c.tc : Thread Cert.Reference12Ideal.nD Cert.Reference12Ideal.τ).loc Cert.Reference12Ideal.main_v44) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_device : Cert.Pre_device.Facts) (hPre_device9 : Cert.Pre_device9.Facts) (hPre_device10 : Cert.Pre_device10.Facts) (hPre_device11 : Cert.Pre_device11.Facts) (hPre_device12 : Cert.Pre_device12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_device := hPre_device)
    ∧ quiescent_Kernel8Ideal (hKernel8Ideal := hKernel8Ideal) (hPre_device := hPre_device)
    ∧ quiescent_Reference8Ideal (hReference8Ideal := hReference8Ideal)
    ∧ quiescent_Reference8Ideal_pre_device (hReference8Ideal := hReference8Ideal) (hPre_device := hPre_device)
    ∧ quiescent_Kernel9 (hKernel9 := hKernel9) (hPre_device9 := hPre_device9)
    ∧ quiescent_Kernel9Ideal (hKernel9Ideal := hKernel9Ideal) (hPre_device9 := hPre_device9)
    ∧ quiescent_Reference9Ideal (hReference9Ideal := hReference9Ideal)
    ∧ quiescent_Reference9Ideal_pre_device9 (hReference9Ideal := hReference9Ideal) (hPre_device9 := hPre_device9)
    ∧ quiescent_Kernel10 (hKernel10 := hKernel10) (hPre_device10 := hPre_device10)
    ∧ quiescent_Kernel10Ideal (hKernel10Ideal := hKernel10Ideal) (hPre_device10 := hPre_device10)
    ∧ quiescent_Reference10Ideal (hReference10Ideal := hReference10Ideal)
    ∧ quiescent_Reference10Ideal_pre_device10 (hReference10Ideal := hReference10Ideal) (hPre_device10 := hPre_device10)
    ∧ quiescent_Kernel11 (hKernel11 := hKernel11) (hPre_device11 := hPre_device11)
    ∧ quiescent_Kernel11Ideal (hKernel11Ideal := hKernel11Ideal) (hPre_device11 := hPre_device11)
    ∧ quiescent_Reference11Ideal (hReference11Ideal := hReference11Ideal)
    ∧ quiescent_Reference11Ideal_pre_device11 (hReference11Ideal := hReference11Ideal) (hPre_device11 := hPre_device11)
    ∧ quiescent_Kernel12 (hKernel12 := hKernel12) (hPre_device12 := hPre_device12)
    ∧ quiescent_Kernel12Ideal (hKernel12Ideal := hKernel12Ideal) (hPre_device12 := hPre_device12)
    ∧ quiescent_Reference12Ideal (hReference12Ideal := hReference12Ideal)
    ∧ quiescent_Reference12Ideal_pre_device12 (hReference12Ideal := hReference12Ideal) (hPre_device12 := hPre_device12)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_device := hPre_device)
    ∧ preserves_Kernel9_Kernel9Ideal
    ∧ algebraic_Kernel9Ideal_Reference9Ideal (hKernel9Ideal := hKernel9Ideal) (hReference9Ideal := hReference9Ideal) (hPre_device9 := hPre_device9)
    ∧ preserves_Kernel10_Kernel10Ideal
    ∧ algebraic_Kernel10Ideal_Reference10Ideal (hKernel10Ideal := hKernel10Ideal) (hReference10Ideal := hReference10Ideal) (hPre_device10 := hPre_device10)
    ∧ preserves_Kernel11_Kernel11Ideal
    ∧ algebraic_Kernel11Ideal_Reference11Ideal (hKernel11Ideal := hKernel11Ideal) (hReference11Ideal := hReference11Ideal) (hPre_device11 := hPre_device11)
    ∧ preserves_Kernel12_Kernel12Ideal
    ∧ algebraic_Kernel12Ideal_Reference12Ideal (hKernel12Ideal := hKernel12Ideal) (hReference12Ideal := hReference12Ideal) (hPre_device12 := hPre_device12)
-- ==== Pre_device.lean ====
abbrev S8x128x1024 : Shape := ⟨3, ![8, 128, 1024]⟩
abbrev S1024x1024 : Shape := ⟨2, ![1024, 1024]⟩
abbrev S2x128x1024 : Shape := ⟨3, ![2, 128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x128x1024 .bf16) (main_arg1 : FVec F S1024x1024 .bf16) (main_arg2 : FVec F S2x128x1024 .f32) (main_arg3 : FVec F S2x128x1024 .f32) (main_arg4 : FVec F S2x128x1024 .f32) (main_arg5 : FVec F S2x128x1024 .f32) (main_arg6 : FVec F S2x128x1024 .f32) (main_arg7 : FVec F S2x128x1024 .f32) (main_arg8 : FVec F S2x128x1024 .f32) (main_arg9 : IVec S1 32) : IVec S1 1 :=
  let main_c : IVec S_ 32 := constantI S_ 32 0#32
  let main_v0 : IVec S1 32 := broadcastInDim S1 ![] bcast_S_S1 main_c
  let main_v1 : IVec S1 1 := cmpi .sge main_arg9 main_v0
  let main_c_0 : IVec S_ 32 := constantI S_ 32 8#32
  let main_v2 : IVec S1 32 := broadcastInDim S1 ![] bcast_S_S1 main_c_0
  let main_v3 : IVec S1 1 := cmpi .slt main_arg9 main_v2
  let main_v4 : IVec S1 1 := andi main_v1 main_v3
  main_v4
-- ==== Pre_device10.lean ====
abbrev S8x256x128 : Shape := ⟨3, ![8, 256, 128]⟩
abbrev S256x1024 : Shape := ⟨2, ![256, 1024]⟩
abbrev S4x256x128 : Shape := ⟨3, ![4, 256, 128]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x256x128 .bf16) (main_arg1 : FVec F S256x1024 .bf16) (main_arg2 : FVec F S4x256x128 .f32) (main_arg3 : FVec F S4x256x128 .f32) (main_arg4 : FVec F S4x256x128 .f32) (main_arg5 : FVec F S4x256x128 .f32) (main_arg6 : FVec F S4x256x128 .f32) (main_arg7 : FVec F S4x256x128 .f32) (main_arg8 : FVec F S4x256x128 .f32) (main_arg9 : IVec S1 32) : IVec S1 1 :=
  let main_c : IVec S_ 32 := constantI S_ 32 0#32
  let main_v0 : IVec S1 32 := broadcastInDim S1 ![] bcast_S_S1 main_c
  let main_v1 : IVec S1 1 := cmpi .sge main_arg9 main_v0
  let main_c_0 : IVec S_ 32 := constantI S_ 32 8#32
  let main_v2 : IVec S1 32 := broadcastInDim S1 ![] bcast_S_S1 main_c_0
  let main_v3 : IVec S1 1 := cmpi .slt main_arg9 main_v2
  let main_v4 : IVec S1 1 := andi main_v1 main_v3
  main_v4
-- ==== Pre_device11.lean ====
abbrev S8x512x1024 : Shape := ⟨3, ![8, 512, 1024]⟩
abbrev S4096x1024 : Shape := ⟨2, ![4096, 1024]⟩
abbrev S4x512x1024 : Shape := ⟨3, ![4, 512, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x512x1024 .bf16) (main_arg1 : FVec F S4096x1024 .bf16) (main_arg2 : FVec F S4x512x1024 .f32) (main_arg3 : FVec F S4x512x1024 .f32) (main_arg4 : FVec F S4x512x1024 .f32) (main_arg5 : FVec F S4x512x1024 .f32) (main_arg6 : FVec F S4x512x1024 .f32) (main_arg7 : FVec F S4x512x1024 .f32) (main_arg8 : FVec F S4x512x1024 .f32) (main_arg9 : IVec S1 32) : IVec S1 1 :=
  let main_c : IVec S_ 32 := constantI S_ 32 0#32
  let main_v0 : IVec S1 32 := broadcastInDim S1 ![] bcast_S_S1 main_c
  let main_v1 : IVec S1 1 := cmpi .sge main_arg9 main_v0
  let main_c_0 : IVec S_ 32 := constantI S_ 32 8#32
  let main_v2 : IVec S1 32 := broadcastInDim S1 ![] bcast_S_S1 main_c_0
  let main_v3 : IVec S1 1 := cmpi .slt main_arg9 main_v2
  let main_v4 : IVec S1 1 := andi main_v1 main_v3
  main_v4
-- ==== Pre_device12.lean ====
abbrev S8x1024x512 : Shape := ⟨3, ![8, 1024, 512]⟩
abbrev S1024x4096 : Shape := ⟨2, ![1024, 4096]⟩
abbrev S4x1024x512 : Shape := ⟨3, ![4, 1024, 512]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x512 .bf16) (main_arg1 : FVec F S1024x4096 .bf16) (main_arg2 : FVec F S4x1024x512 .f32) (main_arg3 : FVec F S4x1024x512 .f32) (main_arg4 : FVec F S4x1024x512 .f32) (main_arg5 : FVec F S4x1024x512 .f32) (main_arg6 : FVec F S4x1024x512 .f32) (main_arg7 : FVec F S4x1024x512 .f32) (main_arg8 : FVec F S4x1024x512 .f32) (main_arg9 : IVec S1 32) : IVec S1 1 :=
  let main_c : IVec S_ 32 := constantI S_ 32 0#32
  let main_v0 : IVec S1 32 := broadcastInDim S1 ![] bcast_S_S1 main_c
  let main_v1 : IVec S1 1 := cmpi .sge main_arg9 main_v0
  let main_c_0 : IVec S_ 32 := constantI S_ 32 8#32
  let main_v2 : IVec S1 32 := broadcastInDim S1 ![] bcast_S_S1 main_c_0
  let main_v3 : IVec S1 1 := cmpi .slt main_arg9 main_v2
  let main_v4 : IVec S1 1 := andi main_v1 main_v3
  main_v4
-- ==== Pre_device9.lean ====
abbrev S8x128x1024 : Shape := ⟨3, ![8, 128, 1024]⟩
abbrev S1024x1024 : Shape := ⟨2, ![1024, 1024]⟩
abbrev S4x128x1024 : Shape := ⟨3, ![4, 128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x128x1024 .bf16) (main_arg1 : FVec F S1024x1024 .bf16) (main_arg2 : FVec F S4x128x1024 .f32) (main_arg3 : FVec F S4x128x1024 .f32) (main_arg4 : FVec F S4x128x1024 .f32) (main_arg5 : FVec F S4x128x1024 .f32) (main_arg6 : FVec F S4x128x1024 .f32) (main_arg7 : FVec F S4x128x1024 .f32) (main_arg8 : FVec F S4x128x1024 .f32) (main_arg9 : IVec S1 32) : IVec S1 1 :=
  let main_c : IVec S_ 32 := constantI S_ 32 0#32
  let main_v0 : IVec S1 32 := broadcastInDim S1 ![] bcast_S_S1 main_c
  let main_v1 : IVec S1 1 := cmpi .sge main_arg9 main_v0
  let main_c_0 : IVec S_ 32 := constantI S_ 32 8#32
  let main_v2 : IVec S1 32 := broadcastInDim S1 ![] bcast_S_S1 main_c_0
  let main_v3 : IVec S1 1 := cmpi .slt main_arg9 main_v2
  let main_v4 : IVec S1 1 := andi main_v1 main_v3
  main_v4
-- ==== Kernel.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S1024x1024 : Shape := ⟨2, ![1024, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S4096x512 : Shape := ⟨2, ![4096, 512]⟩
abbrev S1024x512 : Shape := ⟨2, ![1024, 512]⟩

abbrev nBuf : Space → Nat
  | .hbm => 20
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S1024x4096, .bf16⟩
  | .hbm, ⟨9, _⟩ => ⟨S4096x1024, .bf16⟩
  | .hbm, ⟨10, _⟩ => ⟨S4096x4096, .bf16⟩
  | .hbm, ⟨11, _⟩ => ⟨S4096x4096, .bf16⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S4096x4096, .bf16⟩
  | .hbm, ⟨18, _⟩ => ⟨S4096x1024, .bf16⟩
  | .hbm, ⟨19, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S4096x1024, .bf16⟩
  | .local _ .vmem, ⟨30, _⟩ => ⟨S4096x1024, .bf16⟩
  | .local _ .vmem, ⟨31, _⟩ => ⟨S4096x512, .bf16⟩
  | .local _ .vmem, ⟨32, _⟩ => ⟨S4096x512, .bf16⟩
  | .local _ .vmem, ⟨33, _⟩ => ⟨S1024x512, .bf16⟩
  | .local _ .vmem, ⟨34, _⟩ => ⟨S1024x512, .bf16⟩
  | .local _ .vmem, ⟨35, _⟩ => ⟨S4096x1024, .bf16⟩
  | .local _ .vmem, ⟨36, _⟩ => ⟨S4096x512, .bf16⟩
  | .local _ .vmem, ⟨37, _⟩ => ⟨S4096x512, .bf16⟩
  | .local _ .vmem, ⟨38, _⟩ => ⟨S1024x512, .bf16⟩
  | .local _ .vmem, ⟨39, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc4_sem0_0 : DmaSem sig := 35
abbrev cc4_sem1_0 : DmaSem sig := 36
abbrev cc4_sem1_1 : DmaSem sig := 37
abbrev cc4_sem2_0 : DmaSem sig := 38
abbrev cc4_sem2_1 : DmaSem sig := 39

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== ReferenceIdeal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .i1⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S1024x4096, .f32⟩
  | .hbm, ⟨28, _⟩ => ⟨S4096x1024, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S1024x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S1024x4096, .bf16⟩
  | .hbm, ⟨68, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_cst : Ref sig .tc := ⟨.hbm, 17, rfl⟩
abbrev main_call1_v0 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel2.lean ====
abbrev S4096x1024 : Shape := ⟨2, ![4096, 1024]⟩
abbrev S1024x3072 : Shape := ⟨2, ![1024, 3072]⟩
abbrev S1536x1024 : Shape := ⟨2, ![1536, 1024]⟩
abbrev S1024 : Shape := ⟨1, ![1024]⟩
abbrev S4096x1536 : Shape := ⟨2, ![4096, 1536]⟩
abbrev S4096x3072 : Shape := ⟨2, ![4096, 3072]⟩
abbrev S1024x1024 : Shape := ⟨2, ![1024, 1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S4096x768 : Shape := ⟨2, ![4096, 768]⟩
abbrev S4096x512 : Shape := ⟨2, ![4096, 512]⟩
abbrev S768x512 : Shape := ⟨2, ![768, 512]⟩
abbrev S768x1024 : Shape := ⟨2, ![768, 1024]⟩
abbrev S1024x768 : Shape := ⟨2, ![1024, 768]⟩
abbrev S1024x512 : Shape := ⟨2, ![1024, 512]⟩
abbrev S512x3072 : Shape := ⟨2, ![512, 3072]⟩

abbrev nBuf : Space → Nat
  | .hbm => 24
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1536x1024, .f32⟩
  | .hbm, ⟨3, _⟩ => ⟨S1024, .f32⟩
  | .hbm, ⟨4, _⟩ => ⟨S1024, .f32⟩
  | .hbm, ⟨5, _⟩ => ⟨S4096x1536, .f32⟩
  | .hbm, ⟨6, _⟩ => ⟨S4096x1024, .f32⟩
  | .hbm, ⟨7, _⟩ => ⟨S4096x3072, .f32⟩
  | .hbm, ⟨8, _⟩ => ⟨S4096x1024, .bf16⟩
  | .hbm, ⟨9, _⟩ => ⟨S1024x3072, .bf16⟩
  | .hbm, ⟨10, _⟩ => ⟨S1536x1024, .bf16⟩
  | .hbm, ⟨11, _⟩ => ⟨S4096x1536, .bf16⟩
  | .hbm, ⟨12, _⟩ => ⟨S4096x1024, .bf16⟩
  | .hbm, ⟨13, _⟩ => ⟨S4096x3072, .bf16⟩
  | .hbm, ⟨14, _⟩ => ⟨S4096x3072, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1536x1024, .bf16⟩
  | .hbm, ⟨21, _⟩ => ⟨S4096x1536, .f32⟩
  | .hbm, ⟨22, _⟩ => ⟨S1024x3072, .bf16⟩
  | .hbm, ⟨23, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S512x1536, .bf16⟩
  | .local _ .vmem, ⟨7, _⟩ => ⟨S512x1536, .bf16⟩
  | .local _ .vmem, ⟨8, _⟩ => ⟨S1536x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S4096x768, .bf16⟩
  | .local _ .vmem, ⟨20, _⟩ => ⟨S4096x768, .bf16⟩
  | .local _ .vmem, ⟨21, _⟩ => ⟨S4096x512, .bf16⟩
  | .local _ .vmem, ⟨22, _⟩ => ⟨S4096x512, .bf16⟩
  | .local _ .vmem, ⟨23, _⟩ => ⟨S768x512, .bf16⟩
  | .local _ .vmem, ⟨24, _⟩ => ⟨S768x512, .bf16⟩
  | .local _ .vmem, ⟨25, _⟩ => ⟨S1024x1024, .bf16⟩
  | .local _ .vmem, ⟨26, _⟩ => ⟨S1024x1024, .bf16⟩
  | .local _ .vmem, ⟨27, _⟩ => ⟨S768x1024, .bf16⟩
  | .local _ .vmem, ⟨28, _⟩ => ⟨S768x1024, .bf16⟩
  | .local _ .vmem, ⟨29, _⟩ => ⟨S1024x768, .f32⟩
  | .local _ .vmem, ⟨30, _⟩ => ⟨S1024x768, .f32⟩
  | .local _ .vmem, ⟨31, _⟩ => ⟨S4096x1024, .bf16⟩
  | .local _ .vmem, ⟨32, _⟩ => ⟨S4096x512, .bf16⟩
  | .local _ .vmem, ⟨33, _⟩ => ⟨S4096x512, .bf16⟩
  | .local _ .vmem, ⟨34, _⟩ => ⟨S1024x512, .bf16⟩
  | .local _ .vmem, ⟨35, _⟩ => ⟨S1024x512, .bf16⟩
  | .local _ .vmem, ⟨36, _⟩ => ⟨S1024x3072, .bf16⟩
  | .local _ .vmem, ⟨37, _⟩ => ⟨S1024x3072, .bf16⟩
  | .local _ .vmem, ⟨38, _⟩ => ⟨S512x3072, .bf16⟩
  | .local _ .vmem, ⟨39, _⟩ => ⟨S512x3072, .bf16⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | .local _ .vmem, ⟨43, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc4_sem0_0 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1536x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S768x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S768x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 6, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x3072 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x3072 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== Reference2Ideal.lean ====
abbrev S4096x1024 : Shape := ⟨2, ![4096, 1024]⟩
abbrev S1024x3072 : Shape := ⟨2, ![1024, 3072]⟩
abbrev S1536x1024 : Shape := ⟨2, ![1536, 1024]⟩
abbrev S1024 : Shape := ⟨1, ![1024]⟩
abbrev S4096x1536 : Shape := ⟨2, ![4096, 1536]⟩
abbrev S4096x3072 : Shape := ⟨2, ![4096, 3072]⟩
abbrev S_ : Shape := ⟨0, ![]⟩
abbrev S1024x1536 : Shape := ⟨2, ![1024, 1536]⟩
abbrev S3072x1024 : Shape := ⟨2, ![3072, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1536x1024, .f32⟩
  | .hbm, ⟨3, _⟩ => ⟨S1024, .f32⟩
  | .hbm, ⟨4, _⟩ => ⟨S1024, .f32⟩
  | .hbm, ⟨5, _⟩ => ⟨S4096x1536, .f32⟩
  | .hbm, ⟨6, _⟩ => ⟨S4096x1024, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x1536, .f32⟩
  | .hbm, ⟨16, _⟩ => ⟨S1536x1024, .f32⟩
  | .hbm, ⟨17, _⟩ => ⟨S4096x1536, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x3072, .f32⟩
  | .hbm, ⟨22, _⟩ => ⟨S3072x1024, .f32⟩
  | .hbm, ⟨23, _⟩ => ⟨S1024x3072, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1536x1024, .bf16⟩
  | .hbm, ⟨59, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4096x512 : Shape := ⟨2, ![4096, 512]⟩
abbrev S1024x512 : Shape := ⟨2, ![1024, 512]⟩

abbrev nBuf : Space → Nat
  | .hbm => 23
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1024x1024, .bf16⟩
  | .hbm, ⟨10, _⟩ => ⟨S1024x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x1024, .bf16⟩
  | .hbm, ⟨21, _⟩ => ⟨S4096x1024, .f32⟩
  | .hbm, ⟨22, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S4096x1024, .bf16⟩
  | .local _ .vmem, ⟨19, _⟩ => ⟨S4096x512, .bf16⟩
  | .local _ .vmem, ⟨20, _⟩ => ⟨S4096x512, .bf16⟩
  | .local _ .vmem, ⟨21, _⟩ => ⟨S1024x512, .bf16⟩
  | .local _ .vmem, ⟨22, _⟩ => ⟨S1024x512, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | .local _ .vmem, ⟨28, _⟩ => ⟨S4096x1024, .bf16⟩
  | .local _ .vmem, ⟨29, _⟩ => ⟨S4096x512, .bf16⟩
  | .local _ .vmem, ⟨30, _⟩ => ⟨S4096x512, .bf16⟩
  | .local _ .vmem, ⟨31, _⟩ => ⟨S1024x512, .bf16⟩
  | .local _ .vmem, ⟨32, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference3Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S1024x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S1024x1024, .bf16⟩
  | .hbm, ⟨51, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel4.lean ====
abbrev S4096x1024 : Shape := ⟨2, ![4096, 1024]⟩
abbrev S4x4096x256 : Shape := ⟨3, ![4, 4096, 256]⟩
abbrev S256x1024 : Shape := ⟨2, ![256, 1024]⟩
abbrev S1024x1024 : Shape := ⟨2, ![1024, 1024]⟩
abbrev S1024 : Shape := ⟨1, ![1024]⟩
abbrev S1x1024x256 : Shape := ⟨3, ![1, 1024, 256]⟩
abbrev S1024x256 : Shape := ⟨2, ![1024, 256]⟩
abbrev S1x1024 : Shape := ⟨2, ![1, 1024]⟩
abbrev S512x1024 : Shape := ⟨2, ![512, 1024]⟩
abbrev S1x4096x256 : Shape := ⟨3, ![1, 4096, 256]⟩
abbrev S4096x512 : Shape := ⟨2, ![4096, 512]⟩
abbrev S256x512 : Shape := ⟨2, ![256, 512]⟩
abbrev S4096x256 : Shape := ⟨2, ![4096, 256]⟩
abbrev S1024x512 : Shape := ⟨2, ![1024, 512]⟩

abbrev nBuf : Space → Nat
  | .hbm => 19
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4x4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S256x1024, .bf16⟩
  | .hbm, ⟨9, _⟩ => ⟨S1024x1024, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S256x1024, .bf16⟩
  | .hbm, ⟨18, _⟩ => ⟨S1024x1024, .bf16⟩
  | .local _ .vmem, ⟨0, _⟩ => ⟨S1x1024x256, .f32⟩
  | .local _ .vmem, ⟨1, _⟩ => ⟨S1x1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S1x4096x256, .f32⟩
  | .local _ .vmem, ⟨20, _⟩ => ⟨S4096x512, .bf16⟩
  | .local _ .vmem, ⟨21, _⟩ => ⟨S4096x512, .bf16⟩
  | .local _ .vmem, ⟨22, _⟩ => ⟨S256x512, .bf16⟩
  | .local _ .vmem, ⟨23, _⟩ => ⟨S256x512, .bf16⟩
  | .local _ .vmem, ⟨24, _⟩ => ⟨S4096x1024, .bf16⟩
  | .local _ .vmem, ⟨25, _⟩ => ⟨S4096x512, .bf16⟩
  | .local _ .vmem, ⟨26, _⟩ => ⟨S4096x512, .bf16⟩
  | .local _ .vmem, ⟨27, _⟩ => ⟨S1024x512, .bf16⟩
  | .local _ .vmem, ⟨28, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem2_1 : DmaSem sig := 28

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![1, 2, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S1x4096x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference4Ideal.lean ====
abbrev S4096x1024 : Shape := ⟨2, ![4096, 1024]⟩
abbrev S4x4096x256 : Shape := ⟨3, ![4, 4096, 256]⟩
abbrev S256x1024 : Shape := ⟨2, ![256, 1024]⟩
abbrev S1024x1024 : Shape := ⟨2, ![1024, 1024]⟩
abbrev S1024 : Shape := ⟨1, ![1024]⟩
abbrev S1x4096x256 : Shape := ⟨3, ![1, 4096, 256]⟩
abbrev S4096x256 : Shape := ⟨2, ![4096, 256]⟩
abbrev S1024x256 : Shape := ⟨2, ![1024, 256]⟩
abbrev S1x1024 : Shape := ⟨2, ![1, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S1x4096x256, .f32⟩
  | .hbm, ⟨8, _⟩ => ⟨S4096x256, .f32⟩
  | .hbm, ⟨9, _⟩ => ⟨S4096x1024, .f32⟩
  | .hbm, ⟨10, _⟩ => ⟨S1024x256, .f32⟩
  | .hbm, ⟨11, _⟩ => ⟨S256x1024, .f32⟩
  | .hbm, ⟨12, _⟩ => ⟨S4096x1024, .f32⟩
  | .hbm, ⟨13, _⟩ => ⟨S1024x1024, .f32⟩
  | .hbm, ⟨14, _⟩ => ⟨S1024x1024, .f32⟩
  | .hbm, ⟨15, _⟩ => ⟨S1x4096x256, .f32⟩
  | .hbm, ⟨16, _⟩ => ⟨S4096x256, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S256x1024, .bf16⟩
  | .hbm, ⟨33, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel5.lean ====
abbrev S8x192 : Shape := ⟨2, ![8, 192]⟩
abbrev S2x1536 : Shape := ⟨2, ![2, 1536]⟩
abbrev S3072x128 : Shape := ⟨2, ![3072, 128]⟩
abbrev S512x128 : Shape := ⟨2, ![512, 128]⟩

abbrev nBuf : Space → Nat
  | .hbm => 49
  | .vmem => 63
  | .smem => 0
  | _ => 0

abbrev bufTy : (tb : Table) → Fin (tcTables nBuf tb) → BufTy
  | .hbm, ⟨0, _⟩ => ⟨S8x192, .f32⟩
  | .hbm, ⟨1, _⟩ => ⟨S8x192, .f32⟩
  | .hbm, ⟨2, _⟩ => ⟨S8x192, .f32⟩
  | .hbm, ⟨3, _⟩ => ⟨S8x192, .f32⟩
  | .hbm, ⟨4, _⟩ => ⟨S2x1536, .f32⟩
  | .hbm, ⟨5, _⟩ => ⟨S2x1536, .f32⟩
  | .hbm, ⟨6, _⟩ => ⟨S2x1536, .f32⟩
  | .hbm, ⟨7, _⟩ => ⟨S2x1536, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S3072x128, .f32⟩
  | .hbm, ⟨12, _⟩ => ⟨S2x1536, .f32⟩
  | .hbm, ⟨13, _⟩ => ⟨S2x1536, .f32⟩
  | .hbm, ⟨14, _⟩ => ⟨S2x1536, .f32⟩
  | .hbm, ⟨15, _⟩ => ⟨S2x1536, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S3072x128, .f32⟩
  | .hbm, ⟨20, _⟩ => ⟨S2x1536, .f32⟩
  | .hbm, ⟨21, _⟩ => ⟨S2x1536, .f32⟩
  | .hbm, ⟨22, _⟩ => ⟨S2x1536, .f32⟩
  | .hbm, ⟨23, _⟩ => ⟨S2x1536, .f32⟩
  | .hbm, ⟨24, _⟩ => ⟨S2x1536, .f32⟩
  | .hbm, ⟨25, _⟩ => ⟨S2x1536, .f32⟩
  | .hbm, ⟨26, _⟩ => ⟨S2x1536, .f32⟩
  | .hbm, ⟨27, _⟩ => ⟨S2x1536, .f32⟩
  | .hbm, ⟨28, _⟩ => ⟨S8x192, .f32⟩
  | .hbm, ⟨29, _⟩ => ⟨S8x192, .f32⟩
  | .hbm, ⟨30, _⟩ => ⟨S8x192, .f32⟩
  | .hbm, ⟨31, _⟩ => ⟨S2x1536, .f32⟩
  | .hbm, ⟨32, _⟩ => ⟨S2x1536, .f32⟩
  | .hbm, ⟨33, _⟩ => ⟨S2x1536, .f32⟩
  | .hbm, ⟨34, _⟩ => ⟨S3072x128, .f32⟩
  | .hbm, ⟨35, _⟩ => ⟨S3072x128, .f32⟩
  | .hbm, ⟨36, _⟩ => ⟨S3072x128, .f32⟩
  | .hbm, ⟨37, _⟩ => ⟨S2x1536, .f32⟩
  | .hbm, ⟨38, _⟩ => ⟨S2x1536, .f32⟩
  | .hbm, ⟨39, _⟩ => ⟨S2x1536, .f32⟩
  | .hbm, ⟨40, _⟩ => ⟨S3072x128, .f32⟩
  | .hbm, ⟨41, _⟩ => ⟨S3072x128, .f32⟩
  | .hbm, ⟨42, _⟩ => ⟨S3072x128, .f32⟩
  | .hbm, ⟨43, _⟩ => ⟨S2x1536, .f32⟩
  | .hbm, ⟨44, _⟩ => ⟨S2x1536, .f32⟩
  | .hbm, ⟨45, _⟩ => ⟨S2x1536, .f32⟩
  | .hbm, ⟨46, _⟩ => ⟨S2x1536, .f32⟩
  | .hbm, ⟨47, _⟩ => ⟨S2x1536, .f32⟩
  | .hbm, ⟨48, _⟩ => ⟨S2x1536, .f32⟩
  | .local _ .vmem, ⟨0, _⟩ => ⟨S8x192, .f32⟩
  | .local _ .vmem, ⟨1, _⟩ => ⟨S8x192, .f32⟩
  | .local _ .vmem, ⟨2, _⟩ => ⟨S8x192, .f32⟩
  | .local _ .vmem, ⟨3, _⟩ => ⟨S8x192, .f32⟩
  | .local _ .vmem, ⟨4, _⟩ => ⟨S8x192, .f32⟩
  | .local _ .vmem, ⟨5, _⟩ => ⟨S8x192, .f32⟩
  | .local _ .vmem, ⟨6, _⟩ => ⟨S8x192, .f32⟩
  | .local _ .vmem, ⟨7, _⟩ => ⟨S2x1536, .f32⟩
  | .local _ .vmem, ⟨8, _⟩ => ⟨S2x1536, .f32⟩
  | .local _ .vmem, ⟨9, _⟩ => ⟨S2x1536, .f32⟩
  | .local _ .vmem, ⟨10, _⟩ => ⟨S2x1536, .f32⟩
  | .local _ .vmem, ⟨11, _⟩ => ⟨S2x1536, .f32⟩
  | .local _ .vmem, ⟨12, _⟩ => ⟨S2x1536, .f32⟩
  | .local _ .vmem, ⟨13, _⟩ => ⟨S2x1536, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S2x1536, .f32⟩
  | .local _ .vmem, ⟨29, _⟩ => ⟨S2x1536, .f32⟩
  | .local _ .vmem, ⟨30, _⟩ => ⟨S2x1536, .f32⟩
  | .local _ .vmem, ⟨31, _⟩ => ⟨S2x1536, .f32⟩
  | .local _ .vmem, ⟨32, _⟩ => ⟨S2x1536, .f32⟩
  | .local _ .vmem, ⟨33, _⟩ => ⟨S2x1536, .f32⟩
  | .local _ .vmem, ⟨34, _⟩ => ⟨S2x1536, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | .local _ .vmem, ⟨48, _⟩ => ⟨S512x128, .f32⟩
  | .local _ .vmem, ⟨49, _⟩ => ⟨S2x1536, .f32⟩
  | .local _ .vmem, ⟨50, _⟩ => ⟨S2x1536, .f32⟩
  | .local _ .vmem, ⟨51, _⟩ => ⟨S2x1536, .f32⟩
  | .local _ .vmem, ⟨52, _⟩ => ⟨S2x1536, .f32⟩
  | .local _ .vmem, ⟨53, _⟩ => ⟨S2x1536, .f32⟩
  | .local _ .vmem, ⟨54, _⟩ => ⟨S2x1536, .f32⟩
  | .local _ .vmem, ⟨55, _⟩ => ⟨S2x1536, .f32⟩
  | .local _ .vmem, ⟨56, _⟩ => ⟨S2x1536, .f32⟩
  | .local _ .vmem, ⟨57, _⟩ => ⟨S2x1536, .f32⟩
  | .local _ .vmem, ⟨58, _⟩ => ⟨S2x1536, .f32⟩
  | .local _ .vmem, ⟨59, _⟩ => ⟨S2x1536, .f32⟩
  | .local _ .vmem, ⟨60, _⟩ => ⟨S2x1536, .f32⟩
  | .local _ .vmem, ⟨61, _⟩ => ⟨S2x1536, .f32⟩
  | .local _ .vmem, ⟨62, _⟩ => ⟨S2x1536, .f32⟩
  | _, _ => ⟨S8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1_0 : Ref sig .tc := ⟨.hbm, 31, rfl⟩
abbrev main_v1_1 : Ref sig .tc := ⟨.hbm, 32, rfl⟩
abbrev main_v1_2 : Ref sig .tc := ⟨.hbm, 33, rfl⟩
abbrev main_v2_0 : Ref sig .tc := ⟨.hbm, 34, rfl⟩
abbrev main_v2_1 : Ref sig .tc := ⟨.hbm, 35, rfl⟩
abbrev main_v2_2 : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v6_0 : Ref sig .tc := ⟨.hbm, 46, rfl⟩
abbrev main_v6_1 : Ref sig .tc := ⟨.hbm, 47, rfl⟩
abbrev main_v6_2 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc4_sem5_0 : DmaSem sig := 45
abbrev cc4_sem5_1 : DmaSem sig := 46
abbrev cc4_sem6_0 : DmaSem sig := 47
abbrev cc4_sem6_1 : DmaSem sig := 48
abbrev cc5_sem0_0 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc6_sem0_0 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2x1536 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2x1536 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2x1536 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S2x1536 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S2x1536 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S2x1536 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S2x1536 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S2x1536 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2x1536 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S2x1536 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S2x1536 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S2x1536 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S2x1536 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S2x1536 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2x1536 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S2x1536 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S2x1536 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S2x1536 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S2x1536 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S2x1536 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S2x1536 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== Reference5Ideal.lean ====
abbrev S8x192 : Shape := ⟨2, ![8, 192]⟩
abbrev S2x1536 : Shape := ⟨2, ![2, 1536]⟩
abbrev S3072x128 : Shape := ⟨2, ![3072, 128]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S8x192, .f32⟩
  | 1 => ⟨S8x192, .f32⟩
  | 2 => ⟨S8x192, .f32⟩
  | 3 => ⟨S8x192, .f32⟩
  | 4 => ⟨S2x1536, .f32⟩
  | 5 => ⟨S2x1536, .f32⟩
  | 6 => ⟨S2x1536, .f32⟩
  | 7 => ⟨S2x1536, .f32⟩
  | 8 => ⟨S3072x128, .f32⟩
  | 9 => ⟨S3072x128, .f32⟩
  | 10 => ⟨S3072x128, .f32⟩
  | 11 => ⟨S3072x128, .f32⟩
  | 12 => ⟨S2x1536, .f32⟩
  | 13 => ⟨S2x1536, .f32⟩
  | 14 => ⟨S2x1536, .f32⟩
  | 15 => ⟨S2x1536, .f32⟩
  | 16 => ⟨S3072x128, .f32⟩
  | 17 => ⟨S3072x128, .f32⟩
  | 18 => ⟨S3072x128, .f32⟩
  | 19 => ⟨S3072x128, .f32⟩
  | 20 => ⟨S2x1536, .f32⟩
  | 21 => ⟨S2x1536, .f32⟩
  | 22 => ⟨S2x1536, .f32⟩
  | 23 => ⟨S2x1536, .f32⟩
  | 24 => ⟨S2x1536, .f32⟩
  | 25 => ⟨S2x1536, .f32⟩
  | 26 => ⟨S2x1536, .f32⟩
  | 27 => ⟨S2x1536, .f32⟩
  | 28 => ⟨S_, .f32⟩
  | 29 => ⟨S8x192, .f32⟩
  | 30 => ⟨S8x192, .f32⟩
  | 31 => ⟨S_, .f32⟩
  | 32 => ⟨S8x192, .f32⟩
  | 33 => ⟨S8x192, .f32⟩
  | 34 => ⟨S8x192, .f32⟩
  | 35 => ⟨S_, .f32⟩
  | 36 => ⟨S8x192, .f32⟩
  | 37 => ⟨S8x192, .f32⟩
  | 38 => ⟨S8x192, .f32⟩
  | 39 => ⟨S_, .f32⟩
  | 40 => ⟨S8x192, .f32⟩
  | 41 => ⟨S8x192, .f32⟩
  | 42 => ⟨S8x192, .f32⟩
  | 43 => ⟨S_, .f32⟩
  | 44 => ⟨S8x192, .f32⟩
  | 45 => ⟨S8x192, .f32⟩
  | 46 => ⟨S_, .f32⟩
  | 47 => ⟨S8x192, .f32⟩
  | 48 => ⟨S8x192, .f32⟩
  | 49 => ⟨S8x192, .f32⟩
  | 50 => ⟨S_, .f32⟩
  | 51 => ⟨S8x192, .f32⟩
  | 52 => ⟨S8x192, .f32⟩
  | 53 => ⟨S8x192, .f32⟩
  | 54 => ⟨S_, .f32⟩
  | 55 => ⟨S8x192, .f32⟩
  | 56 => ⟨S8x192, .f32⟩
  | 57 => ⟨S8x192, .f32⟩
  | 58 => ⟨S_, .f32⟩
  | 59 => ⟨S8x192, .f32⟩
  | 60 => ⟨S8x192, .f32⟩
  | 61 => ⟨S_, .f32⟩
  | 62 => ⟨S2x1536, .f32⟩
  | 63 => ⟨S2x1536, .f32⟩
  | 64 => ⟨S_, .f32⟩
  | 65 => ⟨S2x1536, .f32⟩
  | 66 => ⟨S2x1536, .f32⟩
  | 67 => ⟨S2x1536, .f32⟩
  | 68 => ⟨S_, .f32⟩
  | 69 => ⟨S2x1536, .f32⟩
  | 70 => ⟨S2x1536, .f32⟩
  | 71 => ⟨S2x1536, .f32⟩
  | 72 => ⟨S_, .f32⟩
  | 73 => ⟨S2x1536, .f32⟩
  | 74 => ⟨S2x1536, .f32⟩
  | 75 => ⟨S2x1536, .f32⟩
  | 76 => ⟨S_, .f32⟩
  | 77 => ⟨S2x1536, .f32⟩
  | 78 => ⟨S2x1536, .f32⟩
  | 79 => ⟨S_, .f32⟩
  | 80 => ⟨S2x1536, .f32⟩
  | 81 => ⟨S2x1536, .f32⟩
  | 82 => ⟨S2x1536, .f32⟩
  | 83 => ⟨S_, .f32⟩
  | 84 => ⟨S2x1536, .f32⟩
  | 85 => ⟨S2x1536, .f32⟩
  | 86 => ⟨S2x1536, .f32⟩
  | 87 => ⟨S_, .f32⟩
  | 88 => ⟨S2x1536, .f32⟩
  | 89 => ⟨S2x1536, .f32⟩
  | 90 => ⟨S2x1536, .f32⟩
  | 91 => ⟨S_, .f32⟩
  | 92 => ⟨S2x1536, .f32⟩
  | 93 => ⟨S2x1536, .f32⟩
  | 94 => ⟨S_, .f32⟩
  | 95 => ⟨S3072x128, .f32⟩
  | 96 => ⟨S3072x128, .f32⟩
  | 97 => ⟨S_, .f32⟩
  | 98 => ⟨S3072x128, .f32⟩
  | 99 => ⟨S3072x128, .f32⟩
  | 100 => ⟨S3072x128, .f32⟩
  | 101 => ⟨S_, .f32⟩
  | 102 => ⟨S3072x128, .f32⟩
  | 103 => ⟨S3072x128, .f32⟩
  | 104 => ⟨S3072x128, .f32⟩
  | 105 => ⟨S_, .f32⟩
  | 106 => ⟨S3072x128, .f32⟩
  | 107 => ⟨S3072x128, .f32⟩
  | 108 => ⟨S3072x128, .f32⟩
  | 109 => ⟨S_, .f32⟩
  | 110 => ⟨S3072x128, .f32⟩
  | 111 => ⟨S3072x128, .f32⟩
  | 112 => ⟨S_, .f32⟩
  | 113 => ⟨S3072x128, .f32⟩
  | 114 => ⟨S3072x128, .f32⟩
  | 115 => ⟨S3072x128, .f32⟩
  | 116 => ⟨S_, .f32⟩
  | 117 => ⟨S3072x128, .f32⟩
  | 118 => ⟨S3072x128, .f32⟩
  | 119 => ⟨S3072x128, .f32⟩
  | 120 => ⟨S_, .f32⟩
  | 121 => ⟨S3072x128, .f32⟩
  | 122 => ⟨S3072x128, .f32⟩
  | 123 => ⟨S3072x128, .f32⟩
  | 124 => ⟨S_, .f32⟩
  | 125 => ⟨S3072x128, .f32⟩
  | 126 => ⟨S3072x128, .f32⟩
  | 127 => ⟨S_, .f32⟩
  | _ => ⟨S8x192, .f32⟩

abbrev hbmTy0_1 (i : Nat) : BufTy := match i % 128 with
  | 0 => ⟨S2x1536, .f32⟩
  | 1 => ⟨S2x1536, .f32⟩
  | 2 => ⟨S_, .f32⟩
  | 3 => ⟨S2x1536, .f32⟩
  | 4 => ⟨S2x1536, .f32⟩
  | 5 => ⟨S2x1536, .f32⟩
  | 6 => ⟨S_, .f32⟩
  | 7 => ⟨S2x1536, .f32⟩
  | 8 => ⟨S2x1536, .f32⟩
  | 9 => ⟨S2x1536, .f32⟩
  | 10 => ⟨S_, .f32⟩
  | 11 => ⟨S2x1536, .f32⟩
  | 12 => ⟨S2x1536, .f32⟩
  | 13 => ⟨S2x1536, .f32⟩
  | 14 => ⟨S_, .f32⟩
  | 15 => ⟨S2x1536, .f32⟩
  | 16 => ⟨S2x1536, .f32⟩
  | 17 => ⟨S_, .f32⟩
  | 18 => ⟨S2x1536, .f32⟩
  | 19 => ⟨S2x1536, .f32⟩
  | 20 => ⟨S2x1536, .f32⟩
  | 21 => ⟨S_, .f32⟩
  | 22 => ⟨S2x1536, .f32⟩
  | 23 => ⟨S2x1536, .f32⟩
  | 24 => ⟨S2x1536, .f32⟩
  | 25 => ⟨S_, .f32⟩
  | 26 => ⟨S2x1536, .f32⟩
  | 27 => ⟨S2x1536, .f32⟩
  | 28 => ⟨S2x1536, .f32⟩
  | 29 => ⟨S_, .f32⟩
  | 30 => ⟨S2x1536, .f32⟩
  | 31 => ⟨S2x1536, .f32⟩
  | 32 => ⟨S_, .f32⟩
  | 33 => ⟨S3072x128, .f32⟩
  | 34 => ⟨S3072x128, .f32⟩
  | 35 => ⟨S_, .f32⟩
  | 36 => ⟨S3072x128, .f32⟩
  | 37 => ⟨S3072x128, .f32⟩
  | 38 => ⟨S3072x128, .f32⟩
  | 39 => ⟨S_, .f32⟩
  | 40 => ⟨S3072x128, .f32⟩
  | 41 => ⟨S3072x128, .f32⟩
  | 42 => ⟨S3072x128, .f32⟩
  | 43 => ⟨S_, .f32⟩
  | 44 => ⟨S3072x128, .f32⟩
  | 45 => ⟨S3072x128, .f32⟩
  | 46 => ⟨S3072x128, .f32⟩
  | 47 => ⟨S_, .f32⟩
  | 48 => ⟨S3072x128, .f32⟩
  | 49 => ⟨S3072x128, .f32⟩
  | 50 => ⟨S_, .f32⟩
  | 51 => ⟨S3072x128, .f32⟩
  | 52 => ⟨S3072x128, .f32⟩
  | 53 => ⟨S3072x128, .f32⟩
  | 54 => ⟨S_, .f32⟩
  | 55 => ⟨S3072x128, .f32⟩
  | 56 => ⟨S3072x128, .f32⟩
  | 57 => ⟨S3072x128, .f32⟩
  | 58 => ⟨S_, .f32⟩
  | 59 => ⟨S3072x128, .f32⟩
  | 60 => ⟨S3072x128, .f32⟩
  | 61 => ⟨S3072x128, .f32⟩
  | 62 => ⟨S_, .f32⟩
  | 63 => ⟨S3072x128, .f32⟩
  | 64 => ⟨S3072x128, .f32⟩
  | 65 => ⟨S_, .f32⟩
  | 66 => ⟨S2x1536, .f32⟩
  | 67 => ⟨S2x1536, .f32⟩
  | 68 => ⟨S_, .f32⟩
  | 69 => ⟨S2x1536, .f32⟩
  | 70 => ⟨S2x1536, .f32⟩
  | 71 => ⟨S2x1536, .f32⟩
  | 72 => ⟨S_, .f32⟩
  | 73 => ⟨S2x1536, .f32⟩
  | 74 => ⟨S2x1536, .f32⟩
  | 75 => ⟨S2x1536, .f32⟩
  | 76 => ⟨S_, .f32⟩
  | 77 => ⟨S2x1536, .f32⟩
  | 78 => ⟨S2x1536, .f32⟩
  | 79 => ⟨S2x1536, .f32⟩
  | 80 => ⟨S_, .f32⟩
  | 81 => ⟨S2x1536, .f32⟩
  | 82 => ⟨S2x1536, .f32⟩
  | 83 => ⟨S_, .f32⟩
  | 84 => ⟨S2x1536, .f32⟩
  | 85 => ⟨S2x1536, .f32⟩
  | 86 => ⟨S2x1536, .f32⟩
  | 87 => ⟨S_, .f32⟩
  | 88 => ⟨S2x1536, .f32⟩
  | 89 => ⟨S2x1536, .f32⟩
  | 90 => ⟨S2x1536, .f32⟩
  | 91 => ⟨S_, .f32⟩
  | 92 => ⟨S2x1536, .f32⟩
  | 93 => ⟨S2x1536, .f32⟩
  | 94 => ⟨S2x1536, .f32⟩
  | 95 => ⟨S_, .f32⟩
  | 96 => ⟨S2x1536, .f32⟩
  | 97 => ⟨S2x1536, .f32⟩
  | 98 => ⟨S_, .f32⟩
  | 99 => ⟨S2x1536, .f32⟩
  | 100 => ⟨S2x1536, .f32⟩
  | 101 => ⟨S_, .f32⟩
  | 102 => ⟨S2x1536, .f32⟩
  | 103 => ⟨S2x1536, .f32⟩
  | 104 => ⟨S2x1536, .f32⟩
  | 105 => ⟨S_, .f32⟩
  | 106 => ⟨S2x1536, .f32⟩
  | 107 => ⟨S2x1536, .f32⟩
  | 108 => ⟨S2x1536, .f32⟩
  | 109 => ⟨S_, .f32⟩
  | 110 => ⟨S2x1536, .f32⟩
  | 111 => ⟨S2x1536, .f32⟩
  | 112 => ⟨S2x1536, .f32⟩
  | 113 => ⟨S_, .f32⟩
  | 114 => ⟨S2x1536, .f32⟩
  | 115 => ⟨S2x1536, .f32⟩
  | 116 => ⟨S_, .f32⟩
  | 117 => ⟨S2x1536, .f32⟩
  | 118 => ⟨S2x1536, .f32⟩
  | 119 => ⟨S2x1536, .f32⟩
  | 120 => ⟨S_, .f32⟩
  | 121 => ⟨S2x1536, .f32⟩
  | 122 => ⟨S2x1536, .f32⟩
  | 123 => ⟨S2x1536, .f32⟩
  | 124 => ⟨S_, .f32⟩
  | 125 => ⟨S2x1536, .f32⟩
  | 126 => ⟨S2x1536, .f32⟩
  | 127 => ⟨S2x1536, .f32⟩
  | _ => ⟨S8x192, .f32⟩

abbrev hbmTy0_2 (i : Nat) : BufTy := match i % 128 with
  | 0 => ⟨S_, .f32⟩
  | 1 => ⟨S2x1536, .f32⟩
  | 2 => ⟨S2x1536, .f32⟩
  | _ => ⟨S8x192, .f32⟩

abbrev hbmTy (i : Nat) : BufTy := match i / 128 with
  | 0 => hbmTy0_0 i
  | 1 => hbmTy0_1 i
  | 2 => hbmTy0_2 i
  | _ => ⟨S8x192, .f32⟩

abbrev bufTy : (tb : Table) → Fin (tcTables nBuf tb) → BufTy
  | .hbm, ⟨i, _⟩ => hbmTy i
  | _, _ => ⟨S8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel6.lean ====
abbrev S2x128 : Shape := ⟨2, ![2, 128]⟩
abbrev S4x1024 : Shape := ⟨2, ![4, 1024]⟩

abbrev nBuf : Space → Nat
  | .hbm => 49
  | .vmem => 49
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S2x128, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S4x1024, .f32⟩
  | .hbm, ⟨35, _⟩ => ⟨S4x1024, .f32⟩
  | .hbm, ⟨36, _⟩ => ⟨S4x1024, .f32⟩
  | .hbm, ⟨37, _⟩ => ⟨S4x1024, .f32⟩
  | .hbm, ⟨38, _⟩ => ⟨S4x1024, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S4x1024, .f32⟩
  | .hbm, ⟨44, _⟩ => ⟨S4x1024, .f32⟩
  | .hbm, ⟨45, _⟩ => ⟨S4x1024, .f32⟩
  | .hbm, ⟨46, _⟩ => ⟨S4x1024, .f32⟩
  | .hbm, ⟨47, _⟩ => ⟨S4x1024, .f32⟩
  | .hbm, ⟨48, _⟩ => ⟨S4x1024, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | .local _ .vmem, ⟨8, _⟩ => ⟨S2x128, .f32⟩
  | .local _ .vmem, ⟨9, _⟩ => ⟨S2x128, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S4x1024, .f32⟩
  | .local _ .vmem, ⟨15, _⟩ => ⟨S4x1024, .f32⟩
  | .local _ .vmem, ⟨16, _⟩ => ⟨S4x1024, .f32⟩
  | .local _ .vmem, ⟨17, _⟩ => ⟨S4x1024, .f32⟩
  | .local _ .vmem, ⟨18, _⟩ => ⟨S4x1024, .f32⟩
  | .local _ .vmem, ⟨19, _⟩ => ⟨S4x1024, .f32⟩
  | .local _ .vmem, ⟨20, _⟩ => ⟨S4x1024, .f32⟩
  | .local _ .vmem, ⟨21, _⟩ => ⟨S4x1024, .f32⟩
  | .local _ .vmem, ⟨22, _⟩ => ⟨S4x1024, .f32⟩
  | .local _ .vmem, ⟨23, _⟩ => ⟨S4x1024, .f32⟩
  | .local _ .vmem, ⟨24, _⟩ => ⟨S4x1024, .f32⟩
  | .local _ .vmem, ⟨25, _⟩ => ⟨S4x1024, .f32⟩
  | .local _ .vmem, ⟨26, _⟩ => ⟨S4x1024, .f32⟩
  | .local _ .vmem, ⟨27, _⟩ => ⟨S4x1024, .f32⟩
  | .local _ .vmem, ⟨28, _⟩ => ⟨S4x1024, .f32⟩
  | .local _ .vmem, ⟨29, _⟩ => ⟨S4x1024, .f32⟩
  | .local _ .vmem, ⟨30, _⟩ => ⟨S4x1024, .f32⟩
  | .local _ .vmem, ⟨31, _⟩ => ⟨S4x1024, .f32⟩
  | .local _ .vmem, ⟨32, _⟩ => ⟨S4x1024, .f32⟩
  | .local _ .vmem, ⟨33, _⟩ => ⟨S4x1024, .f32⟩
  | .local _ .vmem, ⟨34, _⟩ => ⟨S4x1024, .f32⟩
  | .local _ .vmem, ⟨35, _⟩ => ⟨S4x1024, .f32⟩
  | .local _ .vmem, ⟨36, _⟩ => ⟨S4x1024, .f32⟩
  | .local _ .vmem, ⟨37, _⟩ => ⟨S4x1024, .f32⟩
  | .local _ .vmem, ⟨38, _⟩ => ⟨S4x1024, .f32⟩
  | .local _ .vmem, ⟨39, _⟩ => ⟨S4x1024, .f32⟩
  | .local _ .vmem, ⟨40, _⟩ => ⟨S4x1024, .f32⟩
  | .local _ .vmem, ⟨41, _⟩ => ⟨S4x1024, .f32⟩
  | .local _ .vmem, ⟨42, _⟩ => ⟨S4x1024, .f32⟩
  | .local _ .vmem, ⟨43, _⟩ => ⟨S4x1024, .f32⟩
  | .local _ .vmem, ⟨44, _⟩ => ⟨S4x1024, .f32⟩
  | .local _ .vmem, ⟨45, _⟩ => ⟨S4x1024, .f32⟩
  | .local _ .vmem, ⟨46, _⟩ => ⟨S4x1024, .f32⟩
  | .local _ .vmem, ⟨47, _⟩ => ⟨S4x1024, .f32⟩
  | .local _ .vmem, ⟨48, _⟩ => ⟨S4x1024, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1_0 : Ref sig .tc := ⟨.hbm, 31, rfl⟩
abbrev main_v1_1 : Ref sig .tc := ⟨.hbm, 32, rfl⟩
abbrev main_v1_2 : Ref sig .tc := ⟨.hbm, 33, rfl⟩
abbrev main_v2_0 : Ref sig .tc := ⟨.hbm, 34, rfl⟩
abbrev main_v2_1 : Ref sig .tc := ⟨.hbm, 35, rfl⟩
abbrev main_v2_2 : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v6_0 : Ref sig .tc := ⟨.hbm, 46, rfl⟩
abbrev main_v6_1 : Ref sig .tc := ⟨.hbm, 47, rfl⟩
abbrev main_v6_2 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S4x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S4x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S4x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S4x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S4x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S4x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S4x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S4x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S4x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S4x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S4x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S4x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S4x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S4x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S4x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S4x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S4x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S4x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S4x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S4x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S4x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S4x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S4x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S4x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S4x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S4x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S4x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S4x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S4x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S4x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S4x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S4x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== Reference6Ideal.lean ====
abbrev S2x128 : Shape := ⟨2, ![2, 128]⟩
abbrev S4x1024 : Shape := ⟨2, ![4, 1024]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S2x128, .f32⟩
  | 1 => ⟨S2x128, .f32⟩
  | 2 => ⟨S2x128, .f32⟩
  | 3 => ⟨S2x128, .f32⟩
  | 4 => ⟨S2x128, .f32⟩
  | 5 => ⟨S2x128, .f32⟩
  | 6 => ⟨S2x128, .f32⟩
  | 7 => ⟨S2x128, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x1024, .f32⟩
  | 18 => ⟨S4x1024, .f32⟩
  | 19 => ⟨S4x1024, .f32⟩
  | 20 => ⟨S4x1024, .f32⟩
  | 21 => ⟨S4x1024, .f32⟩
  | 22 => ⟨S4x1024, .f32⟩
  | 23 => ⟨S4x1024, .f32⟩
  | 24 => ⟨S4x1024, .f32⟩
  | 25 => ⟨S4x1024, .f32⟩
  | 26 => ⟨S4x1024, .f32⟩
  | 27 => ⟨S4x1024, .f32⟩
  | 28 => ⟨S_, .f32⟩
  | 29 => ⟨S2x128, .f32⟩
  | 30 => ⟨S2x128, .f32⟩
  | 31 => ⟨S_, .f32⟩
  | 32 => ⟨S2x128, .f32⟩
  | 33 => ⟨S2x128, .f32⟩
  | 34 => ⟨S2x128, .f32⟩
  | 35 => ⟨S_, .f32⟩
  | 36 => ⟨S2x128, .f32⟩
  | 37 => ⟨S2x128, .f32⟩
  | 38 => ⟨S2x128, .f32⟩
  | 39 => ⟨S_, .f32⟩
  | 40 => ⟨S2x128, .f32⟩
  | 41 => ⟨S2x128, .f32⟩
  | 42 => ⟨S2x128, .f32⟩
  | 43 => ⟨S_, .f32⟩
  | 44 => ⟨S2x128, .f32⟩
  | 45 => ⟨S2x128, .f32⟩
  | 46 => ⟨S_, .f32⟩
  | 47 => ⟨S2x128, .f32⟩
  | 48 => ⟨S2x128, .f32⟩
  | 49 => ⟨S2x128, .f32⟩
  | 50 => ⟨S_, .f32⟩
  | 51 => ⟨S2x128, .f32⟩
  | 52 => ⟨S2x128, .f32⟩
  | 53 => ⟨S2x128, .f32⟩
  | 54 => ⟨S_, .f32⟩
  | 55 => ⟨S2x128, .f32⟩
  | 56 => ⟨S2x128, .f32⟩
  | 57 => ⟨S2x128, .f32⟩
  | 58 => ⟨S_, .f32⟩
  | 59 => ⟨S2x128, .f32⟩
  | 60 => ⟨S2x128, .f32⟩
  | 61 => ⟨S_, .f32⟩
  | 62 => ⟨S2x128, .f32⟩
  | 63 => ⟨S2x128, .f32⟩
  | 64 => ⟨S_, .f32⟩
  | 65 => ⟨S2x128, .f32⟩
  | 66 => ⟨S2x128, .f32⟩
  | 67 => ⟨S2x128, .f32⟩
  | 68 => ⟨S_, .f32⟩
  | 69 => ⟨S2x128, .f32⟩
  | 70 => ⟨S2x128, .f32⟩
  | 71 => ⟨S2x128, .f32⟩
  | 72 => ⟨S_, .f32⟩
  | 73 => ⟨S2x128, .f32⟩
  | 74 => ⟨S2x128, .f32⟩
  | 75 => ⟨S2x128, .f32⟩
  | 76 => ⟨S_, .f32⟩
  | 77 => ⟨S2x128, .f32⟩
  | 78 => ⟨S2x128, .f32⟩
  | 79 => ⟨S_, .f32⟩
  | 80 => ⟨S2x128, .f32⟩
  | 81 => ⟨S2x128, .f32⟩
  | 82 => ⟨S2x128, .f32⟩
  | 83 => ⟨S_, .f32⟩
  | 84 => ⟨S2x128, .f32⟩
  | 85 => ⟨S2x128, .f32⟩
  | 86 => ⟨S2x128, .f32⟩
  | 87 => ⟨S_, .f32⟩
  | 88 => ⟨S2x128, .f32⟩
  | 89 => ⟨S2x128, .f32⟩
  | 90 => ⟨S2x128, .f32⟩
  | 91 => ⟨S_, .f32⟩
  | 92 => ⟨S2x128, .f32⟩
  | 93 => ⟨S2x128, .f32⟩
  | 94 => ⟨S_, .f32⟩
  | 95 => ⟨S4x1024, .f32⟩
  | 96 => ⟨S4x1024, .f32⟩
  | 97 => ⟨S_, .f32⟩
  | 98 => ⟨S4x1024, .f32⟩
  | 99 => ⟨S4x1024, .f32⟩
  | 100 => ⟨S4x1024, .f32⟩
  | 101 => ⟨S_, .f32⟩
  | 102 => ⟨S4x1024, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S_, .f32⟩
  | 113 => ⟨S4x1024, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S_, .f32⟩
  | _ => ⟨S2x128, .f32⟩

abbrev hbmTy0_1 (i : Nat) : BufTy := match i % 128 with
  | 0 => ⟨S4x1024, .f32⟩
  | 1 => ⟨S4x1024, .f32⟩
  | 2 => ⟨S_, .f32⟩
  | 3 => ⟨S4x1024, .f32⟩
  | 4 => ⟨S4x1024, .f32⟩
  | 5 => ⟨S4x1024, .f32⟩
  | 6 => ⟨S_, .f32⟩
  | 7 => ⟨S4x1024, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S_, .f32⟩
  | 18 => ⟨S4x1024, .f32⟩
  | 19 => ⟨S4x1024, .f32⟩
  | 20 => ⟨S4x1024, .f32⟩
  | 21 => ⟨S_, .f32⟩
  | 22 => ⟨S4x1024, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S_, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S4x1024, .f32⟩
  | 39 => ⟨S_, .f32⟩
  | 40 => ⟨S4x1024, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S_, .f32⟩
  | 51 => ⟨S4x1024, .f32⟩
  | 52 => ⟨S4x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S_, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S_, .f32⟩
  | 102 => ⟨S4x1024, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S2x128, .f32⟩

abbrev hbmTy0_2 (i : Nat) : BufTy := match i % 128 with
  | 0 => ⟨S_, .f32⟩
  | 1 => ⟨S4x1024, .f32⟩
  | 2 => ⟨S4x1024, .f32⟩
  | _ => ⟨S2x128, .f32⟩

abbrev hbmTy (i : Nat) : BufTy := match i / 128 with
  | 0 => hbmTy0_0 i
  | 1 => hbmTy0_1 i
  | 2 => hbmTy0_2 i
  | _ => ⟨S2x128, .f32⟩

abbrev bufTy : (tb : Table) → Fin (tcTables nBuf tb) → BufTy
  | .hbm, ⟨i, _⟩ => hbmTy i
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel7.lean ====
abbrev S8x128x256 : Shape := ⟨3, ![8, 128, 256]⟩
abbrev S2x128x256 : Shape := ⟨3, ![2, 128, 256]⟩
abbrev S1x128x256 : Shape := ⟨3, ![1, 128, 256]⟩
abbrev S128x256 : Shape := ⟨2, ![128, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x128x256, .f32⟩
  | .hbm, ⟨3, _⟩ => ⟨S2x128x256, .f32⟩
  | .hbm, ⟨4, _⟩ => ⟨S2x128x256, .f32⟩
  | .hbm, ⟨5, _⟩ => ⟨S2x128x256, .f32⟩
  | .hbm, ⟨6, _⟩ => ⟨S2x128x256, .f32⟩
  | .hbm, ⟨7, _⟩ => ⟨S2x128x256, .f32⟩
  | .hbm, ⟨8, _⟩ => ⟨S2x128x256, .f32⟩
  | .hbm, ⟨9, _⟩ => ⟨S2x128x256, .f32⟩
  | .hbm, ⟨10, _⟩ => ⟨S2x128x256, .f32⟩
  | .hbm, ⟨11, _⟩ => ⟨S2x128x256, .f32⟩
  | .hbm, ⟨12, _⟩ => ⟨S2x128x256, .f32⟩
  | .local _ .vmem, ⟨0, _⟩ => ⟨S8x128x256, .bf16⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S8x128x256, .bf16⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x128x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Reference7Ideal.lean ====
abbrev S8x128x256 : Shape := ⟨3, ![8, 128, 256]⟩
abbrev S2x128x256 : Shape := ⟨3, ![2, 128, 256]⟩
abbrev S_ : Shape := ⟨0, ![]⟩
abbrev S128x256 : Shape := ⟨2, ![128, 256]⟩
abbrev S1x128x256 : Shape := ⟨3, ![1, 128, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x128x256, .f32⟩
  | .hbm, ⟨3, _⟩ => ⟨S2x128x256, .f32⟩
  | .hbm, ⟨4, _⟩ => ⟨S2x128x256, .f32⟩
  | .hbm, ⟨5, _⟩ => ⟨S8x128x256, .f32⟩
  | .hbm, ⟨6, _⟩ => ⟨S_, .f32⟩
  | .hbm, ⟨7, _⟩ => ⟨S128x256, .f32⟩
  | .hbm, ⟨8, _⟩ => ⟨S8x128x256, .f32⟩
  | .hbm, ⟨9, _⟩ => ⟨S_, .f32⟩
  | .hbm, ⟨10, _⟩ => ⟨S128x256, .f32⟩
  | .hbm, ⟨11, _⟩ => ⟨S1x128x256, .f32⟩
  | .hbm, ⟨12, _⟩ => ⟨S1x128x256, .f32⟩
  | .hbm, ⟨13, _⟩ => ⟨S2x128x256, .f32⟩
  | .hbm, ⟨14, _⟩ => ⟨S_, .f32⟩
  | .hbm, ⟨15, _⟩ => ⟨S2x128x256, .f32⟩
  | .hbm, ⟨16, _⟩ => ⟨S2x128x256, .f32⟩
  | .hbm, ⟨17, _⟩ => ⟨S_, .f32⟩
  | .hbm, ⟨18, _⟩ => ⟨S2x128x256, .f32⟩
  | .hbm, ⟨19, _⟩ => ⟨S2x128x256, .f32⟩
  | .hbm, ⟨20, _⟩ => ⟨S2x128x256, .f32⟩
  | .hbm, ⟨21, _⟩ => ⟨S_, .f32⟩
  | .hbm, ⟨22, _⟩ => ⟨S2x128x256, .f32⟩
  | .hbm, ⟨23, _⟩ => ⟨S2x128x256, .f32⟩
  | .hbm, ⟨24, _⟩ => ⟨S2x128x256, .f32⟩
  | .hbm, ⟨25, _⟩ => ⟨S_, .f32⟩
  | .hbm, ⟨26, _⟩ => ⟨S2x128x256, .f32⟩
  | .hbm, ⟨27, _⟩ => ⟨S2x128x256, .f32⟩
  | .hbm, ⟨28, _⟩ => ⟨S2x128x256, .f32⟩
  | .hbm, ⟨29, _⟩ => ⟨S_, .f32⟩
  | .hbm, ⟨30, _⟩ => ⟨S2x128x256, .f32⟩
  | .hbm, ⟨31, _⟩ => ⟨S2x128x256, .f32⟩
  | .hbm, ⟨32, _⟩ => ⟨S_, .f32⟩
  | .hbm, ⟨33, _⟩ => ⟨S2x128x256, .f32⟩
  | .hbm, ⟨34, _⟩ => ⟨S2x128x256, .f32⟩
  | .hbm, ⟨35, _⟩ => ⟨S2x128x256, .f32⟩
  | .hbm, ⟨36, _⟩ => ⟨S_, .f32⟩
  | .hbm, ⟨37, _⟩ => ⟨S2x128x256, .f32⟩
  | .hbm, ⟨38, _⟩ => ⟨S2x128x256, .f32⟩
  | .hbm, ⟨39, _⟩ => ⟨S2x128x256, .f32⟩
  | .hbm, ⟨40, _⟩ => ⟨S_, .f32⟩
  | .hbm, ⟨41, _⟩ => ⟨S2x128x256, .f32⟩
  | .hbm, ⟨42, _⟩ => ⟨S2x128x256, .f32⟩
  | .hbm, ⟨43, _⟩ => ⟨S2x128x256, .f32⟩
  | .hbm, ⟨44, _⟩ => ⟨S_, .f32⟩
  | .hbm, ⟨45, _⟩ => ⟨S2x128x256, .f32⟩
  | .hbm, ⟨46, _⟩ => ⟨S2x128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel8.lean ====
abbrev S8x128x1024 : Shape := ⟨3, ![8, 128, 1024]⟩
abbrev S1024x1024 : Shape := ⟨2, ![1024, 1024]⟩
abbrev S2x128x1024 : Shape := ⟨3, ![2, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S1024x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S8x128x1024 : Shape := ⟨3, ![8, 128, 1024]⟩
abbrev S1024x1024 : Shape := ⟨2, ![1024, 1024]⟩
abbrev S2x128x1024 : Shape := ⟨3, ![2, 128, 1024]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1024x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S1, .i32⟩
  | .hbm, ⟨10, _⟩ => ⟨S8x128x1024, .i32⟩
  | .hbm, ⟨11, _⟩ => ⟨S_, .i32⟩
  | .hbm, ⟨12, _⟩ => ⟨S8x128x1024, .i32⟩
  | .hbm, ⟨13, _⟩ => ⟨S8x128x1024, .i1⟩
  | .hbm, ⟨14, _⟩ => ⟨S8x128x1024, .bf16⟩
  | .hbm, ⟨15, _⟩ => ⟨S8x128x1024, .bf16⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S2x128x1024, .i32⟩
  | .hbm, ⟨20, _⟩ => ⟨S_, .i32⟩
  | .hbm, ⟨21, _⟩ => ⟨S2x128x1024, .i32⟩
  | .hbm, ⟨22, _⟩ => ⟨S2x128x1024, .i1⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S1x128x1024, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S1x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S_, .f32⟩
  | .hbm, ⟨46, _⟩ => ⟨S2x128x1024, .f32⟩
  | .hbm, ⟨47, _⟩ => ⟨S2x128x1024, .f32⟩
  | .hbm, ⟨48, _⟩ => ⟨S2x128x1024, .f32⟩
  | .hbm, ⟨49, _⟩ => ⟨S_, .f32⟩
  | .hbm, ⟨50, _⟩ => ⟨S2x128x1024, .f32⟩
  | .hbm, ⟨51, _⟩ => ⟨S2x128x1024, .f32⟩
  | .hbm, ⟨52, _⟩ => ⟨S2x128x1024, .f32⟩
  | .hbm, ⟨53, _⟩ => ⟨S_, .f32⟩
  | .hbm, ⟨54, _⟩ => ⟨S2x128x1024, .f32⟩
  | .hbm, ⟨55, _⟩ => ⟨S2x128x1024, .f32⟩
  | .hbm, ⟨56, _⟩ => ⟨S2x128x1024, .f32⟩
  | .hbm, ⟨57, _⟩ => ⟨S_, .f32⟩
  | .hbm, ⟨58, _⟩ => ⟨S2x128x1024, .f32⟩
  | .hbm, ⟨59, _⟩ => ⟨S2x128x1024, .f32⟩
  | .hbm, ⟨60, _⟩ => ⟨S2x128x1024, .f32⟩
  | .hbm, ⟨61, _⟩ => ⟨S2x128x1024, .f32⟩
  | .hbm, ⟨62, _⟩ => ⟨S2x128x1024, .f32⟩
  | .hbm, ⟨63, _⟩ => ⟨S2x128x1024, .f32⟩
  | .hbm, ⟨64, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel9.lean ====
abbrev S8x128x1024 : Shape := ⟨3, ![8, 128, 1024]⟩
abbrev S1024x1024 : Shape := ⟨2, ![1024, 1024]⟩
abbrev S4x128x1024 : Shape := ⟨3, ![4, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 13
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S1024x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .local _ .vmem, ⟨0, _⟩ => ⟨S8x128x1024, .bf16⟩
  | .local _ .vmem, ⟨1, _⟩ => ⟨S128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S8x128x1024 : Shape := ⟨3, ![8, 128, 1024]⟩
abbrev S1024x1024 : Shape := ⟨2, ![1024, 1024]⟩
abbrev S4x128x1024 : Shape := ⟨3, ![4, 128, 1024]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1024x1024, .bf16⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S1, .i32⟩
  | .hbm, ⟨10, _⟩ => ⟨S8x128x1024, .i32⟩
  | .hbm, ⟨11, _⟩ => ⟨S_, .i32⟩
  | .hbm, ⟨12, _⟩ => ⟨S8x128x1024, .i32⟩
  | .hbm, ⟨13, _⟩ => ⟨S8x128x1024, .i1⟩
  | .hbm, ⟨14, _⟩ => ⟨S8x128x1024, .bf16⟩
  | .hbm, ⟨15, _⟩ => ⟨S8x128x1024, .bf16⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S4x128x1024, .i32⟩
  | .hbm, ⟨20, _⟩ => ⟨S_, .i32⟩
  | .hbm, ⟨21, _⟩ => ⟨S4x128x1024, .i32⟩
  | .hbm, ⟨22, _⟩ => ⟨S4x128x1024, .i1⟩
  | .hbm, ⟨23, _⟩ => ⟨S_, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S1x128x1024, .f32⟩
  | .hbm, ⟨30, _⟩ => ⟨S4x128x1024, .f32⟩
  | .hbm, ⟨31, _⟩ => ⟨S4x128x1024, .f32⟩
  | .hbm, ⟨32, _⟩ => ⟨S_, .f32⟩
  | .hbm, ⟨33, _⟩ => ⟨S4x128x1024, .f32⟩
  | .hbm, ⟨34, _⟩ => ⟨S4x128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S1x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S_, .f32⟩
  | .hbm, ⟨46, _⟩ => ⟨S4x128x1024, .f32⟩
  | .hbm, ⟨47, _⟩ => ⟨S4x128x1024, .f32⟩
  | .hbm, ⟨48, _⟩ => ⟨S4x128x1024, .f32⟩
  | .hbm, ⟨49, _⟩ => ⟨S_, .f32⟩
  | .hbm, ⟨50, _⟩ => ⟨S4x128x1024, .f32⟩
  | .hbm, ⟨51, _⟩ => ⟨S4x128x1024, .f32⟩
  | .hbm, ⟨52, _⟩ => ⟨S4x128x1024, .f32⟩
  | .hbm, ⟨53, _⟩ => ⟨S_, .f32⟩
  | .hbm, ⟨54, _⟩ => ⟨S4x128x1024, .f32⟩
  | .hbm, ⟨55, _⟩ => ⟨S4x128x1024, .f32⟩
  | .hbm, ⟨56, _⟩ => ⟨S4x128x1024, .f32⟩
  | .hbm, ⟨57, _⟩ => ⟨S_, .f32⟩
  | .hbm, ⟨58, _⟩ => ⟨S4x128x1024, .f32⟩
  | .hbm, ⟨59, _⟩ => ⟨S4x128x1024, .f32⟩
  | .hbm, ⟨60, _⟩ => ⟨S4x128x1024, .f32⟩
  | .hbm, ⟨61, _⟩ => ⟨S4x128x1024, .f32⟩
  | .hbm, ⟨62, _⟩ => ⟨S4x128x1024, .f32⟩
  | .hbm, ⟨63, _⟩ => ⟨S4x128x1024, .f32⟩
  | .hbm, ⟨64, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel10.lean ====
abbrev S8x256x128 : Shape := ⟨3, ![8, 256, 128]⟩
abbrev S256x1024 : Shape := ⟨2, ![256, 1024]⟩
abbrev S4x256x128 : Shape := ⟨3, ![4, 256, 128]⟩
abbrev S1 : Shape := ⟨1, ![1]⟩
abbrev S256x128 : Shape := ⟨2, ![256, 128]⟩
abbrev S1x256x128 : Shape := ⟨3, ![1, 256, 128]⟩

abbrev nBuf : Space → Nat
  | .hbm => 13
  | .vmem => 9
  | .smem => 1
  | _ => 0

abbrev bufTy : (tb : Table) → Fin (tcTables nBuf tb) → BufTy
  | .hbm, ⟨0, _⟩ => ⟨S8x256x128, .bf16⟩
  | .hbm, ⟨1, _⟩ => ⟨S256x1024, .bf16⟩
  | .hbm, ⟨2, _⟩ => ⟨S4x256x128, .f32⟩
  | .hbm, ⟨3, _⟩ => ⟨S4x256x128, .f32⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S4x256x128, .f32⟩
  | .hbm, ⟨8, _⟩ => ⟨S4x256x128, .f32⟩
  | .hbm, ⟨9, _⟩ => ⟨S4x256x128, .f32⟩
  | .hbm, ⟨10, _⟩ => ⟨S4x256x128, .f32⟩
  | .hbm, ⟨11, _⟩ => ⟨S4x256x128, .f32⟩
  | .hbm, ⟨12, _⟩ => ⟨S4x256x128, .f32⟩
  | .local _ .vmem, ⟨0, _⟩ => ⟨S8x256x128, .bf16⟩
  | .local _ .vmem, ⟨1, _⟩ => ⟨S256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .smem, ⟨0, _⟩ => ⟨S1, .i32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference10Ideal.lean ====
abbrev S8x256x128 : Shape := ⟨3, ![8, 256, 128]⟩
abbrev S256x1024 : Shape := ⟨2, ![256, 1024]⟩
abbrev S4x256x128 : Shape := ⟨3, ![4, 256, 128]⟩
abbrev S1 : Shape := ⟨1, ![1]⟩
abbrev S_ : Shape := ⟨0, ![]⟩
abbrev S256x8x128 : Shape := ⟨3, ![256, 8, 128]⟩
abbrev S256x128 : Shape := ⟨2, ![256, 128]⟩
abbrev S1x256x128 : Shape := ⟨3, ![1, 256, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S256x1024, .bf16⟩
  | .hbm, ⟨2, _⟩ => ⟨S4x256x128, .f32⟩
  | .hbm, ⟨3, _⟩ => ⟨S4x256x128, .f32⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S4x256x128, .f32⟩
  | .hbm, ⟨8, _⟩ => ⟨S4x256x128, .f32⟩
  | .hbm, ⟨9, _⟩ => ⟨S1, .i32⟩
  | .hbm, ⟨10, _⟩ => ⟨S8x256x128, .i32⟩
  | .hbm, ⟨11, _⟩ => ⟨S_, .i32⟩
  | .hbm, ⟨12, _⟩ => ⟨S8x256x128, .i32⟩
  | .hbm, ⟨13, _⟩ => ⟨S8x256x128, .i1⟩
  | .hbm, ⟨14, _⟩ => ⟨S256x8x128, .bf16⟩
  | .hbm, ⟨15, _⟩ => ⟨S8x256x128, .bf16⟩
  | .hbm, ⟨16, _⟩ => ⟨S8x256x128, .bf16⟩
  | .hbm, ⟨17, _⟩ => ⟨S8x256x128, .f32⟩
  | .hbm, ⟨18, _⟩ => ⟨S_, .f32⟩
  | .hbm, ⟨19, _⟩ => ⟨S256x128, .f32⟩
  | .hbm, ⟨20, _⟩ => ⟨S4x256x128, .i32⟩
  | .hbm, ⟨21, _⟩ => ⟨S_, .i32⟩
  | .hbm, ⟨22, _⟩ => ⟨S4x256x128, .i32⟩
  | .hbm, ⟨23, _⟩ => ⟨S4x256x128, .i1⟩
  | .hbm, ⟨24, _⟩ => ⟨S_, .f32⟩
  | .hbm, ⟨25, _⟩ => ⟨S4x256x128, .f32⟩
  | .hbm, ⟨26, _⟩ => ⟨S4x256x128, .f32⟩
  | .hbm, ⟨27, _⟩ => ⟨S_, .f32⟩
  | .hbm, ⟨28, _⟩ => ⟨S256x128, .f32⟩
  | .hbm, ⟨29, _⟩ => ⟨S256x128, .f32⟩
  | .hbm, ⟨30, _⟩ => ⟨S1x256x128, .f32⟩
  | .hbm, ⟨31, _⟩ => ⟨S4x256x128, .f32⟩
  | .hbm, ⟨32, _⟩ => ⟨S4x256x128, .f32⟩
  | .hbm, ⟨33, _⟩ => ⟨S_, .f32⟩
  | .hbm, ⟨34, _⟩ => ⟨S4x256x128, .f32⟩
  | .hbm, ⟨35, _⟩ => ⟨S4x256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | .hbm, ⟨40, _⟩ => ⟨S1x256x128, .f32⟩
  | .hbm, ⟨41, _⟩ => ⟨S4x256x128, .f32⟩
  | .hbm, ⟨42, _⟩ => ⟨S4x256x128, .f32⟩
  | .hbm, ⟨43, _⟩ => ⟨S_, .f32⟩
  | .hbm, ⟨44, _⟩ => ⟨S4x256x128, .f32⟩
  | .hbm, ⟨45, _⟩ => ⟨S4x256x128, .f32⟩
  | .hbm, ⟨46, _⟩ => ⟨S_, .f32⟩
  | .hbm, ⟨47, _⟩ => ⟨S4x256x128, .f32⟩
  | .hbm, ⟨48, _⟩ => ⟨S4x256x128, .f32⟩
  | .hbm, ⟨49, _⟩ => ⟨S4x256x128, .f32⟩
  | .hbm, ⟨50, _⟩ => ⟨S_, .f32⟩
  | .hbm, ⟨51, _⟩ => ⟨S4x256x128, .f32⟩
  | .hbm, ⟨52, _⟩ => ⟨S4x256x128, .f32⟩
  | .hbm, ⟨53, _⟩ => ⟨S4x256x128, .f32⟩
  | .hbm, ⟨54, _⟩ => ⟨S_, .f32⟩
  | .hbm, ⟨55, _⟩ => ⟨S4x256x128, .f32⟩
  | .hbm, ⟨56, _⟩ => ⟨S4x256x128, .f32⟩
  | .hbm, ⟨57, _⟩ => ⟨S4x256x128, .f32⟩
  | .hbm, ⟨58, _⟩ => ⟨S_, .f32⟩
  | .hbm, ⟨59, _⟩ => ⟨S4x256x128, .f32⟩
  | .hbm, ⟨60, _⟩ => ⟨S4x256x128, .f32⟩
  | .hbm, ⟨61, _⟩ => ⟨S4x256x128, .f32⟩
  | .hbm, ⟨62, _⟩ => ⟨S4x256x128, .f32⟩
  | .hbm, ⟨63, _⟩ => ⟨S4x256x128, .f32⟩
  | .hbm, ⟨64, _⟩ => ⟨S4x256x128, .f32⟩
  | .hbm, ⟨65, _⟩ => ⟨S4x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel11.lean ====
abbrev S8x512x1024 : Shape := ⟨3, ![8, 512, 1024]⟩
abbrev S4096x1024 : Shape := ⟨2, ![4096, 1024]⟩
abbrev S4x512x1024 : Shape := ⟨3, ![4, 512, 1024]⟩
abbrev S1 : Shape := ⟨1, ![1]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 13
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S4096x1024, .bf16⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S4x512x1024, .f32⟩
  | .hbm, ⟨12, _⟩ => ⟨S4x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S8x512x1024 : Shape := ⟨3, ![8, 512, 1024]⟩
abbrev S4096x1024 : Shape := ⟨2, ![4096, 1024]⟩
abbrev S4x512x1024 : Shape := ⟨3, ![4, 512, 1024]⟩
abbrev S1 : Shape := ⟨1, ![1]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S4096x1024, .bf16⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S1, .i32⟩
  | .hbm, ⟨10, _⟩ => ⟨S8x512x1024, .i32⟩
  | .hbm, ⟨11, _⟩ => ⟨S_, .i32⟩
  | .hbm, ⟨12, _⟩ => ⟨S8x512x1024, .i32⟩
  | .hbm, ⟨13, _⟩ => ⟨S8x512x1024, .i1⟩
  | .hbm, ⟨14, _⟩ => ⟨S8x512x1024, .bf16⟩
  | .hbm, ⟨15, _⟩ => ⟨S8x512x1024, .bf16⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S4x512x1024, .i32⟩
  | .hbm, ⟨20, _⟩ => ⟨S_, .i32⟩
  | .hbm, ⟨21, _⟩ => ⟨S4x512x1024, .i32⟩
  | .hbm, ⟨22, _⟩ => ⟨S4x512x1024, .i1⟩
  | .hbm, ⟨23, _⟩ => ⟨S_, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S1x512x1024, .f32⟩
  | .hbm, ⟨30, _⟩ => ⟨S4x512x1024, .f32⟩
  | .hbm, ⟨31, _⟩ => ⟨S4x512x1024, .f32⟩
  | .hbm, ⟨32, _⟩ => ⟨S_, .f32⟩
  | .hbm, ⟨33, _⟩ => ⟨S4x512x1024, .f32⟩
  | .hbm, ⟨34, _⟩ => ⟨S4x512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | .hbm, ⟨39, _⟩ => ⟨S1x512x1024, .f32⟩
  | .hbm, ⟨40, _⟩ => ⟨S4x512x1024, .f32⟩
  | .hbm, ⟨41, _⟩ => ⟨S4x512x1024, .f32⟩
  | .hbm, ⟨42, _⟩ => ⟨S_, .f32⟩
  | .hbm, ⟨43, _⟩ => ⟨S4x512x1024, .f32⟩
  | .hbm, ⟨44, _⟩ => ⟨S4x512x1024, .f32⟩
  | .hbm, ⟨45, _⟩ => ⟨S_, .f32⟩
  | .hbm, ⟨46, _⟩ => ⟨S4x512x1024, .f32⟩
  | .hbm, ⟨47, _⟩ => ⟨S4x512x1024, .f32⟩
  | .hbm, ⟨48, _⟩ => ⟨S4x512x1024, .f32⟩
  | .hbm, ⟨49, _⟩ => ⟨S_, .f32⟩
  | .hbm, ⟨50, _⟩ => ⟨S4x512x1024, .f32⟩
  | .hbm, ⟨51, _⟩ => ⟨S4x512x1024, .f32⟩
  | .hbm, ⟨52, _⟩ => ⟨S4x512x1024, .f32⟩
  | .hbm, ⟨53, _⟩ => ⟨S_, .f32⟩
  | .hbm, ⟨54, _⟩ => ⟨S4x512x1024, .f32⟩
  | .hbm, ⟨55, _⟩ => ⟨S4x512x1024, .f32⟩
  | .hbm, ⟨56, _⟩ => ⟨S4x512x1024, .f32⟩
  | .hbm, ⟨57, _⟩ => ⟨S_, .f32⟩
  | .hbm, ⟨58, _⟩ => ⟨S4x512x1024, .f32⟩
  | .hbm, ⟨59, _⟩ => ⟨S4x512x1024, .f32⟩
  | .hbm, ⟨60, _⟩ => ⟨S4x512x1024, .f32⟩
  | .hbm, ⟨61, _⟩ => ⟨S4x512x1024, .f32⟩
  | .hbm, ⟨62, _⟩ => ⟨S4x512x1024, .f32⟩
  | .hbm, ⟨63, _⟩ => ⟨S4x512x1024, .f32⟩
  | .hbm, ⟨64, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel12.lean ====
abbrev S8x1024x512 : Shape := ⟨3, ![8, 1024, 512]⟩
abbrev S1024x4096 : Shape := ⟨2, ![1024, 4096]⟩
abbrev S4x1024x512 : Shape := ⟨3, ![4, 1024, 512]⟩
abbrev S1 : Shape := ⟨1, ![1]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 13
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S1024x4096, .bf16⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .bf16⟩
  | .local _ .vmem, ⟨3, _⟩ => ⟨S256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S8x1024x512 : Shape := ⟨3, ![8, 1024, 512]⟩
abbrev S1024x4096 : Shape := ⟨2, ![1024, 4096]⟩
abbrev S4x1024x512 : Shape := ⟨3, ![4, 1024, 512]⟩
abbrev S1 : Shape := ⟨1, ![1]⟩
abbrev S_ : Shape := ⟨0, ![]⟩
abbrev S1024x8x512 : Shape := ⟨3, ![1024, 8, 512]⟩
abbrev S1024x512 : Shape := ⟨2, ![1024, 512]⟩
abbrev S1x1024x512 : Shape := ⟨3, ![1, 1024, 512]⟩

abbrev nBuf : Space → Nat
  | .hbm => 66
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x4096, .bf16⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S1, .i32⟩
  | .hbm, ⟨10, _⟩ => ⟨S8x1024x512, .i32⟩
  | .hbm, ⟨11, _⟩ => ⟨S_, .i32⟩
  | .hbm, ⟨12, _⟩ => ⟨S8x1024x512, .i32⟩
  | .hbm, ⟨13, _⟩ => ⟨S8x1024x512, .i1⟩
  | .hbm, ⟨14, _⟩ => ⟨S1024x8x512, .bf16⟩
  | .hbm, ⟨15, _⟩ => ⟨S8x1024x512, .bf16⟩
  | .hbm, ⟨16, _⟩ => ⟨S8x1024x512, .bf16⟩
  | .hbm, ⟨17, _⟩ => ⟨S8x1024x512, .f32⟩
  | .hbm, ⟨18, _⟩ => ⟨S_, .f32⟩
  | .hbm, ⟨19, _⟩ => ⟨S1024x512, .f32⟩
  | .hbm, ⟨20, _⟩ => ⟨S4x1024x512, .i32⟩
  | .hbm, ⟨21, _⟩ => ⟨S_, .i32⟩
  | .hbm, ⟨22, _⟩ => ⟨S4x1024x512, .i32⟩
  | .hbm, ⟨23, _⟩ => ⟨S4x1024x512, .i1⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1x1024x512, .f32⟩
  | .hbm, ⟨31, _⟩ => ⟨S4x1024x512, .f32⟩
  | .hbm, ⟨32, _⟩ => ⟨S4x1024x512, .f32⟩
  | .hbm, ⟨33, _⟩ => ⟨S_, .f32⟩
  | .hbm, ⟨34, _⟩ => ⟨S4x1024x512, .f32⟩
  | .hbm, ⟨35, _⟩ => ⟨S4x1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1x1024x512, .f32⟩
  | .hbm, ⟨41, _⟩ => ⟨S4x1024x512, .f32⟩
  | .hbm, ⟨42, _⟩ => ⟨S4x1024x512, .f32⟩
  | .hbm, ⟨43, _⟩ => ⟨S_, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | .hbm, ⟨57, _⟩ => ⟨S4x1024x512, .f32⟩
  | .hbm, ⟨58, _⟩ => ⟨S_, .f32⟩
  | .hbm, ⟨59, _⟩ => ⟨S4x1024x512, .f32⟩
  | .hbm, ⟨60, _⟩ => ⟨S4x1024x512, .f32⟩
  | .hbm, ⟨61, _⟩ => ⟨S4x1024x512, .f32⟩
  | .hbm, ⟨62, _⟩ => ⟨S4x1024x512, .f32⟩
  | .hbm, ⟨63, _⟩ => ⟨S4x1024x512, .f32⟩
  | .hbm, ⟨64, _⟩ => ⟨S4x1024x512, .f32⟩
  | .hbm, ⟨65, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.Products.lean ====
/-
  Hand-written, untrusted. MATRIX PRODUCTS OVER THE EXTENDED REALS, as functions of whole arrays: `nn a b` is `a b`, `nt a b` is
  `a bᵀ`, `tn a b` is `aᵀ b`. A kernel's product with a zero accumulator is one of them, whatever the tile's extents, and a tile of
  a product is the product of a strip of rows with a strip of columns.
-/
module

public import Idealize.ShloMosaic.PureOps.Ideal.Laws
public import Idealize.ShloMosaic.Lib.ValueIdx
public import Idealize.ShloMosaic.Lib.MatmulPlain

@[expose] public section

noncomputable section

namespace Cert.Products

open Idealize.ShloMosaic Idealize.ShloMosaic.ValueIdx
open scoped BigOperators

/-- The shape of an `M × N` array. -/
abbrev Sh (M N : ℕ) : Shape := ⟨2, ![M, N]⟩
/-- An `M × N` array of extended reals. -/
abbrev Mat (M N : ℕ) : Type := (Sh M N).Idx → EReal

/-- The row of an index, and its column. -/
def row {M N : ℕ} (i : (Sh M N).Idx) : Fin M := ⟨(i 0).val, (i 0).isLt⟩
def col {M N : ℕ} (i : (Sh M N).Idx) : Fin N := ⟨(i 1).val, (i 1).isLt⟩

theorem eq_ix2 {M N : ℕ} (i : (Sh M N).Idx) : i = ix2 (row i) (col i) := by
  funext a; apply Fin.ext
  match a with
  | ⟨0, _⟩ => rfl
  | ⟨1, _⟩ => rfl

variable {M K N : ℕ}

/-- `a b`. -/
def nn (a : Mat M K) (b : Mat K N) : Mat M N := fun i => ∑ k : Fin K, a (ix2 (row i) k) * b (ix2 k (col i))
/-- `a bᵀ`. -/
def nt (a : Mat M K) (b : Mat N K) : Mat M N := fun i => ∑ k : Fin K, a (ix2 (row i) k) * b (ix2 (col i) k)
/-- `aᵀ b`. -/
def tn (a : Mat K M) (b : Mat K N) : Mat M N := fun i => ∑ k : Fin K, a (ix2 k (row i)) * b (ix2 k (col i))

/-- `[K,M]ᵀ × [K,N]`, well formed. -/
def tnDims (M K N : ℕ) : DotDims (Sh K M) (Sh K N) (Sh M N) where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

/-- One contracted coordinate. -/
def tnContr (M K N : ℕ) : (tnDims M K N).contr.Idx ≃ Fin K := contrEquiv1 _ K rfl rfl

/-- A product with a zero accumulator. -/
theorem matmul_nn {φ₁ φ₂ : FTy} (prec : Option ContractPrecision) (a : FVec Ideal (Sh M K) φ₁) (b : FVec Ideal (Sh K N) φ₂) :
    (FloatOps.matmul (DotDims.plain M K N) prec a b (constant (Sh M N) .f32 0x00000000#32) : Mat M N) = nn a b := by
  funext i
  rw [eq_ix2 i, Ideal.matmul_plain_apply, constant_apply, Ideal.ofBits_zero_f32, zero_add]
  rfl

/-- The same with the second operand transposed. -/
theorem matmul_nt {φ₁ φ₂ : FTy} (prec : Option ContractPrecision) (a : FVec Ideal (Sh M K) φ₁) (b : FVec Ideal (Sh N K) φ₂) :
    (FloatOps.matmul (DotDims.transposedRhs M K N) prec a b (constant (Sh M N) .f32 0x00000000#32) : Mat M N) = nt a b := by
  funext i
  rw [eq_ix2 i, Ideal.matmul_transposedRhs_apply, constant_apply, Ideal.ofBits_zero_f32, zero_add]
  rfl

/-- The same with the first operand transposed. -/
theorem matmul_tn {φ₁ φ₂ : FTy} (prec : Option ContractPrecision) (a : FVec Ideal (Sh K M) φ₁) (b : FVec Ideal (Sh K N) φ₂) :
    (FloatOps.matmul (tnDims M K N) prec a b (constant (Sh M N) .f32 0x00000000#32) : Mat M N) = tn a b := by
  funext i
  rw [Ideal.matmul_apply, constant_apply, Ideal.ofBits_zero_f32, zero_add, ← Equiv.sum_comp (tnContr M K N).symm]
  refine Finset.sum_congr rfl fun k _ => ?_
  have hk := contrEquiv1_symm_val (tnDims M K N) K rfl rfl k
  have el : (tnDims M K N).lhsIdx i ((tnContr M K N).symm k) = ix2 k (row i) := by
    funext a; apply Fin.ext
    match a with
    | ⟨0, _⟩ => exact hk
    | ⟨1, _⟩ => rfl
  have er : (tnDims M K N).rhsIdx i ((tnContr M K N).symm k) = ix2 k (col i) := by
    funext a; apply Fin.ext
    match a with
    | ⟨0, _⟩ => exact hk
    | ⟨1, _⟩ => rfl
  rw [el, er]

/-! A tile of a product: `A` and `B` are the whole operands, read by the tile through the placements `p` and `q` of a strip of
rows at `r` and a strip of columns at `s`; `o` places the tile. -/

variable {m n : ℕ}

/-- `p` puts an index at offset `r` along axis 0 and at `s` along axis 1. -/
def Placed {M N m n : ℕ} (p : (Sh m n).Idx → (Sh M N).Idx) (r s : ℕ) : Prop :=
  ∀ j, (p j 0).val = r + (j 0).val ∧ (p j 1).val = s + (j 1).val

theorem Placed.at {p : (Sh m n).Idx → (Sh M N).Idx} {r s : ℕ} (hp : Placed p r s) (j : (Sh m n).Idx) (i : (Sh M N).Idx)
    (h0 : (i 0).val = r + (j 0).val) (h1 : (i 1).val = s + (j 1).val) : p j = i := by
  funext a; apply Fin.ext
  match a with
  | ⟨0, _⟩ => exact (hp j).1.trans h0.symm
  | ⟨1, _⟩ => exact (hp j).2.trans h1.symm

theorem Placed.eq {p o : (Sh m n).Idx → (Sh M N).Idx} {r s : ℕ} (hp : Placed p r s) (ho : Placed o r s) : p = o :=
  funext fun j => hp.at j _ (ho j).1 (ho j).2

theorem nn_tile (A : Mat M K) (B : Mat K N) {p : (Sh m K).Idx → (Sh M K).Idx} {q : (Sh K n).Idx → (Sh K N).Idx}
    {o : (Sh m n).Idx → (Sh M N).Idx} {r s : ℕ} (hp : Placed p r 0) (hq : Placed q 0 s) (ho : Placed o r s) (j : (Sh m n).Idx) :
    nn (fun x => A (p x)) (fun x => B (q x)) j = nn A B (o j) :=
  Finset.sum_congr rfl fun k _ => by
    beta_reduce
    rw [hp.at (ix2 (row j) k) (ix2 (row (o j)) k) (ho j).1 (Nat.zero_add _).symm,
      hq.at (ix2 k (col j)) (ix2 k (col (o j))) (Nat.zero_add _).symm (ho j).2]

theorem nt_tile (A : Mat M K) (B : Mat N K) {p : (Sh m K).Idx → (Sh M K).Idx} {q : (Sh n K).Idx → (Sh N K).Idx}
    {o : (Sh m n).Idx → (Sh M N).Idx} {r s : ℕ} (hp : Placed p r 0) (hq : Placed q s 0) (ho : Placed o r s) (j : (Sh m n).Idx) :
    nt (fun x => A (p x)) (fun x => B (q x)) j = nt A B (o j) :=
  Finset.sum_congr rfl fun k _ => by
    beta_reduce
    rw [hp.at (ix2 (row j) k) (ix2 (row (o j)) k) (ho j).1 (Nat.zero_add _).symm,
      hq.at (ix2 (col j) k) (ix2 (col (o j)) k) (ho j).2 (Nat.zero_add _).symm]

theorem tn_tile (A : Mat K M) (B : Mat K N) {p : (Sh K m).Idx → (Sh K M).Idx} {q : (Sh K n).Idx → (Sh K N).Idx}
    {o : (Sh m n).Idx → (Sh M N).Idx} {r s : ℕ} (hp : Placed p 0 r) (hq : Placed q 0 s) (ho : Placed o r s) (j : (Sh m n).Idx) :
    tn (fun x => A (p x)) (fun x => B (q x)) j = tn A B (o j) :=
  Finset.sum_congr rfl fun k _ => by
    beta_reduce
    rw [hp.at (ix2 k (row j)) (ix2 k (row (o j))) (Nat.zero_add _).symm (ho j).1,
      hq.at (ix2 k (col j)) (ix2 k (col (o j))) (Nat.zero_add _).symm (ho j).2]

end Cert.Products

end
-- ==== Proof.Norm.lean ====
/-
  Hand-written, untrusted. THE NORM OF A ROW over the extended reals, as a function of whole arrays: a residual sum, the mean of each
  row, the centred rows, and the scaled rows plus a bias. The kernel's norm of a tile of whole rows is this function of the tile, and
  the function of a strip of rows is the strip of the function.
-/
module

public import proofs.«01_k».proof.Proof.Products
public import Idealize.ShloMosaic.Lib.Pipeline.Value
public import Idealize.ShloMosaic.Lib.ValueLayoutCasts

@[expose] public section

noncomputable section

namespace Cert.Norm

open Idealize.ShloMosaic Idealize.ShloMosaic.ValueIdx Cert.Products
open scoped BigOperators

/-- The residual's scale, the rows' width and the small constant under the root, as the programs write them. -/
abbrev alpha : EReal := Ideal.ofBits .f32 0x3FD744FD#32
abbrev width : EReal := Ideal.ofBits .f32 0x44800000#32
abbrev eps : EReal := Ideal.ofBits .f32 0x3727C5AC#32

variable {M N : ℕ}

/-- `alpha x + y`. -/
def resid (x y : Mat M N) : Mat M N := fun i => alpha * x i + y i
/-- The mean of a row. -/
def mean (z : Mat M N) (p : Fin M) : EReal := Ideal.div (∑ k : Fin N, z (ix2 p k)) width
/-- The rows less their means. -/
def cent (z : Mat M N) : Mat M N := fun i => z i - mean z (row i)
/-- One over the root of a row's mean square. -/
def rstd (z : Mat M N) (p : Fin M) : EReal := Ideal.rsqrt (mean (fun i => cent z i * cent z i) p + eps)
/-- The norm. -/
def ln (z : Mat M N) (g b : Mat 1 N) : Mat M N := fun i =>
  cent z i * rstd z (row i) * g (ix2 0 (col i)) + b (ix2 0 (col i))

/-! ## A strip of rows -/

section Strip

variable {m : ℕ} {r : ℕ} {p : (Sh m N).Idx → (Sh M N).Idx} (z : Mat M N)

theorem mean_tile (hp : Placed p r 0) (j : (Sh m N).Idx) : mean (fun x => z (p x)) (row j) = mean z (row (p j)) :=
  congrArg (Ideal.div · width) (Finset.sum_congr rfl fun k _ =>
    congrArg z (hp.at (ix2 (row j) k) (ix2 (row (p j)) k) (hp j).1 (Nat.zero_add _).symm))

theorem cent_tile (hp : Placed p r 0) : cent (fun x => z (p x)) = fun x => cent z (p x) := by
  funext j; unfold cent; rw [mean_tile z hp]

theorem ln_tile (g b : Mat 1 N) {q q' : (Sh 1 N).Idx → (Sh 1 N).Idx} (hp : Placed p r 0) (hq : Placed q 0 0)
    (hq' : Placed q' 0 0) (j : (Sh m N).Idx) :
    ln (fun x => z (p x)) (fun x => g (q x)) (fun x => b (q' x)) j = ln z g b (p j) := by
  have hc : col j = col (p j) := Fin.ext (((hp j).2.trans (Nat.zero_add _)).symm)
  unfold ln rstd
  rw [cent_tile z hp, mean_tile (fun i => cent z i * cent z i) hp, hc]
  beta_reduce
  rw [
    hq.at (ix2 0 (col (p j))) (ix2 0 (col (p j))) (Nat.zero_add _).symm (Nat.zero_add _).symm,
    hq'.at (ix2 0 (col (p j))) (ix2 0 (col (p j))) (Nat.zero_add _).symm (Nat.zero_add _).symm]

end Strip

/-! ## The kernel's operations -/

/-- A row's mean, as a column. -/
theorem mean_column (z : FVec Ideal (Sh M N) .f32) (h : (Sh M N).Reduces [1] ⟨1, ![M]⟩) (hc : (⟨1, ![M]⟩ : Shape).ShapeCasts (Sh M 1))
    (hφ : FKind.Formats .f32) (ha : (0x00000000#32 : BitVec 32) = FKind.add.neutral .f32 hφ) :
    (divf (shapeCast (Sh M 1) (multiReduction (F := Ideal) (φ := .f32) .add [1] ⟨1, ![M]⟩ z 0x00000000#32 h hφ ha) hc)
      (broadcast (Sh M 1) (Scalar.ofBits (F := Ideal) .f32 0x44800000#32)) : Mat M 1) = fun i => mean z (row i) := by
  funext i
  rw [Products.eq_ix2 i]
  show Ideal.div (shapeCast (Sh M 1) _ hc (ix2 (row i) (col i))) width = _
  rw [shapeCast_a_a1_apply, Ideal.multiReduction_add_single]
  refine congrArg (Ideal.div · width) (Finset.sum_congr rfl fun k _ => congrArg z ?_)
  funext a; apply Fin.ext
  match a with
  | ⟨0, _⟩ => rfl
  | ⟨1, _⟩ => rfl

/-- A column, copied along the rows. -/
theorem column_row (x : Mat M 1) (h : (Sh M 1).Broadcasts (Sh M N)) :
    broadcastTo (Sh M N) x h = fun i => x (ix2 (row i) 0) := by
  funext i
  refine broadcastTo_apply x h i (ix2 (row i) 0) fun ax => ?_
  match ax with
  | ⟨0, _⟩ =>
    show (row i).val = if M = 1 then 0 else _
    split
    · have := (row i).isLt; omega
    · rfl
  | ⟨1, _⟩ => rfl

/-- A row, copied down the columns. -/
theorem row_column (x : Mat 1 N) (h : (Sh 1 N).Broadcasts (Sh M N)) :
    broadcastTo (Sh M N) x h = fun i => x (ix2 0 (col i)) := by
  funext i
  rw [Products.eq_ix2 i]
  exact broadcastTo_1b_ab_apply x h (row i) (col i)

/-- The kernel's norm. -/
theorem ln_kernel (z : FVec Ideal (Sh M N) .f32) (g b : FVec Ideal (Sh 1 N) .f32) (h : (Sh M N).Reduces [1] ⟨1, ![M]⟩)
    (hc : (⟨1, ![M]⟩ : Shape).ShapeCasts (Sh M 1)) (hφ : FKind.Formats .f32)
    (ha : (0x00000000#32 : BitVec 32) = FKind.add.neutral .f32 hφ) (hb : (Sh M 1).Broadcasts (Sh M N))
    (hr : (Sh 1 N).Broadcasts (Sh M N)) :
    (addf (mulf (mulf
        (subf z (broadcastTo (Sh M N) (divf (shapeCast (Sh M 1) (multiReduction (F := Ideal) (φ := .f32) .add [1] ⟨1, ![M]⟩ z
          0x00000000#32 h hφ ha) hc) (broadcast (Sh M 1) (Scalar.ofBits (F := Ideal) .f32 0x44800000#32))) hb))
        (broadcastTo (Sh M N) (rsqrt (addf (divf (shapeCast (Sh M 1) (multiReduction (F := Ideal) (φ := .f32) .add [1] ⟨1, ![M]⟩
          (mulf
            (subf z (broadcastTo (Sh M N) (divf (shapeCast (Sh M 1) (multiReduction (F := Ideal) (φ := .f32) .add [1] ⟨1, ![M]⟩ z
              0x00000000#32 h hφ ha) hc) (broadcast (Sh M 1) (Scalar.ofBits (F := Ideal) .f32 0x44800000#32))) hb))
            (subf z (broadcastTo (Sh M N) (divf (shapeCast (Sh M 1) (multiReduction (F := Ideal) (φ := .f32) .add [1] ⟨1, ![M]⟩ z
              0x00000000#32 h hφ ha) hc) (broadcast (Sh M 1) (Scalar.ofBits (F := Ideal) .f32 0x44800000#32))) hb)))
          0x00000000#32 h hφ ha) hc) (broadcast (Sh M 1) (Scalar.ofBits (F := Ideal) .f32 0x44800000#32)))
          (broadcast (Sh M 1) (Scalar.ofBits (F := Ideal) .f32 0x3727C5AC#32)))) hb))
        (broadcastTo (Sh M N) g hr)) (broadcastTo (Sh M N) b hr) : Mat M N) = ln z g b := by
  have e1 := mean_column z h hc hφ ha
  rw [e1, column_row, row_column, row_column]
  have e2 : (subf (F := Ideal) (φ := .f32) z (fun i => mean z (row (ix2 (row i) (0 : Fin 1)))) : Mat M N) = cent z := rfl
  rw [e2]
  have e3 := mean_column (mulf (F := Ideal) (φ := .f32) (cent z) (cent z)) h hc hφ ha
  rw [e3, column_row]
  rfl

/-! ## The host's operations -/

/-- The axes of the host's broadcasts: a column from a vector, a column from one number, a matrix from a column or a row. -/
abbrev d0 : Fin 1 → Fin 2 := ![0]
abbrev dn : Fin 0 → Fin 2 := ![]
abbrev d01 : Fin 2 → Fin 2 := ![0, 1]

/-- A row's mean, as a column. -/
theorem mean_host (z : FVec Ideal (Sh M N) .f32) (h' : (Sh M N).ReducesTo [1] ⟨1, ![M]⟩) (h : (Sh M N).Reduces [1] ⟨1, ![M]⟩)
    (h0 : 0 < (⟨0, ![]⟩ : Shape).numel) (hc : (⟨1, ![M]⟩ : Shape).BroadcastsInDim (Sh M 1) d0)
    (hk : (⟨0, ![]⟩ : Shape).BroadcastsInDim (Sh M 1) dn) :
    (Host.divf (broadcastInDim (s := ⟨1, ![M]⟩) (Sh M 1) d0 hc (Host.reduceAdd (F := Ideal) (φ := .f32) z (constant ⟨0, ![]⟩ .f32 0x00000000#32) h' h0))
      (broadcastInDim (s := ⟨0, ![]⟩) (Sh M 1) dn hk (constant ⟨0, ![]⟩ .f32 0x44800000#32)) : Mat M 1) = fun i => mean z (row i) := by
  funext i
  show Ideal.div (broadcastInDim (s := ⟨1, ![M]⟩) (Sh M 1) d0 hc _ i) (Ideal.ofBits .f32 0x44800000#32) = _
  rw [broadcastInDim_apply d0 hc _ i (ix1 (row i)) (fun ax => by
    match ax with
    | ⟨0, _⟩ =>
      show (row i).val = if M = 1 then 0 else _
      split
      · have := (row i).isLt; omega
      · rfl)]
  refine congrArg (Ideal.div · width) ((Ideal.hostReduceAdd_single h' h z _ _).trans ?_)
  rw [show (constant (F := Ideal) ⟨0, ![]⟩ .f32 0x00000000#32 (Shape.Idx.first h0) : EReal) = 0 from Ideal.ofBits_zero_f32, zero_add]
  refine Finset.sum_congr rfl fun k _ => congrArg z ?_
  funext a; apply Fin.ext
  match a with
  | ⟨0, _⟩ => rfl
  | ⟨1, _⟩ => rfl

theorem column_row_host (x : Mat M 1) (h : (Sh M 1).BroadcastsInDim (Sh M N) d01) :
    broadcastInDim (s := Sh M 1) (Sh M N) d01 h x = fun i => x (ix2 (row i) 0) := by
  funext i
  refine broadcastInDim_apply d01 h x i (ix2 (row i) 0) fun ax => ?_
  match ax with
  | ⟨0, _⟩ =>
    show (row i).val = if M = 1 then 0 else _
    split
    · have := (row i).isLt; omega
    · rfl
  | ⟨1, _⟩ => rfl

theorem row_column_host (x : Mat 1 N) (h : (Sh 1 N).BroadcastsInDim (Sh M N) d01) :
    broadcastInDim (s := Sh 1 N) (Sh M N) d01 h x = fun i => x (ix2 0 (col i)) := by
  funext i
  refine broadcastInDim_apply d01 h x i (ix2 0 (col i)) fun ax => ?_
  match ax with
  | ⟨0, _⟩ => rfl
  | ⟨1, _⟩ =>
    show (col i).val = if N = 1 then 0 else _
    split
    · have := (col i).isLt; omega
    · rfl

/-- A vector as one row. -/
abbrev d1 : Fin 1 → Fin 2 := ![1]
def asRow (g : FVec Ideal ⟨1, ![N]⟩ .f32) : Mat 1 N := fun i => g (ix1 (col i))
theorem row_host (h : (⟨1, ![N]⟩ : Shape).BroadcastsInDim (Sh 1 N) d1) (g : FVec Ideal ⟨1, ![N]⟩ .f32) :
    broadcastInDim (s := ⟨1, ![N]⟩) (Sh 1 N) d1 h g = asRow g := by
  funext i
  refine broadcastInDim_apply d1 h g i (ix1 (col i)) fun ax => ?_
  match ax with
  | ⟨0, _⟩ =>
    show (col i).val = if N = 1 then 0 else _
    split
    · have := (col i).isLt; omega
    · rfl

/-- The reference's norm, in the rows' means as it computes them. -/
theorem ln_host (z : FVec Ideal (Sh M N) .f32) (g b : FVec Ideal (Sh 1 N) .f32) (h' : (Sh M N).ReducesTo [1] ⟨1, ![M]⟩)
    (h : (Sh M N).Reduces [1] ⟨1, ![M]⟩) (h0 : 0 < (⟨0, ![]⟩ : Shape).numel)
    (hc : (⟨1, ![M]⟩ : Shape).BroadcastsInDim (Sh M 1) d0) (hk : (⟨0, ![]⟩ : Shape).BroadcastsInDim (Sh M 1) dn)
    (hb : (Sh M 1).BroadcastsInDim (Sh M N) d01) (hr : (Sh 1 N).BroadcastsInDim (Sh M N) d01)
    (mu ms : FVec Ideal (Sh M 1) .f32)
    (hmu : mu = Host.divf (broadcastInDim (s := ⟨1, ![M]⟩) (Sh M 1) d0 hc (Host.reduceAdd (F := Ideal) (φ := .f32) z
      (constant ⟨0, ![]⟩ .f32 0x00000000#32) h' h0)) (broadcastInDim (s := ⟨0, ![]⟩) (Sh M 1) dn hk (constant ⟨0, ![]⟩ .f32 0x44800000#32)))
    (hms : ms = Host.divf (broadcastInDim (s := ⟨1, ![M]⟩) (Sh M 1) d0 hc (Host.reduceAdd (F := Ideal) (φ := .f32)
      (mulf (subf z (broadcastInDim (s := Sh M 1) (Sh M N) d01 hb mu)) (subf z (broadcastInDim (s := Sh M 1) (Sh M N) d01 hb mu)))
      (constant ⟨0, ![]⟩ .f32 0x00000000#32) h' h0)) (broadcastInDim (s := ⟨0, ![]⟩) (Sh M 1) dn hk (constant ⟨0, ![]⟩ .f32 0x44800000#32))) :
    (addf (mulf (mulf (subf z (broadcastInDim (s := Sh M 1) (Sh M N) d01 hb mu))
        (broadcastInDim (s := Sh M 1) (Sh M N) d01 hb (Host.rsqrt (addf ms
          (broadcastInDim (s := ⟨0, ![]⟩) (Sh M 1) dn hk (constant (F := Ideal) ⟨0, ![]⟩ .f32 0x3727C5AC#32))))))
        (broadcastInDim (s := Sh 1 N) (Sh M N) d01 hr g)) (broadcastInDim (s := Sh 1 N) (Sh M N) d01 hr b) : Mat M N) = ln z g b := by
  have e1 := hmu.trans (mean_host z h' h h0 hc hk)
  rw [e1, column_row_host] at hms
  have e2 : (subf (F := Ideal) (φ := .f32) z (fun i => mean z (row (ix2 (row i) (0 : Fin 1)))) : Mat M N) = cent z := rfl
  rw [e2] at hms
  have e3 := hms.trans (mean_host (mulf (F := Ideal) (φ := .f32) (cent z) (cent z)) h' h h0 hc hk)
  rw [e1, e3, column_row_host, column_row_host, row_column_host, row_column_host, e2]
  rfl

end Cert.Norm

end
-- ==== Proof.MlpCalls.lean ====
/-
  Hand-written, untrusted. WHAT EACH CALL OF THE MLP LEAVES IN ITS RESULT, as a function of the arrays it is entered with.
-/
module

public import proofs.«01_k».proof.Proof.Norm
public import proofs.«01_k».proof.Proof.Gen.KernelIdeal.Frame
public import Idealize.ShloMosaic.Lib.Pipeline.ValueKit

@[expose] public section

set_option maxRecDepth 16384

noncomputable section

namespace Cert.Proof.Mlp

open Idealize.ShloMosaic Idealize.SL.Sem Cert.KernelIdeal Cert.Products Cert.Norm
open Cert.KernelIdeal.Gen Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- Two, as the kernel writes it. -/
abbrev two : EReal := Ideal.ofBits .f32 0x40000000#32
/-- The square of the positive part, and what it makes of a gradient `d` of itself at `h`. -/
def sq {M N : ℕ} (h : Mat M N) : Mat M N := fun i => max (h i) 0 * max (h i) 0
def dsq {M N : ℕ} (d h : Mat M N) : Mat M N := fun i => d i * (two * max (h i) 0)
theorem dsq_congr {M N m n : ℕ} {d h : Mat M N} {d' h' : Mat m n} {i : (Sh M N).Idx} {j : (Sh m n).Idx} (hd : d' j = d i)
    (hh : h' j = h i) : dsq d' h' j = dsq d h i := by
  unfold dsq; rw [hd, hh]

/-- The tile of `mlp_up`'s product. -/
theorem up_tile (x y : Vec Ideal S1024x1024 .bf16) : k0_pay2 x y = nn (M := 1024) (K := 1024) (N := 1024) x y := by
  unfold k0_pay2 k0_pay1
  simp only [shapeCast_self]
  exact matmul_nn (φ₁ := .bf16) (φ₂ := .bf16) none x y

/-- Where the call's windows stand at a grid point: the rows of the first, the columns of the second. -/
theorem up_idx : ∀ t : Fin grid0.N, win0_0.index t = ![win0_2.index t 0, 0] ∧ win0_1.index t = ![0, win0_2.index t 1] := by
  decide +kernel
theorem up_a (t : Fin cfg0.N) : Placed (m := 1024) (n := 1024) (M := 4096) (N := 1024) (fun j => (win0_0.blk t).view.emb j)
    (win0_2.index t 0 * 1024) 0 := fun j => by
  constructor <;> blk_simp [(up_idx t).1] <;> simp
theorem up_b (t : Fin cfg0.N) : Placed (m := 1024) (n := 1024) (M := 1024) (N := 4096) (fun j => (win0_1.blk t).view.emb j)
    0 (win0_2.index t 1 * 1024) := fun j => by
  constructor <;> blk_simp [(up_idx t).2] <;> simp
theorem up_o (t : Fin cfg0.N) : Placed (m := 1024) (n := 1024) (M := 4096) (N := 4096) (fun j => (win0_2.blk t).view.emb j)
    (win0_2.index t 0 * 1024) (win0_2.index t 1 * 1024) := fun j => by
  constructor <;> blk_simp

/-- The array `hpre` after `mlp_up`: the product. -/
theorem hpre_final (c : Dev nD) :
    (dat0 V c).arrAt 2 cfg0.N = nn (M := 4096) (K := 1024) (N := 4096) (V c main_v0) (V c main_v2) := by
  refine (dat0 V c).arrAt_eq_of_covers 2 _ (by decide +kernel) fun t hf y => ?_
  blk_simp
  rw [after0_2]
  frame_out
  rw [up_tile]
  exact nn_tile (V c main_v0) (V c main_v2) (up_a t) (up_b t) (up_o t) y

/-- The tile of the activation: the square of the product's positive part. -/
theorem act_tile (x y : Vec Ideal S1024x1024 .bf16) :
    k0_pay3 x y = sq (nn (M := 1024) (K := 1024) (N := 1024) x y) := by
  rw [← up_tile]
  funext i
  show max (k0_pay1 x y i) (Ideal.ofBits .f32 0x00000000#32) * max (k0_pay1 x y i) (Ideal.ofBits .f32 0x00000000#32) = _
  rw [Ideal.ofBits_zero_f32]
  rfl

theorem up_o' (t : Fin cfg0.N) : Placed (m := 1024) (n := 1024) (M := 4096) (N := 4096) (fun j => (win0_3.blk t).view.emb j)
    (win0_2.index t 0 * 1024) (win0_2.index t 1 * 1024) := fun j => by
  have e : ∀ t : Fin grid0.N, win0_3.index t = win0_2.index t := by decide +kernel
  constructor <;> blk_simp [e t]

/-- The array `hact` after `mlp_up`. -/
theorem hact_final (c : Dev nD) :
    (dat0 V c).arrAt 3 cfg0.N = sq (nn (M := 4096) (K := 1024) (N := 4096) (V c main_v0) (V c main_v2)) := by
  refine (dat0 V c).arrAt_eq_of_covers 3 _ (by decide +kernel) fun t hf y => ?_
  blk_simp
  rw [after0_3]
  frame_out
  rw [act_tile]
  exact congrArg (fun x : EReal => max x 0 * max x 0) (nn_tile (V c main_v0) (V c main_v2) (up_a t) (up_b t) (up_o' t) y)

/-! ## `mlp_down_ln` -/

theorem down_idx : ∀ t : Fin grid1.N, win1_0.index t = ![win1_5.index t 0, 0] ∧ win1_1.index t = ![0, 0]
    ∧ win1_2.index t = win1_5.index t ∧ win1_3.index t = ![0, 0] ∧ win1_4.index t = ![0, 0]
    ∧ win1_6.index t = win1_5.index t ∧ win1_5.index t 1 = 0 := by
  decide +kernel
theorem down_a (t : Fin cfg1.N) : Placed (m := 512) (n := 4096) (M := 4096) (N := 4096)
    (fun j => (win1_0.blk t).view.emb j) (win1_5.index t 0 * 512) 0 := fun j => by
  constructor <;> blk_simp [(down_idx t).1] <;> simp
theorem down_b (t : Fin cfg1.N) : Placed (m := 4096) (n := 1024) (M := 4096) (N := 1024)
    (fun j => (win1_1.blk t).view.emb j) 0 0 := fun j => by
  constructor <;> blk_simp [(down_idx t).2.1] <;> simp
theorem down_x (t : Fin cfg1.N) : Placed (m := 512) (n := 1024) (M := 4096) (N := 1024)
    (fun j => (win1_2.blk t).view.emb j) (win1_5.index t 0 * 512) 0 := fun j => by
  constructor <;> blk_simp [(down_idx t).2.2.1, (down_idx t).2.2.2.2.2.2] <;> simp
theorem down_g (t : Fin cfg1.N) : Placed (m := 1) (n := 1024) (M := 1) (N := 1024)
    (fun j => (win1_3.blk t).view.emb j) 0 0 := fun j => by
  constructor <;> blk_simp [(down_idx t).2.2.2.1] <;> simp
theorem down_bias (t : Fin cfg1.N) : Placed (m := 1) (n := 1024) (M := 1) (N := 1024)
    (fun j => (win1_4.blk t).view.emb j) 0 0 := fun j => by
  constructor <;> blk_simp [(down_idx t).2.2.2.2.1] <;> simp
theorem down_z (t : Fin cfg1.N) : Placed (m := 512) (n := 1024) (M := 4096) (N := 1024)
    (fun j => (win1_5.blk t).view.emb j) (win1_5.index t 0 * 512) 0 := fun j => by
  constructor <;> blk_simp [(down_idx t).2.2.2.2.2.2] <;> simp
theorem down_y (t : Fin cfg1.N) : Placed (m := 512) (n := 1024) (M := 4096) (N := 1024)
    (fun j => (win1_6.blk t).view.emb j) (win1_5.index t 0 * 512) 0 := fun j => by
  constructor <;> blk_simp [(down_idx t).2.2.2.2.2.1, (down_idx t).2.2.2.2.2.2] <;> simp

/-- The tile's residual sum, and its norm. -/
theorem down_sum (x : Vec Ideal S512x4096 .bf16) (y : Vec Ideal S4096x1024 .bf16) (d : Vec Ideal S512x1024 .f32) :
    k1_pay2 x y d = resid d (nn (M := 512) (K := 4096) (N := 1024) x y) := by
  unfold k1_pay2
  simp only [shapeCast_self]
  funext i
  exact congrArg (alpha * d i + ·)
    (congrFun (matmul_nn (M := 512) (K := 4096) (N := 1024) (φ₁ := .bf16) (φ₂ := .bf16) none x y) i)
theorem down_norm (x : Vec Ideal S512x4096 .bf16) (y : Vec Ideal S4096x1024 .bf16) (d : Vec Ideal S512x1024 .f32)
    (g b : Vec Ideal S1x1024 .f32) :
    k1_pay3 x y d g b = ln (resid d (nn (M := 512) (K := 4096) (N := 1024) x y)) g b := by
  unfold k1_pay3
  simp only [shapeCast_self, down_sum]
  exact ln_kernel (M := 512) (N := 1024) _ g b _ _ _ _ _ _

/-- The array of the sums, as the call finds its operands. -/
abbrev down_Z (c : Dev nD) : Mat 4096 1024 := resid (V c main_arg0) (nn (M := 4096) (K := 4096) (N := 1024) (V c main_v4_1) (V c main_v3))

theorem down_strip (c : Dev nD) (t : Fin cfg1.N) (o : (Sh 512 1024).Idx → (Sh 4096 1024).Idx)
    (ho : Placed o (win1_5.index t 0 * 512) 0) :
    resid (fun j => V c main_arg0 ((win1_2.blk t).view.emb j)) (nn (M := 512) (K := 4096) (N := 1024)
      (fun j => V c main_v4_1 ((win1_0.blk t).view.emb j)) (fun j => V c main_v3 ((win1_1.blk t).view.emb j)))
      = fun j => down_Z V c (o j) :=
  funext fun j => congrArg₂ (fun p q : EReal => alpha * p + q) (congrArg (V c main_arg0) (congrFun ((down_x t).eq ho) j))
    (nn_tile (V c main_v4_1) (V c main_v3) (down_a t) (down_b t) ho j)

/-- The residual sum after `mlp_down_ln`. -/
theorem down_z_final (c : Dev nD) : (dat1 V c).arrAt 5 cfg1.N = down_Z V c := by
  refine (dat1 V c).arrAt_eq_of_covers 5 _ (by decide +kernel) fun t hf y => ?_
  blk_simp
  rw [after1_5]
  frame_out
  rw [down_sum]
  exact congrFun (down_strip V c t _ (down_z t)) y
/-- Its norm. -/
theorem down_y_final (c : Dev nD) : (dat1 V c).arrAt 6 cfg1.N = ln (down_Z V c) (V c main_v5) (V c main_v6) := by
  refine (dat1 V c).arrAt_eq_of_covers 6 _ (by decide +kernel) fun t hf y => ?_
  blk_simp
  rw [after1_6]
  frame_out
  unfold k1_pay4
  frame_out
  rw [down_norm]
  refine (congrFun (congrArg (fun z => ln z _ _) (down_strip V c t _ (down_y t))) y).trans ?_
  exact ln_tile (down_Z V c) (V c main_v5) (V c main_v6) (down_y t) (down_g t) (down_bias t) y

/-! ## `d_hpre` -/

theorem dhpre_tile (x y h : Vec Ideal S1024x1024 .bf16) :
    k2_pay1 x y h = dsq (nt (M := 1024) (K := 1024) (N := 1024) x y) h := by
  unfold k2_pay1
  simp only [shapeCast_self]
  funext i
  have e := congrFun (matmul_nt (M := 1024) (K := 1024) (N := 1024) (φ₁ := .bf16) (φ₂ := .bf16) none x y) i
  show _ * (two * max (h i) (Ideal.ofBits .f32 0x00000000#32)) = _
  rw [Ideal.ofBits_zero_f32]
  exact congrArg (· * (two * max (h i) 0)) e

theorem dhpre_idx : ∀ t : Fin grid2.N, win2_0.index t = ![win2_3.index t 0, 0] ∧ win2_1.index t = ![win2_3.index t 1, 0]
    ∧ win2_2.index t = win2_3.index t := by
  decide +kernel
theorem dhpre_a (t : Fin cfg2.N) : Placed (m := 1024) (n := 1024) (M := 4096) (N := 1024) (fun j => (win2_0.blk t).view.emb j)
    (win2_3.index t 0 * 1024) 0 := fun j => by
  constructor <;> blk_simp [(dhpre_idx t).1] <;> simp
theorem dhpre_b (t : Fin cfg2.N) : Placed (m := 1024) (n := 1024) (M := 4096) (N := 1024) (fun j => (win2_1.blk t).view.emb j)
    (win2_3.index t 1 * 1024) 0 := fun j => by
  constructor <;> blk_simp [(dhpre_idx t).2.1] <;> simp
theorem dhpre_h (t : Fin cfg2.N) : Placed (m := 1024) (n := 1024) (M := 4096) (N := 4096) (fun j => (win2_2.blk t).view.emb j)
    (win2_3.index t 0 * 1024) (win2_3.index t 1 * 1024) := fun j => by
  constructor <;> blk_simp [(dhpre_idx t).2.2]
theorem dhpre_o (t : Fin cfg2.N) : Placed (m := 1024) (n := 1024) (M := 4096) (N := 4096) (fun j => (win2_3.blk t).view.emb j)
    (win2_3.index t 0 * 1024) (win2_3.index t 1 * 1024) := fun j => by
  constructor <;> blk_simp

/-- The array `dhpre` after `d_hpre`. -/
theorem dhpre_final (c : Dev nD) :
    (dat2 V c).arrAt 3 cfg2.N = dsq (nt (M := 4096) (K := 1024) (N := 4096) (V c main_v1) (V c main_v3)) (V c main_v4_0) := by
  refine (dat2 V c).arrAt_eq_of_covers 3 _ (by decide +kernel) fun t hf y => ?_
  blk_simp
  rw [after2_3]
  frame_out
  rw [dhpre_tile]
  have e : (win2_2.blk t).view.emb y = (win2_3.blk t).view.emb y :=
    (dhpre_h t).at y _ (dhpre_o t y).1 (dhpre_o t y).2
  exact dsq_congr (nt_tile (V c main_v1) (V c main_v3) (dhpre_a t) (dhpre_b t) (dhpre_o t) y) (congrArg (V c main_v4_0) e)

/-! ## `d_mlp_w2` and `d_mlp_w1` -/

theorem dw2_tile (x : Vec Ideal S4096x1024 .bf16) (y : Vec Ideal S4096x512 .bf16) :
    k3_pay1 x y = tn (M := 1024) (K := 4096) (N := 512) x y := by
  unfold k3_pay1
  simp only [shapeCast_self]
  exact matmul_tn (M := 1024) (K := 4096) (N := 512) (φ₁ := .bf16) (φ₂ := .bf16) none x y

theorem dw2_idx : ∀ t : Fin grid3.N, win3_0.index t = ![0, win3_2.index t 0] ∧ win3_1.index t = ![0, win3_2.index t 1] := by
  decide +kernel
theorem dw2_a (t : Fin cfg3.N) : Placed (m := 4096) (n := 1024) (M := 4096) (N := 4096) (fun j => (win3_0.blk t).view.emb j)
    0 (win3_2.index t 0 * 1024) := fun j => by
  constructor <;> blk_simp [(dw2_idx t).1] <;> simp
theorem dw2_b (t : Fin cfg3.N) : Placed (m := 4096) (n := 512) (M := 4096) (N := 1024) (fun j => (win3_1.blk t).view.emb j)
    0 (win3_2.index t 1 * 512) := fun j => by
  constructor <;> blk_simp [(dw2_idx t).2] <;> simp
theorem dw2_o (t : Fin cfg3.N) : Placed (m := 1024) (n := 512) (M := 4096) (N := 1024) (fun j => (win3_2.blk t).view.emb j)
    (win3_2.index t 0 * 1024) (win3_2.index t 1 * 512) := fun j => by
  constructor <;> blk_simp

/-- The gradient of the second weight after `d_mlp_w2`. -/
theorem dw2_final (c : Dev nD) :
    (dat3 V c).arrAt 2 cfg3.N = tn (M := 4096) (K := 4096) (N := 1024) (V c main_v4_1) (V c main_v1) := by
  refine (dat3 V c).arrAt_eq_of_covers 2 _ (by decide +kernel) fun t hf y => ?_
  blk_simp
  rw [after3_2]
  frame_out
  rw [dw2_tile]
  exact tn_tile (V c main_v4_1) (V c main_v1) (dw2_a t) (dw2_b t) (dw2_o t) y

theorem dw1_idx : ∀ t : Fin grid4.N, win4_0.index t = ![0, win4_2.index t 0] ∧ win4_1.index t = ![0, win4_2.index t 1] := by
  decide +kernel
theorem dw1_a (t : Fin cfg4.N) : Placed (m := 4096) (n := 1024) (M := 4096) (N := 1024) (fun j => (win4_0.blk t).view.emb j)
    0 (win4_2.index t 0 * 1024) := fun j => by
  constructor <;> blk_simp [(dw1_idx t).1] <;> simp
theorem dw1_b (t : Fin cfg4.N) : Placed (m := 4096) (n := 512) (M := 4096) (N := 4096) (fun j => (win4_1.blk t).view.emb j)
    0 (win4_2.index t 1 * 512) := fun j => by
  constructor <;> blk_simp [(dw1_idx t).2] <;> simp
theorem dw1_o (t : Fin cfg4.N) : Placed (m := 1024) (n := 512) (M := 1024) (N := 4096) (fun j => (win4_2.blk t).view.emb j)
    (win4_2.index t 0 * 1024) (win4_2.index t 1 * 512) := fun j => by
  constructor <;> blk_simp

/-- The gradient of the first weight after `d_mlp_w1`. -/
theorem dw1_final (c : Dev nD) :
    (dat4 V c).arrAt 2 cfg4.N = tn (M := 1024) (K := 4096) (N := 4096) (V c main_v0) (V c main_v8) := by
  refine (dat4 V c).arrAt_eq_of_covers 2 _ (by decide +kernel) fun t hf y => ?_
  blk_simp
  rw [after4_2]
  frame_out
  rw [show k4_pay1 (F := Ideal) = k3_pay1 from rfl, dw2_tile]
  exact tn_tile (V c main_v0) (V c main_v8) (dw1_a t) (dw1_b t) (dw1_o t) y

end Cert.Proof.Mlp

end
-- ==== Proof.MlpRef.lean ====
/-
  Hand-written, untrusted. THE MLP'S REFERENCE: its results are the same functions of the same arrays as the kernel's. The one
  thing to see is the gradient of `max h 0 * max h 0` at an element: `jax.vjp` writes `p d + d p`, cut to zero where `h` is not
  positive, and the kernel `d (2 p)`, where `p` is `max h 0`.
-/
module

public import proofs.«01_k».proof.Proof.MlpCalls
public import proofs.«01_k».proof.Proof.Gen.ReferenceIdeal.Read

@[expose] public section

noncomputable section

namespace Cert.Proof.Mlp

open Idealize.ShloMosaic Idealize.ShloMosaic.ValueIdx Cert.Products Cert.Norm Cert.ReferenceIdeal.Read

/-- The literal 2. -/
theorem two_eq : two = 2 := by
  simp only [two, Ideal.ofBits, Ideal.ieee]
  norm_num
  exact congrArg ((↑) : ℝ → EReal) (by norm_num : (8388608 * ((2 ^ 22 : ℝ))⁻¹) = 2)

/-- Doubling, on all extended reals. -/
theorem add_self (x : EReal) : x + x = 2 * x := by
  have h2 : (2 : EReal) = ((2 : ℝ) : EReal) := rfl
  induction x with
  | bot => rw [h2, EReal.coe_mul_bot_of_pos (by norm_num)]; rfl
  | top => rw [h2, EReal.coe_mul_top_of_pos (by norm_num)]; rfl
  | coe r => rw [h2]; norm_cast; ring

/-- The gradient at one element. -/
theorem dsq_elt (h d : EReal) :
    Scalar.select (FloatOps.cmpf (F := Ideal) (φ := .f32) .ogt h 0) (max h 0 * d + d * max h 0) 0 = d * (two * max h 0) := by
  rw [two_eq, mul_comm d (max h 0), add_self, mul_comm d, mul_assoc]
  by_cases hp : 0 < h
  · simp [Scalar.select, FloatOps.cmpf, Ideal.cmp, hp]
  · simp [Scalar.select, FloatOps.cmpf, Ideal.cmp, hp, max_eq_right (not_lt.mp hp)]

variable (x : Mat 4096 1024) (w1 : Mat 1024 4096) (w2 dz : Mat 4096 1024)

theorem ref_h0 : val_main_v2 (F := Ideal) x w1 = nn x w1 := by
  funext i; rw [val_main_v2_apply]
  exact Finset.sum_congr rfl fun k _ => congrArg₂ (· * ·) (congrArg x (Products.eq_ix2 _)) (congrArg w1 (Products.eq_ix2 _))

theorem ref_relu0 : val_main_v3 (F := Ideal) x w1 = fun i => max (nn x w1 i) 0 := by
  funext i
  rw [val_main_v3_apply, ref_h0, val_main_call0_v0_apply, val_main_call0_cst_apply]
  exact congrArg (max _) Ideal.ofBits_zero_f32

theorem ref_sq0 : val_main_v4 (F := Ideal) x w1 = sq (nn x w1) := by
  funext i; rw [val_main_v4_apply, ref_relu0]; rfl

theorem ref_down : val_main_v5 (F := Ideal) x w1 w2 = nn (sq (nn x w1)) w2 := by
  funext i; rw [val_main_v5_apply, ref_sq0]
  exact Finset.sum_congr rfl fun k _ => congrArg₂ (· * ·) (congrArg (sq (nn x w1)) (Products.eq_ix2 _)) (congrArg w2 (Products.eq_ix2 _))

theorem ref_z : val_main_v6 (F := Ideal) x w1 w2 = resid x (nn (sq (nn x w1)) w2) := by
  funext i
  rw [val_main_v6_apply, ref_down, val_main_v1_apply, val_main_v0_apply, val_main_cst_apply]; rfl

theorem ref_ln (g b : FVec Ideal ⟨1, ![1024]⟩ .f32) :
    val_main_v47 (F := Ideal) x w1 w2 g b = ln (resid x (nn (sq (nn x w1)) w2)) (asRow g) (asRow b) := by
  refine (ln_host (M := 4096) (N := 1024) (val_main_v6 (F := Ideal) x w1 w2) (val_main_v42 (F := Ideal) g) (val_main_v45 (F := Ideal) b)
    _ (by decide) _ _ _ _ _ (val_main_v27 (F := Ideal) x w1 w2) (val_main_v34 (F := Ideal) x w1 w2) rfl rfl).trans ?_
  rw [ref_z, show val_main_v42 (F := Ideal) g = asRow g from row_host _ g, show val_main_v45 (F := Ideal) b = asRow b from row_host _ b]

theorem ref_h : val_main_v7 (F := Ideal) x w1 = nn x w1 := by
  funext i; rw [val_main_v7_apply]
  exact Finset.sum_congr rfl fun k _ => congrArg₂ (· * ·) (congrArg x (Products.eq_ix2 _)) (congrArg w1 (Products.eq_ix2 _))

theorem ref_relu : val_main_v8 (F := Ideal) x w1 = fun i => max (nn x w1 i) 0 := by
  funext i
  rw [val_main_v8_apply, ref_h, val_main_call1_v0_apply, val_main_call1_cst_apply]
  exact congrArg (max _) Ideal.ofBits_zero_f32

theorem ref_sq : val_main_v12 (F := Ideal) x w1 = sq (nn x w1) := by
  funext i; rw [val_main_v12_apply, ref_relu]; rfl

theorem ref_up : val_main_v16 (F := Ideal) w2 dz = nt dz w2 := by
  funext i; rw [val_main_v16_apply]
  exact Finset.sum_congr rfl fun k _ => congrArg₂ (· * ·) (congrArg dz (Products.eq_ix2 _)) (congrArg w2 (Products.eq_ix2 _))

theorem ref_dsq : val_main_v21 (F := Ideal) x w1 w2 dz = dsq (nt dz w2) (nn x w1) := by
  funext i
  rw [val_main_v21_apply, val_main_v19_apply, val_main_v17_apply, val_main_v18_apply, val_main_v10_apply, ref_h, ref_relu, ref_up,
    val_main_v9_apply, val_main_cst_0_apply, val_main_v20_apply, val_main_cst_2_apply,
    show FloatOps.ofBits (F := Ideal) .f32 0x00000000#32 = (0 : EReal) from Ideal.ofBits_zero_f32]
  exact dsq_elt _ _

theorem ref_dw1 : val_main_v48 (F := Ideal) x w1 w2 dz = tn x (dsq (nt dz w2) (nn x w1)) := by
  funext i
  rw [val_main_v48_apply]
  show val_main_v23 (F := Ideal) x w1 w2 dz i = _
  rw [val_main_v23_apply, val_main_v22_apply, ref_dsq]
  exact Finset.sum_congr rfl fun k _ =>
    (mul_comm _ _).trans (congrArg₂ (· * ·) (congrArg x (Products.eq_ix2 _)) (congrArg (dsq _ _) (Products.eq_ix2 _)))

theorem ref_dw2 : val_main_v49 (F := Ideal) x w1 dz = tn (sq (nn x w1)) dz := by
  funext i
  rw [val_main_v49_apply]
  show val_main_v15 (F := Ideal) x w1 dz i = _
  rw [val_main_v15_apply, val_main_v14_apply, ref_sq]
  exact Finset.sum_congr rfl fun k _ =>
    (mul_comm _ _).trans (congrArg₂ (· * ·) (congrArg (sq _) (Products.eq_ix2 _)) (congrArg dz (Products.eq_ix2 _)))

end Cert.Proof.Mlp

end
-- ==== Proof.MlpValue.lean ====
/-
  Hand-written, untrusted. THE MLP'S CALLS IN A ROW: one run of the program with every buffer's contents at the end, its results as functions of the
  arguments, and the reference's results as the same functions.
-/
module

public import proofs.«01_k».proof.Proof.MlpCalls
public import proofs.«01_k».proof.Proof.MlpRef
public import proofs.«01_k».proof.Defs

@[expose] public section

set_option maxRecDepth 16384

noncomputable section

namespace Cert.Proof.Mlp

open Idealize.ShloMosaic Idealize.SL.Sem Cert.KernelIdeal Cert.Products Cert.Norm
open Idealize.SL Idealize.SL.RA Idealize.SL.BI
open scoped Idealize.SL.BI
open Idealize.ShloMosaic.Rounds
open Idealize.SL.BI.BIBase Idealize.SL.BI.Laws Idealize.SL.ProofMode
open Cert.KernelIdeal.Gen Idealize.ShloMosaic.TcCoe Idealize.ShloMosaic.ValueIdx
open Idealize.ShloMosaic.Pipeline (Dat Cfg Window cellOf)

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The program runs, and every buffer ends at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

variable (m : (ℓ : Loc nD τ sig) → Buf (Elt Ideal) ℓ) (ρ : Dev nD → PrngReg) (c : Dev nD)

/-- The arguments as arrays. -/
abbrev X : Mat 4096 1024 := m ((c : Thread nD τ).loc main_arg0)
abbrev Wup : Mat 1024 4096 := m ((c : Thread nD τ).loc main_arg1)
abbrev Wdown : Mat 4096 1024 := m ((c : Thread nD τ).loc main_arg2)
abbrev Gn : FVec Ideal ⟨1, ![1024]⟩ .f32 := m ((c : Thread nD τ).loc main_arg3)
abbrev Bn : FVec Ideal ⟨1, ![1024]⟩ .f32 := m ((c : Thread nD τ).loc main_arg4)
abbrev Dz : Mat 4096 1024 := m ((c : Thread nD τ).loc main_arg5)
/-- The first product, and the residual sum, as functions of the arguments. -/
abbrev H : Mat 4096 4096 := nn (X m c) (Wup m c)
abbrev Z : Mat 4096 1024 := resid (X m c) (nn (sq (H m c)) (Wdown m c))

/-- What the operations between the calls compute. -/
theorem v0_eq : V1 m ρ c main_v0 = X m c := by
  show StableHlo.after hostOps0 (W0 m ρ c) (Proc.devRef .tc main_v0) = _
  simp only [hostOps0]; after_results; rfl
theorem v1_eq : V1 m ρ c main_v1 = Dz m c := by
  show StableHlo.after hostOps0 (W0 m ρ c) (Proc.devRef .tc main_v1) = _
  simp only [hostOps0]; after_results; rfl
theorem v2_eq : V1 m ρ c main_v2 = Wup m c := by
  show StableHlo.after hostOps0 (W0 m ρ c) (Proc.devRef .tc main_v2) = _
  simp only [hostOps0]; after_results; rfl
theorem v3_eq : V1 m ρ c main_v3 = Wdown m c := by
  show StableHlo.after hostOps0 (W0 m ρ c) (Proc.devRef .tc main_v3) = _
  simp only [hostOps0]; after_results; rfl
theorem v5_eq : V3 m ρ c main_v5 = asRow (Gn m c) := by
  refine Eq.trans ?_ (row_host (N := 1024) bcast_S1024_S1x1024_1 (Gn m c))
  show StableHlo.after hostOps1 (W2 m ρ c) (Proc.devRef .tc main_v5) = _
  simp only [hostOps1]; after_results
  exact congrArg _ (W2_args m ρ c main_arg3 (by decide))
theorem v6_eq : V3 m ρ c main_v6 = asRow (Bn m c) := by
  refine Eq.trans ?_ (row_host (N := 1024) bcast_S1024_S1x1024_1 (Bn m c))
  show StableHlo.after hostOps1 (W2 m ρ c) (Proc.devRef .tc main_v6) = _
  simp only [hostOps1]; after_results
  exact congrArg _ (W2_args m ρ c main_arg4 (by decide))

/-- What each call leaves. -/
theorem hpre_eq : V2 m ρ c main_v4_0 = H m c := by
  refine (W2_arr m ρ c 2).trans ((hpre_final (V1 m ρ) c).trans ?_)
  rw [show V1 m ρ c main_v0 = X m c from v0_eq m ρ c,
    show V1 m ρ c main_v2 = Wup m c from v2_eq m ρ c]
theorem hact_eq : V2 m ρ c main_v4_1 = sq (H m c) := by
  refine (W2_arr m ρ c 3).trans ((hact_final (V1 m ρ) c).trans ?_)
  rw [show V1 m ρ c main_v0 = X m c from v0_eq m ρ c,
    show V1 m ρ c main_v2 = Wup m c from v2_eq m ρ c]
theorem z_eq : V4 m ρ c main_v7_0 = Z m c := by
  refine (W4_arr m ρ c 5).trans ((down_z_final (V3 m ρ) c).trans ?_)
  unfold down_Z
  rw [show V3 m ρ c main_arg0 = X m c from W3_args m ρ c main_arg0 (by decide),
    show V3 m ρ c main_v4_1 = sq (H m c) from
      (W3_of m ρ c main_v4_1 (by decide)).trans (hact_eq m ρ c),
    show V3 m ρ c main_v3 = Wdown m c from
      (W3_of m ρ c main_v3 (by decide)).trans ((W2_of m ρ c main_v3 (by decide)).trans (v3_eq m ρ c))]
theorem y_eq : V4 m ρ c main_v7_1 = ln (Z m c) (asRow (Gn m c)) (asRow (Bn m c)) := by
  refine (W4_arr m ρ c 6).trans ((down_y_final (V3 m ρ) c).trans ?_)
  unfold down_Z
  rw [show V3 m ρ c main_arg0 = X m c from W3_args m ρ c main_arg0 (by decide),
    show V3 m ρ c main_v4_1 = sq (H m c) from
      (W3_of m ρ c main_v4_1 (by decide)).trans (hact_eq m ρ c),
    show V3 m ρ c main_v3 = Wdown m c from
      (W3_of m ρ c main_v3 (by decide)).trans ((W2_of m ρ c main_v3 (by decide)).trans (v3_eq m ρ c)),
    show V3 m ρ c main_v5 = asRow (Gn m c) from v5_eq m ρ c,
    show V3 m ρ c main_v6 = asRow (Bn m c) from v6_eq m ρ c]
theorem dhpre_eq : V5 m ρ c main_v8 = dsq (nt (Dz m c) (Wdown m c)) (H m c) := by
  refine (W5_arr m ρ c 3).trans ((dhpre_final (V4 m ρ) c).trans ?_)
  rw [show V4 m ρ c main_v4_0 = H m c from
      (W4_of m ρ c main_v4_0 (by decide)).trans ((W3_of m ρ c main_v4_0 (by decide)).trans (hpre_eq m ρ c)),
    show V4 m ρ c main_v1 = Dz m c from
      (W4_of m ρ c main_v1 (by decide)).trans ((W3_of m ρ c main_v1 (by decide)).trans ((W2_of m ρ c main_v1 (by decide)).trans (v1_eq m ρ c))),
    show V4 m ρ c main_v3 = Wdown m c from
      (W4_of m ρ c main_v3 (by decide)).trans ((W3_of m ρ c main_v3 (by decide)).trans ((W2_of m ρ c main_v3 (by decide)).trans (v3_eq m ρ c)))]
theorem dw2_eq : V6 m ρ c main_v9 = tn (sq (H m c)) (Dz m c) := by
  refine (W6_arr m ρ c 2).trans ((dw2_final (V5 m ρ) c).trans ?_)
  rw [show V5 m ρ c main_v4_1 = sq (H m c) from
      (W5_of m ρ c main_v4_1 (by decide)).trans ((W4_of m ρ c main_v4_1 (by decide)).trans ((W3_of m ρ c main_v4_1 (by decide)).trans (hact_eq m ρ c))),
    show V5 m ρ c main_v1 = Dz m c from
      (W5_of m ρ c main_v1 (by decide)).trans ((W4_of m ρ c main_v1 (by decide)).trans ((W3_of m ρ c main_v1 (by decide)).trans ((W2_of m ρ c main_v1 (by decide)).trans (v1_eq m ρ c))))]
theorem dw1_eq : V7 m ρ c main_v10 = tn (X m c) (dsq (nt (Dz m c) (Wdown m c)) (H m c)) := by
  refine (W7_arr m ρ c 2).trans ((dw1_final (V6 m ρ) c).trans ?_)
  rw [show V6 m ρ c main_v8 = dsq (nt (Dz m c) (Wdown m c)) (H m c) from
      (W6_of m ρ c main_v8 (by decide)).trans (dhpre_eq m ρ c),
    show V6 m ρ c main_v0 = X m c from
      (W6_of m ρ c main_v0 (by decide)).trans ((W5_of m ρ c main_v0 (by decide)).trans ((W4_of m ρ c main_v0 (by decide)).trans ((W3_of m ρ c main_v0 (by decide)).trans ((W2_of m ρ c main_v0 (by decide)).trans (v0_eq m ρ c)))))]

/-- The frame of the reference, from its run. -/
theorem frame_ref : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The kernel's results are the reference's. -/
theorem results : Cert.algebraic_KernelIdeal_ReferenceIdeal := fun m ρ m' ρ' _ hm =>
  ⟨fun c => Z m c, fun c => ln (Z m c) (asRow (Gn m c)) (asRow (Bn m c)), fun c => tn (X m c) (dsq (nt (Dz m c) (Wdown m c)) (H m c)), fun c => tn (sq (H m c)) (Dz m c),
    (θ_run defs _ _).mono (fun _ h c =>
      ⟨(h c _ (mem_uc main_v7_0 (by decide))).trans ((W7_of m ρ c main_v7_0 (by decide)).trans ((W6_of m ρ c main_v7_0 (by decide)).trans ((W5_of m ρ c main_v7_0 (by decide)).trans (z_eq m ρ c)))),
        (h c _ (mem_uc main_v7_1 (by decide))).trans ((W7_of m ρ c main_v7_1 (by decide)).trans ((W6_of m ρ c main_v7_1 (by decide)).trans ((W5_of m ρ c main_v7_1 (by decide)).trans (y_eq m ρ c)))),
        (h c _ (mem_uc main_v10 (by decide))).trans (dw1_eq m ρ c),
        (h c _ (mem_uc main_v9 (by decide))).trans ((W7_of m ρ c main_v9 (by decide)).trans (dw2_eq m ρ c)),
        (h c _ (mem_uc main_arg0 (by decide))).trans (W7_main_arg0 m ρ c),
        (h c _ (mem_uc main_arg1 (by decide))).trans (W7_main_arg1 m ρ c),
        (h c _ (mem_uc main_arg2 (by decide))).trans (W7_main_arg2 m ρ c),
        (h c _ (mem_uc main_arg3 (by decide))).trans (W7_main_arg3 m ρ c),
        (h c _ (mem_uc main_arg4 (by decide))).trans (W7_main_arg4 m ρ c),
        (h c _ (mem_uc main_arg5 (by decide))).trans (W7_main_arg5 m ρ c)⟩) (run_all m ρ),
    (θ_run Cert.ReferenceIdeal.defs _ _).mono (fun _ h c => by
      obtain ⟨h0, h1, h2, h3, hargs⟩ := h c
      obtain ⟨e0, e1, e2, e3, e4, e5⟩ := hm c
      refine ⟨h0.trans ?_, h1.trans ?_, h2.trans ?_, h3.trans ?_, hargs⟩
      · rw [Cert.ReferenceIdeal.Read.val_main_v6_eq, e0, e1, e2]
        exact ref_z (X m c) (Wup m c) (Wdown m c)
      · rw [Cert.ReferenceIdeal.Read.val_main_v47_eq, e0, e1, e2, e3, e4]
        exact ref_ln (X m c) (Wup m c) (Wdown m c) (Gn m c) (Bn m c)
      · rw [Cert.ReferenceIdeal.Read.val_main_v48_eq, e0, e1, e2, e5]
        exact ref_dw1 (X m c) (Wup m c) (Wdown m c) (Dz m c)
      · rw [Cert.ReferenceIdeal.Read.val_main_v49_eq, e0, e1, e5]
        exact ref_dw2 (X m c) (Wup m c) (Dz m c)
      )
      (Cert.ReferenceIdeal.Value.run (F := Ideal) m' ρ')⟩

end Cert.Proof.Mlp

end
-- ==== Proof.LruCalls.lean ====
/-
  Hand-written, untrusted. WHAT EACH CALL AROUND THE RECURRENT MIXER'S CORE LEAVES IN ITS RESULT, as a function of the arrays it is entered with.
-/
module

public import proofs.«01_k».proof.Proof.Norm
public import proofs.«01_k».proof.Proof.Gen.Kernel2Ideal.Frame
public import Idealize.ShloMosaic.Lib.Pipeline.ValueKit

@[expose] public section

set_option maxRecDepth 16384

noncomputable section

namespace Cert.Proof.Lru

open Idealize.ShloMosaic Idealize.SL.Sem Cert.Kernel2Ideal Cert.Products Cert.Norm
open Cert.Kernel2Ideal.Gen Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## `lru_in` -/

theorem inp_idx : ∀ t : Fin grid0.N, win0_0.index t = ![win0_2.index t 0, 0] ∧ win0_1.index t = ![0, win0_2.index t 1] := by
  decide +kernel
theorem inp_a (t : Fin cfg0.N) : Placed (m := 1024) (n := 1024) (M := 4096) (N := 1024)
    (fun j => (win0_0.blk t).view.emb j) (win0_2.index t 0 * 1024) 0 := fun j => by
  constructor <;> blk_simp [(inp_idx t).1] <;> simp
theorem inp_b (t : Fin cfg0.N) : Placed (m := 1024) (n := 1024) (M := 1024) (N := 3072)
    (fun j => (win0_1.blk t).view.emb j) 0 (win0_2.index t 1 * 1024) := fun j => by
  constructor <;> blk_simp [(inp_idx t).2] <;> simp
theorem inp_o (t : Fin cfg0.N) : Placed (m := 1024) (n := 1024) (M := 4096) (N := 3072)
    (fun j => (win0_2.blk t).view.emb j) (win0_2.index t 0 * 1024) (win0_2.index t 1 * 1024) := fun j => by
  constructor <;> blk_simp
theorem inp_tile (x : Vec Ideal S1024x1024 .bf16) (y : Vec Ideal S1024x1024 .bf16) :
    k0_pay1 x y = nn (M := 1024) (K := 1024) (N := 1024) x y := by
  unfold k0_pay1
  simp only [shapeCast_self]
  exact matmul_nn (M := 1024) (K := 1024) (N := 1024) (φ₁ := .bf16) (φ₂ := .bf16) none x y
/-- The projection after `lru_in`. -/
theorem inp_final (c : Dev nD) : (dat0 V c).arrAt 2 cfg0.N = nn (M := 4096) (K := 1024) (N := 3072) (V c main_v0) (V c main_v1) := by
  refine (dat0 V c).arrAt_eq_of_covers 2 _ (by decide +kernel) fun t hf y => ?_
  blk_simp
  rw [after0_2]
  frame_out
  rw [inp_tile]
  exact nn_tile (V c main_v0) (V c main_v1) (inp_a t) (inp_b t) (inp_o t) y

/-! ## `mix_out_ln` -/

theorem mix_idx : ∀ t : Fin grid1.N, win1_0.index t = ![win1_5.index t 0, 0] ∧ win1_1.index t = ![0, 0]
    ∧ win1_2.index t = win1_5.index t ∧ win1_3.index t = ![0, 0] ∧ win1_4.index t = ![0, 0]
    ∧ win1_6.index t = win1_5.index t ∧ win1_5.index t 1 = 0 := by
  decide +kernel
theorem mix_a (t : Fin cfg1.N) : Placed (m := 512) (n := 1536) (M := 4096) (N := 1536)
    (fun j => (win1_0.blk t).view.emb j) (win1_5.index t 0 * 512) 0 := fun j => by
  constructor <;> blk_simp [(mix_idx t).1] <;> simp
theorem mix_b (t : Fin cfg1.N) : Placed (m := 1536) (n := 1024) (M := 1536) (N := 1024)
    (fun j => (win1_1.blk t).view.emb j) 0 0 := fun j => by
  constructor <;> blk_simp [(mix_idx t).2.1] <;> simp
theorem mix_x (t : Fin cfg1.N) : Placed (m := 512) (n := 1024) (M := 4096) (N := 1024)
    (fun j => (win1_2.blk t).view.emb j) (win1_5.index t 0 * 512) 0 := fun j => by
  constructor <;> blk_simp [(mix_idx t).2.2.1, (mix_idx t).2.2.2.2.2.2] <;> simp
theorem mix_g (t : Fin cfg1.N) : Placed (m := 1) (n := 1024) (M := 1) (N := 1024)
    (fun j => (win1_3.blk t).view.emb j) 0 0 := fun j => by
  constructor <;> blk_simp [(mix_idx t).2.2.2.1] <;> simp
theorem mix_bias (t : Fin cfg1.N) : Placed (m := 1) (n := 1024) (M := 1) (N := 1024)
    (fun j => (win1_4.blk t).view.emb j) 0 0 := fun j => by
  constructor <;> blk_simp [(mix_idx t).2.2.2.2.1] <;> simp
theorem mix_z (t : Fin cfg1.N) : Placed (m := 512) (n := 1024) (M := 4096) (N := 1024)
    (fun j => (win1_5.blk t).view.emb j) (win1_5.index t 0 * 512) 0 := fun j => by
  constructor <;> blk_simp [(mix_idx t).2.2.2.2.2.2] <;> simp
theorem mix_y (t : Fin cfg1.N) : Placed (m := 512) (n := 1024) (M := 4096) (N := 1024)
    (fun j => (win1_6.blk t).view.emb j) (win1_5.index t 0 * 512) 0 := fun j => by
  constructor <;> blk_simp [(mix_idx t).2.2.2.2.2.1, (mix_idx t).2.2.2.2.2.2] <;> simp

/-- The tile's residual sum, and its norm. -/
theorem mix_sum (x : Vec Ideal S512x1536 .bf16) (y : Vec Ideal S1536x1024 .bf16) (d : Vec Ideal S512x1024 .f32) :
    k1_pay2 x y d = resid d (nn (M := 512) (K := 1536) (N := 1024) x y) := by
  unfold k1_pay2
  simp only [shapeCast_self]
  funext i
  exact congrArg (alpha * d i + ·)
    (congrFun (matmul_nn (M := 512) (K := 1536) (N := 1024) (φ₁ := .bf16) (φ₂ := .bf16) none x y) i)
theorem mix_norm (x : Vec Ideal S512x1536 .bf16) (y : Vec Ideal S1536x1024 .bf16) (d : Vec Ideal S512x1024 .f32)
    (g b : Vec Ideal S1x1024 .f32) :
    k1_pay3 x y d g b = ln (resid d (nn (M := 512) (K := 1536) (N := 1024) x y)) g b := by
  unfold k1_pay3
  simp only [shapeCast_self, mix_sum]
  exact ln_kernel (M := 512) (N := 1024) _ g b _ _ _ _ _ _

/-- The array of the sums, as the call finds its operands. -/
abbrev mix_Z (c : Dev nD) : Mat 4096 1024 := resid (V c main_arg0) (nn (M := 4096) (K := 1536) (N := 1024) (V c main_v3) (V c main_v2))

theorem mix_strip (c : Dev nD) (t : Fin cfg1.N) (o : (Sh 512 1024).Idx → (Sh 4096 1024).Idx)
    (ho : Placed o (win1_5.index t 0 * 512) 0) :
    resid (fun j => V c main_arg0 ((win1_2.blk t).view.emb j)) (nn (M := 512) (K := 1536) (N := 1024)
      (fun j => V c main_v3 ((win1_0.blk t).view.emb j)) (fun j => V c main_v2 ((win1_1.blk t).view.emb j)))
      = fun j => mix_Z V c (o j) :=
  funext fun j => congrArg₂ (fun p q : EReal => alpha * p + q) (congrArg (V c main_arg0) (congrFun ((mix_x t).eq ho) j))
    (nn_tile (V c main_v3) (V c main_v2) (mix_a t) (mix_b t) ho j)

/-- The residual sum after `mix_out_ln`. -/
theorem mix_z_final (c : Dev nD) : (dat1 V c).arrAt 5 cfg1.N = mix_Z V c := by
  refine (dat1 V c).arrAt_eq_of_covers 5 _ (by decide +kernel) fun t hf y => ?_
  blk_simp
  rw [after1_5]
  frame_out
  rw [mix_sum]
  exact congrFun (mix_strip V c t _ (mix_z t)) y
/-- Its norm. -/
theorem mix_y_final (c : Dev nD) : (dat1 V c).arrAt 6 cfg1.N = ln (mix_Z V c) (V c main_v7) (V c main_v8) := by
  refine (dat1 V c).arrAt_eq_of_covers 6 _ (by decide +kernel) fun t hf y => ?_
  blk_simp
  rw [after1_6]
  frame_out
  unfold k1_pay4
  frame_out
  rw [mix_norm]
  refine (congrFun (congrArg (fun z => ln z _ _) (mix_strip V c t _ (mix_y t))) y).trans ?_
  exact ln_tile (mix_Z V c) (V c main_v7) (V c main_v8) (mix_y t) (mix_g t) (mix_bias t) y

/-! ## `d_lru_w_out` -/

theorem dwo_idx : ∀ t : Fin grid2.N, win2_0.index t = ![0, win2_2.index t 0] ∧ win2_1.index t = ![0, win2_2.index t 1] := by
  decide +kernel
theorem dwo_a (t : Fin cfg2.N) : Placed (m := 4096) (n := 768) (M := 4096) (N := 1536)
    (fun j => (win2_0.blk t).view.emb j) 0 (win2_2.index t 0 * 768) := fun j => by
  constructor <;> blk_simp [(dwo_idx t).1] <;> simp
theorem dwo_b (t : Fin cfg2.N) : Placed (m := 4096) (n := 512) (M := 4096) (N := 1024)
    (fun j => (win2_1.blk t).view.emb j) 0 (win2_2.index t 1 * 512) := fun j => by
  constructor <;> blk_simp [(dwo_idx t).2] <;> simp
theorem dwo_o (t : Fin cfg2.N) : Placed (m := 768) (n := 512) (M := 1536) (N := 1024)
    (fun j => (win2_2.blk t).view.emb j) (win2_2.index t 0 * 768) (win2_2.index t 1 * 512) := fun j => by
  constructor <;> blk_simp
theorem dwo_tile (x : Vec Ideal S4096x768 .bf16) (y : Vec Ideal S4096x512 .bf16) :
    k2_pay1 x y = tn (M := 768) (K := 4096) (N := 512) x y := by
  unfold k2_pay1
  simp only [shapeCast_self]
  exact matmul_tn (M := 768) (K := 4096) (N := 512) (φ₁ := .bf16) (φ₂ := .bf16) none x y
/-- The gradient of the output weight. -/
theorem dwo_final (c : Dev nD) : (dat2 V c).arrAt 2 cfg2.N = tn (M := 1536) (K := 4096) (N := 1024) (V c main_v3) (V c main_v4) := by
  refine (dat2 V c).arrAt_eq_of_covers 2 _ (by decide +kernel) fun t hf y => ?_
  blk_simp
  rw [after2_2]
  frame_out
  rw [dwo_tile]
  exact tn_tile (V c main_v3) (V c main_v4) (dwo_a t) (dwo_b t) (dwo_o t) y

/-! ## `d_gh` -/

theorem dgh_idx : ∀ t : Fin grid3.N, win3_0.index t = ![win3_2.index t 0, 0] ∧ win3_1.index t = ![win3_2.index t 1, 0] := by
  decide +kernel
theorem dgh_a (t : Fin cfg3.N) : Placed (m := 1024) (n := 1024) (M := 4096) (N := 1024)
    (fun j => (win3_0.blk t).view.emb j) (win3_2.index t 0 * 1024) 0 := fun j => by
  constructor <;> blk_simp [(dgh_idx t).1] <;> simp
theorem dgh_b (t : Fin cfg3.N) : Placed (m := 768) (n := 1024) (M := 1536) (N := 1024)
    (fun j => (win3_1.blk t).view.emb j) (win3_2.index t 1 * 768) 0 := fun j => by
  constructor <;> blk_simp [(dgh_idx t).2] <;> simp
theorem dgh_o (t : Fin cfg3.N) : Placed (m := 1024) (n := 768) (M := 4096) (N := 1536)
    (fun j => (win3_2.blk t).view.emb j) (win3_2.index t 0 * 1024) (win3_2.index t 1 * 768) := fun j => by
  constructor <;> blk_simp
theorem dgh_tile (x : Vec Ideal S1024x1024 .bf16) (y : Vec Ideal S768x1024 .bf16) :
    k3_pay1 x y = nt (M := 1024) (K := 1024) (N := 768) x y := by
  unfold k3_pay1
  simp only [shapeCast_self]
  exact matmul_nt (M := 1024) (K := 1024) (N := 768) (φ₁ := .bf16) (φ₂ := .bf16) none x y
/-- The gradient of the core's result. -/
theorem dgh_final (c : Dev nD) : (dat3 V c).arrAt 2 cfg3.N = nt (M := 4096) (K := 1024) (N := 1536) (V c main_v4) (V c main_v2) := by
  refine (dat3 V c).arrAt_eq_of_covers 2 _ (by decide +kernel) fun t hf y => ?_
  blk_simp
  rw [after3_2]
  frame_out
  rw [dgh_tile]
  exact nt_tile (V c main_v4) (V c main_v2) (dgh_a t) (dgh_b t) (dgh_o t) y

/-! ## `d_lru_w_in` -/

theorem dwi_idx : ∀ t : Fin grid4.N, win4_0.index t = ![0, win4_2.index t 0] ∧ win4_1.index t = ![0, win4_2.index t 1] := by
  decide +kernel
theorem dwi_a (t : Fin cfg4.N) : Placed (m := 4096) (n := 1024) (M := 4096) (N := 1024)
    (fun j => (win4_0.blk t).view.emb j) 0 (win4_2.index t 0 * 1024) := fun j => by
  constructor <;> blk_simp [(dwi_idx t).1] <;> simp
theorem dwi_b (t : Fin cfg4.N) : Placed (m := 4096) (n := 512) (M := 4096) (N := 3072)
    (fun j => (win4_1.blk t).view.emb j) 0 (win4_2.index t 1 * 512) := fun j => by
  constructor <;> blk_simp [(dwi_idx t).2] <;> simp
theorem dwi_o (t : Fin cfg4.N) : Placed (m := 1024) (n := 512) (M := 1024) (N := 3072)
    (fun j => (win4_2.blk t).view.emb j) (win4_2.index t 0 * 1024) (win4_2.index t 1 * 512) := fun j => by
  constructor <;> blk_simp
theorem dwi_tile (x : Vec Ideal S4096x1024 .bf16) (y : Vec Ideal S4096x512 .bf16) :
    k4_pay1 x y = tn (M := 1024) (K := 4096) (N := 512) x y := by
  unfold k4_pay1
  simp only [shapeCast_self]
  exact matmul_tn (M := 1024) (K := 4096) (N := 512) (φ₁ := .bf16) (φ₂ := .bf16) none x y
/-- The gradient of the input weight. -/
theorem dwi_final (c : Dev nD) : (dat4 V c).arrAt 2 cfg4.N = tn (M := 1024) (K := 4096) (N := 3072) (V c main_v0) (V c main_v5) := by
  refine (dat4 V c).arrAt_eq_of_covers 2 _ (by decide +kernel) fun t hf y => ?_
  blk_simp
  rw [after4_2]
  frame_out
  rw [dwi_tile]
  exact tn_tile (V c main_v0) (V c main_v5) (dwi_a t) (dwi_b t) (dwi_o t) y

/-! ## `d_x0` -/

theorem dx_idx : ∀ t : Fin grid5.N, win5_0.index t = ![win5_3.index t 0, 0] ∧ win5_1.index t = ![win5_3.index t 1, 0] := by
  decide +kernel
theorem dx_a (t : Fin cfg5.N) : Placed (m := 1024) (n := 3072) (M := 4096) (N := 3072)
    (fun j => (win5_0.blk t).view.emb j) (win5_3.index t 0 * 1024) 0 := fun j => by
  constructor <;> blk_simp [(dx_idx t).1] <;> simp
theorem dx_b (t : Fin cfg5.N) : Placed (m := 512) (n := 3072) (M := 1024) (N := 3072)
    (fun j => (win5_1.blk t).view.emb j) (win5_3.index t 1 * 512) 0 := fun j => by
  constructor <;> blk_simp [(dx_idx t).2] <;> simp
theorem dx_o (t : Fin cfg5.N) : Placed (m := 1024) (n := 512) (M := 4096) (N := 1024)
    (fun j => (win5_3.blk t).view.emb j) (win5_3.index t 0 * 1024) (win5_3.index t 1 * 512) := fun j => by
  constructor <;> blk_simp
theorem dx_x (t : Fin cfg5.N) : Placed (m := 1024) (n := 512) (M := 4096) (N := 1024)
    (fun j => (win5_2.blk t).view.emb j) (win5_3.index t 0 * 1024) (win5_3.index t 1 * 512) := fun j => by
  have e : ∀ t : Fin grid5.N, win5_2.index t = win5_3.index t := by decide +kernel
  constructor <;> blk_simp [e t]
theorem dx_tile (x : Vec Ideal S1024x3072 .bf16) (y : Vec Ideal S512x3072 .bf16) (d : Vec Ideal S1024x512 .f32) :
    k5_pay1 x y d = resid d (nt (M := 1024) (K := 3072) (N := 512) x y) := by
  unfold k5_pay1
  simp only [shapeCast_self]
  funext i
  exact (add_comm _ _).trans (congrArg (alpha * d i + ·)
    (congrFun (matmul_nt (M := 1024) (K := 3072) (N := 512) (φ₁ := .bf16) (φ₂ := .bf16) none x y) i))
/-- The gradient of the layer's input. -/
theorem dx_final (c : Dev nD) : (dat5 V c).arrAt 3 cfg5.N = resid (V c main_arg6) (nt (M := 4096) (K := 3072) (N := 1024) (V c main_v5) (V c main_v1)) := by
  refine (dat5 V c).arrAt_eq_of_covers 3 _ (by decide +kernel) fun t hf y => ?_
  blk_simp
  rw [after5_3]
  frame_out
  rw [dx_tile]
  exact congrArg₂ (fun p q : EReal => alpha * p + q) (congrArg (V c main_arg6) (congrFun ((dx_x t).eq (dx_o t)) y))
    (nt_tile (V c main_v5) (V c main_v1) (dx_a t) (dx_b t) (dx_o t) y)

end Cert.Proof.Lru

end
-- ==== Proof.LruRef.lean ====
/-
  Hand-written, untrusted. THE PRODUCTS AROUND THE RECURRENT MIXER'S CORE, AS THE REFERENCE WRITES THEM: the same functions of the same arrays.
-/
module

public import proofs.«01_k».proof.Proof.LruCalls
public import proofs.«01_k».proof.Proof.Gen.Reference2Ideal.Read

@[expose] public section

noncomputable section

namespace Cert.Proof.Lru

open Idealize.ShloMosaic Idealize.ShloMosaic.ValueIdx Cert.Products Cert.Norm Cert.Reference2Ideal.Read

variable (x : Mat 4096 1024) (wi : Mat 1024 3072) (wo : Mat 1536 1024) (h : Mat 4096 1536) (dz : Mat 4096 1024) (dp : Mat 4096 3072)

theorem ref_inp : val_main_v0 (F := Ideal) x wi = nn x wi := by
  funext i; rw [val_main_v0_apply]
  exact Finset.sum_congr rfl fun k _ => congrArg₂ (· * ·) (congrArg x (Products.eq_ix2 _)) (congrArg wi (Products.eq_ix2 _))

theorem ref_out : val_main_v3 (F := Ideal) wo h = nn h wo := by
  funext i; rw [val_main_v3_apply]
  exact Finset.sum_congr rfl fun k _ => congrArg₂ (· * ·) (congrArg h (Products.eq_ix2 _)) (congrArg wo (Products.eq_ix2 _))

theorem ref_z : val_main_v4 (F := Ideal) x wo h = resid x (nn h wo) := by
  funext i
  rw [val_main_v4_apply, ref_out, val_main_v2_apply, val_main_v1_apply, val_main_cst_apply]; rfl

theorem ref_ln (g b : FVec Ideal ⟨1, ![1024]⟩ .f32) :
    val_main_v41 (F := Ideal) x wo g b h = ln (resid x (nn h wo)) (asRow g) (asRow b) := by
  refine (ln_host (M := 4096) (N := 1024) (val_main_v4 (F := Ideal) x wo h) (val_main_v36 (F := Ideal) g) (val_main_v39 (F := Ideal) b)
    _ (by decide) _ _ _ _ _ (val_main_v21 (F := Ideal) x wo h) (val_main_v28 (F := Ideal) x wo h) rfl rfl).trans ?_
  rw [ref_z, show val_main_v36 (F := Ideal) g = asRow g from row_host _ g, show val_main_v39 (F := Ideal) b = asRow b from row_host _ b]

theorem ref_dwo : val_main_v42 (F := Ideal) h dz = tn h dz := by
  funext i
  rw [val_main_v42_apply]
  show val_main_v7 (F := Ideal) h dz i = _
  rw [val_main_v7_apply, val_main_v6_apply]
  exact Finset.sum_congr rfl fun k _ =>
    (mul_comm _ _).trans (congrArg₂ (· * ·) (congrArg h (Products.eq_ix2 _)) (congrArg dz (Products.eq_ix2 _)))

theorem ref_dh : val_main_v8 (F := Ideal) wo dz = nt dz wo := by
  funext i; rw [val_main_v8_apply]
  exact Finset.sum_congr rfl fun k _ => congrArg₂ (· * ·) (congrArg dz (Products.eq_ix2 _)) (congrArg wo (Products.eq_ix2 _))

theorem ref_dwi : val_main_v43 (F := Ideal) x dp = tn x dp := by
  funext i
  rw [val_main_v43_apply]
  show val_main_v13 (F := Ideal) x dp i = _
  rw [val_main_v13_apply, val_main_v12_apply]
  exact Finset.sum_congr rfl fun k _ =>
    (mul_comm _ _).trans (congrArg₂ (· * ·) (congrArg x (Products.eq_ix2 _)) (congrArg dp (Products.eq_ix2 _)))

theorem ref_back : val_main_v14 (F := Ideal) wi dp = nt dp wi := by
  funext i; rw [val_main_v14_apply]
  exact Finset.sum_congr rfl fun k _ => congrArg₂ (· * ·) (congrArg dp (Products.eq_ix2 _)) (congrArg wi (Products.eq_ix2 _))

theorem ref_dx : val_main_v17 (F := Ideal) wi dz dp = resid dz (nt dp wi) := by
  funext i
  rw [val_main_v17_apply, ref_back, val_main_v16_apply, val_main_v15_apply, val_main_cst_1_apply]
  exact add_comm _ _

end Cert.Proof.Lru

end
-- ==== Proof.LruValue.lean ====
/-
  Hand-written, untrusted. THE CALLS AROUND THE RECURRENT MIXER'S CORE IN A ROW: one run of the program with every buffer's contents at the end, its
  results as functions of the arguments, and the reference's results as the same functions.
-/
module

public import proofs.«01_k».proof.Proof.LruCalls
public import proofs.«01_k».proof.Proof.LruRef
public import proofs.«01_k».proof.Defs

@[expose] public section

set_option maxRecDepth 16384

noncomputable section

namespace Cert.Proof.Lru

open Idealize.ShloMosaic Idealize.SL.Sem Cert.Kernel2Ideal Cert.Products Cert.Norm
open Idealize.SL Idealize.SL.RA Idealize.SL.BI
open scoped Idealize.SL.BI
open Idealize.ShloMosaic.Rounds
open Idealize.SL.BI.BIBase Idealize.SL.BI.Laws Idealize.SL.ProofMode
open Cert.Kernel2Ideal.Gen Idealize.ShloMosaic.TcCoe Idealize.ShloMosaic.ValueIdx
open Idealize.ShloMosaic.Pipeline (Dat Cfg Window cellOf)

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The program runs, and every buffer ends at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Run

variable (m : (ℓ : Loc nD τ sig) → Buf (Elt Ideal) ℓ) (ρ : Dev nD → PrngReg) (c : Dev nD)

/-- The arguments as arrays. -/
abbrev X : Mat 4096 1024 := m ((c : Thread nD τ).loc main_arg0)
abbrev Win : Mat 1024 3072 := m ((c : Thread nD τ).loc main_arg1)
abbrev Wout : Mat 1536 1024 := m ((c : Thread nD τ).loc main_arg2)
abbrev Gn : FVec Ideal ⟨1, ![1024]⟩ .f32 := m ((c : Thread nD τ).loc main_arg3)
abbrev Bn : FVec Ideal ⟨1, ![1024]⟩ .f32 := m ((c : Thread nD τ).loc main_arg4)
abbrev Gh : Mat 4096 1536 := m ((c : Thread nD τ).loc main_arg5)
abbrev Dz : Mat 4096 1024 := m ((c : Thread nD τ).loc main_arg6)
abbrev Dp : Mat 4096 3072 := m ((c : Thread nD τ).loc main_arg7)
/-- The residual sum, as a function of the arguments. -/
abbrev Z : Mat 4096 1024 := resid (X m c) (nn (Gh m c) (Wout m c))

/-- What the operations between the calls compute. -/
theorem v0_eq : V1 m ρ c main_v0 = X m c := by
  show StableHlo.after hostOps0 (W0 m ρ c) (Proc.devRef .tc main_v0) = _
  simp only [hostOps0]; after_results; rfl
theorem v1_eq : V1 m ρ c main_v1 = Win m c := by
  show StableHlo.after hostOps0 (W0 m ρ c) (Proc.devRef .tc main_v1) = _
  simp only [hostOps0]; after_results; rfl
theorem v2_eq : V1 m ρ c main_v2 = Wout m c := by
  show StableHlo.after hostOps0 (W0 m ρ c) (Proc.devRef .tc main_v2) = _
  simp only [hostOps0]; after_results; rfl
theorem v3_eq : V1 m ρ c main_v3 = Gh m c := by
  show StableHlo.after hostOps0 (W0 m ρ c) (Proc.devRef .tc main_v3) = _
  simp only [hostOps0]; after_results; rfl
theorem v4_eq : V1 m ρ c main_v4 = Dz m c := by
  show StableHlo.after hostOps0 (W0 m ρ c) (Proc.devRef .tc main_v4) = _
  simp only [hostOps0]; after_results; rfl
theorem v5_eq : V1 m ρ c main_v5 = Dp m c := by
  show StableHlo.after hostOps0 (W0 m ρ c) (Proc.devRef .tc main_v5) = _
  simp only [hostOps0]; after_results; rfl
theorem v7_eq : V3 m ρ c main_v7 = asRow (Gn m c) := by
  refine Eq.trans ?_ (row_host (N := 1024) bcast_S1024_S1x1024_1 (Gn m c))
  show StableHlo.after hostOps1 (W2 m ρ c) (Proc.devRef .tc main_v7) = _
  simp only [hostOps1]; after_results
  exact congrArg _ (W2_args m ρ c main_arg3 (by decide))
theorem v8_eq : V3 m ρ c main_v8 = asRow (Bn m c) := by
  refine Eq.trans ?_ (row_host (N := 1024) bcast_S1024_S1x1024_1 (Bn m c))
  show StableHlo.after hostOps1 (W2 m ρ c) (Proc.devRef .tc main_v8) = _
  simp only [hostOps1]; after_results
  exact congrArg _ (W2_args m ρ c main_arg4 (by decide))

/-- What each call leaves. -/
theorem inp_eq : V2 m ρ c main_v6 = nn (X m c) (Win m c) := by
  refine (W2_arr m ρ c 2).trans ((inp_final (V1 m ρ) c).trans ?_)
  rw [show V1 m ρ c main_v0 = X m c from v0_eq m ρ c,
    show V1 m ρ c main_v1 = Win m c from v1_eq m ρ c]
theorem z_eq : V4 m ρ c main_v9_0 = Z m c := by
  refine (W4_arr m ρ c 5).trans ((mix_z_final (V3 m ρ) c).trans ?_)
  unfold mix_Z
  rw [show V3 m ρ c main_arg0 = X m c from W3_args m ρ c main_arg0 (by decide),
    show V3 m ρ c main_v3 = Gh m c from
      (W3_of m ρ c main_v3 (by decide)).trans ((W2_of m ρ c main_v3 (by decide)).trans (v3_eq m ρ c)),
    show V3 m ρ c main_v2 = Wout m c from
      (W3_of m ρ c main_v2 (by decide)).trans ((W2_of m ρ c main_v2 (by decide)).trans (v2_eq m ρ c))]
theorem y_eq : V4 m ρ c main_v9_1 = ln (Z m c) (asRow (Gn m c)) (asRow (Bn m c)) := by
  refine (W4_arr m ρ c 6).trans ((mix_y_final (V3 m ρ) c).trans ?_)
  unfold mix_Z
  rw [show V3 m ρ c main_arg0 = X m c from W3_args m ρ c main_arg0 (by decide),
    show V3 m ρ c main_v3 = Gh m c from
      (W3_of m ρ c main_v3 (by decide)).trans ((W2_of m ρ c main_v3 (by decide)).trans (v3_eq m ρ c)),
    show V3 m ρ c main_v2 = Wout m c from
      (W3_of m ρ c main_v2 (by decide)).trans ((W2_of m ρ c main_v2 (by decide)).trans (v2_eq m ρ c)),
    show V3 m ρ c main_v7 = asRow (Gn m c) from v7_eq m ρ c,
    show V3 m ρ c main_v8 = asRow (Bn m c) from v8_eq m ρ c]
theorem dwo_eq : V5 m ρ c main_v10 = tn (Gh m c) (Dz m c) := by
  refine (W5_arr m ρ c 2).trans ((dwo_final (V4 m ρ) c).trans ?_)
  rw [show V4 m ρ c main_v3 = Gh m c from
      (W4_of m ρ c main_v3 (by decide)).trans ((W3_of m ρ c main_v3 (by decide)).trans ((W2_of m ρ c main_v3 (by decide)).trans (v3_eq m ρ c))),
    show V4 m ρ c main_v4 = Dz m c from
      (W4_of m ρ c main_v4 (by decide)).trans ((W3_of m ρ c main_v4 (by decide)).trans ((W2_of m ρ c main_v4 (by decide)).trans (v4_eq m ρ c)))]
theorem dgh_eq : V6 m ρ c main_v11 = nt (Dz m c) (Wout m c) := by
  refine (W6_arr m ρ c 2).trans ((dgh_final (V5 m ρ) c).trans ?_)
  rw [show V5 m ρ c main_v4 = Dz m c from
      (W5_of m ρ c main_v4 (by decide)).trans ((W4_of m ρ c main_v4 (by decide)).trans ((W3_of m ρ c main_v4 (by decide)).trans ((W2_of m ρ c main_v4 (by decide)).trans (v4_eq m ρ c)))),
    show V5 m ρ c main_v2 = Wout m c from
      (W5_of m ρ c main_v2 (by decide)).trans ((W4_of m ρ c main_v2 (by decide)).trans ((W3_of m ρ c main_v2 (by decide)).trans ((W2_of m ρ c main_v2 (by decide)).trans (v2_eq m ρ c))))]
theorem dwi_eq : V7 m ρ c main_v12 = tn (X m c) (Dp m c) := by
  refine (W7_arr m ρ c 2).trans ((dwi_final (V6 m ρ) c).trans ?_)
  rw [show V6 m ρ c main_v0 = X m c from
      (W6_of m ρ c main_v0 (by decide)).trans ((W5_of m ρ c main_v0 (by decide)).trans ((W4_of m ρ c main_v0 (by decide)).trans ((W3_of m ρ c main_v0 (by decide)).trans ((W2_of m ρ c main_v0 (by decide)).trans (v0_eq m ρ c))))),
    show V6 m ρ c main_v5 = Dp m c from
      (W6_of m ρ c main_v5 (by decide)).trans ((W5_of m ρ c main_v5 (by decide)).trans ((W4_of m ρ c main_v5 (by decide)).trans ((W3_of m ρ c main_v5 (by decide)).trans ((W2_of m ρ c main_v5 (by decide)).trans (v5_eq m ρ c)))))]
theorem dx_eq : V8 m ρ c main_v13 = resid (Dz m c) (nt (Dp m c) (Win m c)) := by
  refine (W8_arr m ρ c 3).trans ((dx_final (V7 m ρ) c).trans ?_)
  rw [show V7 m ρ c main_arg6 = Dz m c from W7_args m ρ c main_arg6 (by decide),
    show V7 m ρ c main_v5 = Dp m c from
      (W7_of m ρ c main_v5 (by decide)).trans ((W6_of m ρ c main_v5 (by decide)).trans ((W5_of m ρ c main_v5 (by decide)).trans ((W4_of m ρ c main_v5 (by decide)).trans ((W3_of m ρ c main_v5 (by decide)).trans ((W2_of m ρ c main_v5 (by decide)).trans (v5_eq m ρ c)))))),
    show V7 m ρ c main_v1 = Win m c from
      (W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide)).trans (v1_eq m ρ c))))))]

/-- The frame of the reference, from its run. -/
theorem frame_ref : Cert.quiescent_Reference2Ideal := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

/-- The kernel's results are the reference's. -/
theorem results : Cert.algebraic_Kernel2Ideal_Reference2Ideal := fun m ρ m' ρ' _ hm =>
  ⟨fun c => nn (X m c) (Win m c), fun c => Z m c, fun c => ln (Z m c) (asRow (Gn m c)) (asRow (Bn m c)), fun c => tn (Gh m c) (Dz m c), fun c => nt (Dz m c) (Wout m c), fun c => tn (X m c) (Dp m c), fun c => resid (Dz m c) (nt (Dp m c) (Win m c)),
    (θ_run defs _ _).mono (fun _ h c =>
      ⟨(h c _ (mem_uc main_v6 (by decide))).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (inp_eq m ρ c))))))),
        (h c _ (mem_uc main_v9_0 (by decide))).trans ((W8_of m ρ c main_v9_0 (by decide)).trans ((W7_of m ρ c main_v9_0 (by decide)).trans ((W6_of m ρ c main_v9_0 (by decide)).trans ((W5_of m ρ c main_v9_0 (by decide)).trans (z_eq m ρ c))))),
        (h c _ (mem_uc main_v9_1 (by decide))).trans ((W8_of m ρ c main_v9_1 (by decide)).trans ((W7_of m ρ c main_v9_1 (by decide)).trans ((W6_of m ρ c main_v9_1 (by decide)).trans ((W5_of m ρ c main_v9_1 (by decide)).trans (y_eq m ρ c))))),
        (h c _ (mem_uc main_v10 (by decide))).trans ((W8_of m ρ c main_v10 (by decide)).trans ((W7_of m ρ c main_v10 (by decide)).trans ((W6_of m ρ c main_v10 (by decide)).trans (dwo_eq m ρ c)))),
        (h c _ (mem_uc main_v11 (by decide))).trans ((W8_of m ρ c main_v11 (by decide)).trans ((W7_of m ρ c main_v11 (by decide)).trans (dgh_eq m ρ c))),
        (h c _ (mem_uc main_v12 (by decide))).trans ((W8_of m ρ c main_v12 (by decide)).trans (dwi_eq m ρ c)),
        (h c _ (mem_uc main_v13 (by decide))).trans (dx_eq m ρ c),
        (h c _ (mem_uc main_arg0 (by decide))).trans (W8_main_arg0 m ρ c),
        (h c _ (mem_uc main_arg1 (by decide))).trans (W8_main_arg1 m ρ c),
        (h c _ (mem_uc main_arg2 (by decide))).trans (W8_main_arg2 m ρ c),
        (h c _ (mem_uc main_arg3 (by decide))).trans (W8_main_arg3 m ρ c),
        (h c _ (mem_uc main_arg4 (by decide))).trans (W8_main_arg4 m ρ c),
        (h c _ (mem_uc main_arg5 (by decide))).trans (W8_main_arg5 m ρ c),
        (h c _ (mem_uc main_arg6 (by decide))).trans (W8_main_arg6 m ρ c),
        (h c _ (mem_uc main_arg7 (by decide))).trans (W8_main_arg7 m ρ c)⟩) (run_all m ρ),
    (θ_run Cert.Reference2Ideal.defs _ _).mono (fun _ h c => by
      obtain ⟨h0, h1, h2, h3, h4, h5, h6, hargs⟩ := h c
      obtain ⟨e0, e1, e2, e3, e4, e5, e6, e7⟩ := hm c
      refine ⟨h0.trans ?_, h1.trans ?_, h2.trans ?_, h3.trans ?_, h4.trans ?_, h5.trans ?_, h6.trans ?_, hargs⟩
      · rw [Cert.Reference2Ideal.Read.val_main_v0_eq, e0, e1]
        exact ref_inp (X m c) (Win m c)
      · rw [Cert.Reference2Ideal.Read.val_main_v4_eq, e0, e2, e5]
        exact ref_z (X m c) (Wout m c) (Gh m c)
      · rw [Cert.Reference2Ideal.Read.val_main_v41_eq, e0, e2, e3, e4, e5]
        exact ref_ln (X m c) (Wout m c) (Gh m c) (Gn m c) (Bn m c)
      · rw [Cert.Reference2Ideal.Read.val_main_v42_eq, e5, e6]
        exact ref_dwo (Gh m c) (Dz m c)
      · rw [Cert.Reference2Ideal.Read.val_main_v8_eq, e2, e6]
        exact ref_dh (Wout m c) (Dz m c)
      · rw [Cert.Reference2Ideal.Read.val_main_v43_eq, e0, e7]
        exact ref_dwi (X m c) (Dp m c)
      · rw [Cert.Reference2Ideal.Read.val_main_v17_eq, e1, e6, e7]
        exact ref_dx (Win m c) (Dz m c) (Dp m c)
      )
      (Cert.Reference2Ideal.Value.run (F := Ideal) m' ρ')⟩

end Cert.Proof.Lru

end
-- ==== Proof.PoolCalls.lean ====
/-
  Hand-written, untrusted. WHAT EACH CALL AROUND THE POOLING MIXER'S CORE LEAVES IN ITS RESULT, as a function of the arrays it is entered with.
-/
module

public import proofs.«01_k».proof.Proof.Norm
public import proofs.«01_k».proof.Proof.Gen.Kernel3Ideal.Frame
public import Idealize.ShloMosaic.Lib.Pipeline.ValueKit

@[expose] public section

set_option maxRecDepth 16384

noncomputable section

namespace Cert.Proof.Pool

open Idealize.ShloMosaic Idealize.SL.Sem Cert.Kernel3Ideal Cert.Products Cert.Norm
open Cert.Kernel3Ideal.Gen Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## `pool_in` -/

theorem inp_idx : ∀ t : Fin grid0.N, win0_0.index t = ![win0_2.index t 0, 0] ∧ win0_1.index t = ![0, win0_2.index t 1] := by
  decide +kernel
theorem inp_a (t : Fin cfg0.N) : Placed (m := 1024) (n := 1024) (M := 4096) (N := 1024)
    (fun j => (win0_0.blk t).view.emb j) (win0_2.index t 0 * 1024) 0 := fun j => by
  constructor <;> blk_simp [(inp_idx t).1] <;> simp
theorem inp_b (t : Fin cfg0.N) : Placed (m := 1024) (n := 1024) (M := 1024) (N := 1024)
    (fun j => (win0_1.blk t).view.emb j) 0 (win0_2.index t 1 * 1024) := fun j => by
  constructor <;> blk_simp [(inp_idx t).2] <;> simp
theorem inp_o (t : Fin cfg0.N) : Placed (m := 1024) (n := 1024) (M := 4096) (N := 1024)
    (fun j => (win0_2.blk t).view.emb j) (win0_2.index t 0 * 1024) (win0_2.index t 1 * 1024) := fun j => by
  constructor <;> blk_simp
theorem inp_tile (x : Vec Ideal S1024x1024 .bf16) (y : Vec Ideal S1024x1024 .bf16) :
    k0_pay1 x y = nn (M := 1024) (K := 1024) (N := 1024) x y := by
  unfold k0_pay1
  simp only [shapeCast_self]
  exact matmul_nn (M := 1024) (K := 1024) (N := 1024) (φ₁ := .bf16) (φ₂ := .bf16) none x y
/-- The projection after `pool_in`. -/
theorem inp_final (c : Dev nD) : (dat0 V c).arrAt 2 cfg0.N = nn (M := 4096) (K := 1024) (N := 1024) (V c main_v0) (V c main_v1) := by
  refine (dat0 V c).arrAt_eq_of_covers 2 _ (by decide +kernel) fun t hf y => ?_
  blk_simp
  rw [after0_2]
  frame_out
  rw [inp_tile]
  exact nn_tile (V c main_v0) (V c main_v1) (inp_a t) (inp_b t) (inp_o t) y

/-! ## `mix_out_ln` -/

theorem mix_idx : ∀ t : Fin grid1.N, win1_0.index t = ![win1_5.index t 0, 0] ∧ win1_1.index t = ![0, 0]
    ∧ win1_2.index t = win1_5.index t ∧ win1_3.index t = ![0, 0] ∧ win1_4.index t = ![0, 0]
    ∧ win1_6.index t = win1_5.index t ∧ win1_5.index t 1 = 0 := by
  decide +kernel
theorem mix_a (t : Fin cfg1.N) : Placed (m := 512) (n := 1024) (M := 4096) (N := 1024)
    (fun j => (win1_0.blk t).view.emb j) (win1_5.index t 0 * 512) 0 := fun j => by
  constructor <;> blk_simp [(mix_idx t).1] <;> simp
theorem mix_b (t : Fin cfg1.N) : Placed (m := 1024) (n := 1024) (M := 1024) (N := 1024)
    (fun j => (win1_1.blk t).view.emb j) 0 0 := fun j => by
  constructor <;> blk_simp [(mix_idx t).2.1] <;> simp
theorem mix_x (t : Fin cfg1.N) : Placed (m := 512) (n := 1024) (M := 4096) (N := 1024)
    (fun j => (win1_2.blk t).view.emb j) (win1_5.index t 0 * 512) 0 := fun j => by
  constructor <;> blk_simp [(mix_idx t).2.2.1, (mix_idx t).2.2.2.2.2.2] <;> simp
theorem mix_g (t : Fin cfg1.N) : Placed (m := 1) (n := 1024) (M := 1) (N := 1024)
    (fun j => (win1_3.blk t).view.emb j) 0 0 := fun j => by
  constructor <;> blk_simp [(mix_idx t).2.2.2.1] <;> simp
theorem mix_bias (t : Fin cfg1.N) : Placed (m := 1) (n := 1024) (M := 1) (N := 1024)
    (fun j => (win1_4.blk t).view.emb j) 0 0 := fun j => by
  constructor <;> blk_simp [(mix_idx t).2.2.2.2.1] <;> simp
theorem mix_z (t : Fin cfg1.N) : Placed (m := 512) (n := 1024) (M := 4096) (N := 1024)
    (fun j => (win1_5.blk t).view.emb j) (win1_5.index t 0 * 512) 0 := fun j => by
  constructor <;> blk_simp [(mix_idx t).2.2.2.2.2.2] <;> simp
theorem mix_y (t : Fin cfg1.N) : Placed (m := 512) (n := 1024) (M := 4096) (N := 1024)
    (fun j => (win1_6.blk t).view.emb j) (win1_5.index t 0 * 512) 0 := fun j => by
  constructor <;> blk_simp [(mix_idx t).2.2.2.2.2.1, (mix_idx t).2.2.2.2.2.2] <;> simp

/-- The tile's residual sum, and its norm. -/
theorem mix_sum (x : Vec Ideal S512x1024 .bf16) (y : Vec Ideal S1024x1024 .bf16) (d : Vec Ideal S512x1024 .f32) :
    k1_pay2 x y d = resid d (nn (M := 512) (K := 1024) (N := 1024) x y) := by
  unfold k1_pay2
  simp only [shapeCast_self]
  funext i
  exact congrArg (alpha * d i + ·)
    (congrFun (matmul_nn (M := 512) (K := 1024) (N := 1024) (φ₁ := .bf16) (φ₂ := .bf16) none x y) i)
theorem mix_norm (x : Vec Ideal S512x1024 .bf16) (y : Vec Ideal S1024x1024 .bf16) (d : Vec Ideal S512x1024 .f32)
    (g b : Vec Ideal S1x1024 .f32) :
    k1_pay3 x y d g b = ln (resid d (nn (M := 512) (K := 1024) (N := 1024) x y)) g b := by
  unfold k1_pay3
  simp only [shapeCast_self, mix_sum]
  exact ln_kernel (M := 512) (N := 1024) _ g b _ _ _ _ _ _

/-- The array of the sums, as the call finds its operands. -/
abbrev mix_Z (c : Dev nD) : Mat 4096 1024 := resid (V c main_arg0) (nn (M := 4096) (K := 1024) (N := 1024) (V c main_v3) (V c main_v2))

theorem mix_strip (c : Dev nD) (t : Fin cfg1.N) (o : (Sh 512 1024).Idx → (Sh 4096 1024).Idx)
    (ho : Placed o (win1_5.index t 0 * 512) 0) :
    resid (fun j => V c main_arg0 ((win1_2.blk t).view.emb j)) (nn (M := 512) (K := 1024) (N := 1024)
      (fun j => V c main_v3 ((win1_0.blk t).view.emb j)) (fun j => V c main_v2 ((win1_1.blk t).view.emb j)))
      = fun j => mix_Z V c (o j) :=
  funext fun j => congrArg₂ (fun p q : EReal => alpha * p + q) (congrArg (V c main_arg0) (congrFun ((mix_x t).eq ho) j))
    (nn_tile (V c main_v3) (V c main_v2) (mix_a t) (mix_b t) ho j)

/-- The residual sum after `mix_out_ln`. -/
theorem mix_z_final (c : Dev nD) : (dat1 V c).arrAt 5 cfg1.N = mix_Z V c := by
  refine (dat1 V c).arrAt_eq_of_covers 5 _ (by decide +kernel) fun t hf y => ?_
  blk_simp
  rw [after1_5]
  frame_out
  rw [mix_sum]
  exact congrFun (mix_strip V c t _ (mix_z t)) y
/-- Its norm. -/
theorem mix_y_final (c : Dev nD) : (dat1 V c).arrAt 6 cfg1.N = ln (mix_Z V c) (V c main_v7) (V c main_v8) := by
  refine (dat1 V c).arrAt_eq_of_covers 6 _ (by decide +kernel) fun t hf y => ?_
  blk_simp
  rw [after1_6]
  frame_out
  unfold k1_pay4
  frame_out
  rw [mix_norm]
  refine (congrFun (congrArg (fun z => ln z _ _) (mix_strip V c t _ (mix_y t))) y).trans ?_
  exact ln_tile (mix_Z V c) (V c main_v7) (V c main_v8) (mix_y t) (mix_g t) (mix_bias t) y

/-! ## `d_pool_w_out` -/

theorem dwo_idx : ∀ t : Fin grid2.N, win2_0.index t = ![0, win2_2.index t 0] ∧ win2_1.index t = ![0, win2_2.index t 1] := by
  decide +kernel
theorem dwo_a (t : Fin cfg2.N) : Placed (m := 4096) (n := 1024) (M := 4096) (N := 1024)
    (fun j => (win2_0.blk t).view.emb j) 0 (win2_2.index t 0 * 1024) := fun j => by
  constructor <;> blk_simp [(dwo_idx t).1] <;> simp
theorem dwo_b (t : Fin cfg2.N) : Placed (m := 4096) (n := 512) (M := 4096) (N := 1024)
    (fun j => (win2_1.blk t).view.emb j) 0 (win2_2.index t 1 * 512) := fun j => by
  constructor <;> blk_simp [(dwo_idx t).2] <;> simp
theorem dwo_o (t : Fin cfg2.N) : Placed (m := 1024) (n := 512) (M := 1024) (N := 1024)
    (fun j => (win2_2.blk t).view.emb j) (win2_2.index t 0 * 1024) (win2_2.index t 1 * 512) := fun j => by
  constructor <;> blk_simp
theorem dwo_tile (x : Vec Ideal S4096x1024 .bf16) (y : Vec Ideal S4096x512 .bf16) :
    k2_pay1 x y = tn (M := 1024) (K := 4096) (N := 512) x y := by
  unfold k2_pay1
  simp only [shapeCast_self]
  exact matmul_tn (M := 1024) (K := 4096) (N := 512) (φ₁ := .bf16) (φ₂ := .bf16) none x y
/-- The gradient of the output weight. -/
theorem dwo_final (c : Dev nD) : (dat2 V c).arrAt 2 cfg2.N = tn (M := 1024) (K := 4096) (N := 1024) (V c main_v3) (V c main_v4) := by
  refine (dat2 V c).arrAt_eq_of_covers 2 _ (by decide +kernel) fun t hf y => ?_
  blk_simp
  rw [after2_2]
  frame_out
  rw [dwo_tile]
  exact tn_tile (V c main_v3) (V c main_v4) (dwo_a t) (dwo_b t) (dwo_o t) y

/-! ## `d_zs` -/

theorem dzs_idx : ∀ t : Fin grid3.N, win3_0.index t = ![win3_2.index t 0, 0] ∧ win3_1.index t = ![win3_2.index t 1, 0] := by
  decide +kernel
theorem dzs_a (t : Fin cfg3.N) : Placed (m := 1024) (n := 1024) (M := 4096) (N := 1024)
    (fun j => (win3_0.blk t).view.emb j) (win3_2.index t 0 * 1024) 0 := fun j => by
  constructor <;> blk_simp [(dzs_idx t).1] <;> simp
theorem dzs_b (t : Fin cfg3.N) : Placed (m := 1024) (n := 1024) (M := 1024) (N := 1024)
    (fun j => (win3_1.blk t).view.emb j) (win3_2.index t 1 * 1024) 0 := fun j => by
  constructor <;> blk_simp [(dzs_idx t).2] <;> simp
theorem dzs_o (t : Fin cfg3.N) : Placed (m := 1024) (n := 1024) (M := 4096) (N := 1024)
    (fun j => (win3_2.blk t).view.emb j) (win3_2.index t 0 * 1024) (win3_2.index t 1 * 1024) := fun j => by
  constructor <;> blk_simp
theorem dzs_tile (x : Vec Ideal S1024x1024 .bf16) (y : Vec Ideal S1024x1024 .bf16) :
    k3_pay1 x y = nt (M := 1024) (K := 1024) (N := 1024) x y := by
  unfold k3_pay1
  simp only [shapeCast_self]
  exact matmul_nt (M := 1024) (K := 1024) (N := 1024) (φ₁ := .bf16) (φ₂ := .bf16) none x y
/-- The gradient of the core's result. -/
theorem dzs_final (c : Dev nD) : (dat3 V c).arrAt 2 cfg3.N = nt (M := 4096) (K := 1024) (N := 1024) (V c main_v4) (V c main_v2) := by
  refine (dat3 V c).arrAt_eq_of_covers 2 _ (by decide +kernel) fun t hf y => ?_
  blk_simp
  rw [after3_2]
  frame_out
  rw [dzs_tile]
  exact nt_tile (V c main_v4) (V c main_v2) (dzs_a t) (dzs_b t) (dzs_o t) y

/-! ## `d_pool_w_in` -/

theorem dwi_idx : ∀ t : Fin grid4.N, win4_0.index t = ![0, win4_2.index t 0] ∧ win4_1.index t = ![0, win4_2.index t 1] := by
  decide +kernel
theorem dwi_a (t : Fin cfg4.N) : Placed (m := 4096) (n := 1024) (M := 4096) (N := 1024)
    (fun j => (win4_0.blk t).view.emb j) 0 (win4_2.index t 0 * 1024) := fun j => by
  constructor <;> blk_simp [(dwi_idx t).1] <;> simp
theorem dwi_b (t : Fin cfg4.N) : Placed (m := 4096) (n := 512) (M := 4096) (N := 1024)
    (fun j => (win4_1.blk t).view.emb j) 0 (win4_2.index t 1 * 512) := fun j => by
  constructor <;> blk_simp [(dwi_idx t).2] <;> simp
theorem dwi_o (t : Fin cfg4.N) : Placed (m := 1024) (n := 512) (M := 1024) (N := 1024)
    (fun j => (win4_2.blk t).view.emb j) (win4_2.index t 0 * 1024) (win4_2.index t 1 * 512) := fun j => by
  constructor <;> blk_simp
theorem dwi_tile (x : Vec Ideal S4096x1024 .bf16) (y : Vec Ideal S4096x512 .bf16) :
    k4_pay1 x y = tn (M := 1024) (K := 4096) (N := 512) x y := by
  unfold k4_pay1
  simp only [shapeCast_self]
  exact matmul_tn (M := 1024) (K := 4096) (N := 512) (φ₁ := .bf16) (φ₂ := .bf16) none x y
/-- The gradient of the input weight. -/
theorem dwi_final (c : Dev nD) : (dat4 V c).arrAt 2 cfg4.N = tn (M := 1024) (K := 4096) (N := 1024) (V c main_v0) (V c main_v5) := by
  refine (dat4 V c).arrAt_eq_of_covers 2 _ (by decide +kernel) fun t hf y => ?_
  blk_simp
  rw [after4_2]
  frame_out
  rw [dwi_tile]
  exact tn_tile (V c main_v0) (V c main_v5) (dwi_a t) (dwi_b t) (dwi_o t) y

end Cert.Proof.Pool

end
-- ==== Proof.PoolRef.lean ====
/-
  Hand-written, untrusted. THE PRODUCTS AROUND THE POOLING MIXER'S CORE, AS THE REFERENCE WRITES THEM: the same functions of the same arrays.
-/
module

public import proofs.«01_k».proof.Proof.PoolCalls
public import proofs.«01_k».proof.Proof.Gen.Reference3Ideal.Read

@[expose] public section

noncomputable section

namespace Cert.Proof.Pool

open Idealize.ShloMosaic Idealize.ShloMosaic.ValueIdx Cert.Products Cert.Norm Cert.Reference3Ideal.Read

variable (x : Mat 4096 1024) (wi : Mat 1024 1024) (wo : Mat 1024 1024) (h : Mat 4096 1024) (dz : Mat 4096 1024) (dp : Mat 4096 1024)

theorem ref_inp : val_main_v0 (F := Ideal) x wi = nn x wi := by
  funext i; rw [val_main_v0_apply]
  exact Finset.sum_congr rfl fun k _ => congrArg₂ (· * ·) (congrArg x (Products.eq_ix2 _)) (congrArg wi (Products.eq_ix2 _))

theorem ref_out : val_main_v3 (F := Ideal) wo h = nn h wo := by
  funext i; rw [val_main_v3_apply]
  exact Finset.sum_congr rfl fun k _ => congrArg₂ (· * ·) (congrArg h (Products.eq_ix2 _)) (congrArg wo (Products.eq_ix2 _))

theorem ref_z : val_main_v4 (F := Ideal) x wo h = resid x (nn h wo) := by
  funext i
  rw [val_main_v4_apply, ref_out, val_main_v2_apply, val_main_v1_apply, val_main_cst_apply]; rfl

theorem ref_ln (g b : FVec Ideal ⟨1, ![1024]⟩ .f32) :
    val_main_v35 (F := Ideal) x wo g b h = ln (resid x (nn h wo)) (asRow g) (asRow b) := by
  refine (ln_host (M := 4096) (N := 1024) (val_main_v4 (F := Ideal) x wo h) (val_main_v30 (F := Ideal) g) (val_main_v33 (F := Ideal) b)
    _ (by decide) _ _ _ _ _ (val_main_v15 (F := Ideal) x wo h) (val_main_v22 (F := Ideal) x wo h) rfl rfl).trans ?_
  rw [ref_z, show val_main_v30 (F := Ideal) g = asRow g from row_host _ g, show val_main_v33 (F := Ideal) b = asRow b from row_host _ b]

theorem ref_dwo : val_main_v36 (F := Ideal) h dz = tn h dz := by
  funext i
  rw [val_main_v36_apply]
  show val_main_v7 (F := Ideal) h dz i = _
  rw [val_main_v7_apply, val_main_v6_apply]
  exact Finset.sum_congr rfl fun k _ =>
    (mul_comm _ _).trans (congrArg₂ (· * ·) (congrArg h (Products.eq_ix2 _)) (congrArg dz (Products.eq_ix2 _)))

theorem ref_dh : val_main_v8 (F := Ideal) wo dz = nt dz wo := by
  funext i; rw [val_main_v8_apply]
  exact Finset.sum_congr rfl fun k _ => congrArg₂ (· * ·) (congrArg dz (Products.eq_ix2 _)) (congrArg wo (Products.eq_ix2 _))

theorem ref_dwi : val_main_v37 (F := Ideal) x dp = tn x dp := by
  funext i
  rw [val_main_v37_apply]
  show val_main_v11 (F := Ideal) x dp i = _
  rw [val_main_v11_apply, val_main_v10_apply]
  exact Finset.sum_congr rfl fun k _ =>
    (mul_comm _ _).trans (congrArg₂ (· * ·) (congrArg x (Products.eq_ix2 _)) (congrArg dp (Products.eq_ix2 _)))

end Cert.Proof.Pool

end
-- ==== Proof.PoolValue.lean ====
/-
  Hand-written, untrusted. THE CALLS AROUND THE POOLING MIXER'S CORE IN A ROW: one run of the program with every buffer's contents at the end, its
  results as functions of the arguments, and the reference's results as the same functions.
-/
module

public import proofs.«01_k».proof.Proof.PoolCalls
public import proofs.«01_k».proof.Proof.PoolRef
public import proofs.«01_k».proof.Defs

@[expose] public section

set_option maxRecDepth 16384

noncomputable section

namespace Cert.Proof.Pool

open Idealize.ShloMosaic Idealize.SL.Sem Cert.Kernel3Ideal Cert.Products Cert.Norm
open Idealize.SL Idealize.SL.RA Idealize.SL.BI
open scoped Idealize.SL.BI
open Idealize.ShloMosaic.Rounds
open Idealize.SL.BI.BIBase Idealize.SL.BI.Laws Idealize.SL.ProofMode
open Cert.Kernel3Ideal.Gen Idealize.ShloMosaic.TcCoe Idealize.ShloMosaic.ValueIdx
open Idealize.ShloMosaic.Pipeline (Dat Cfg Window cellOf)

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The program runs, and every buffer ends at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

variable (m : (ℓ : Loc nD τ sig) → Buf (Elt Ideal) ℓ) (ρ : Dev nD → PrngReg) (c : Dev nD)

/-- The arguments as arrays. -/
abbrev X : Mat 4096 1024 := m ((c : Thread nD τ).loc main_arg0)
abbrev Win : Mat 1024 1024 := m ((c : Thread nD τ).loc main_arg1)
abbrev Wout : Mat 1024 1024 := m ((c : Thread nD τ).loc main_arg2)
abbrev Gn : FVec Ideal ⟨1, ![1024]⟩ .f32 := m ((c : Thread nD τ).loc main_arg3)
abbrev Bn : FVec Ideal ⟨1, ![1024]⟩ .f32 := m ((c : Thread nD τ).loc main_arg4)
abbrev Zs : Mat 4096 1024 := m ((c : Thread nD τ).loc main_arg5)
abbrev Dz : Mat 4096 1024 := m ((c : Thread nD τ).loc main_arg6)
abbrev Du : Mat 4096 1024 := m ((c : Thread nD τ).loc main_arg7)
/-- The residual sum, as a function of the arguments. -/
abbrev Z : Mat 4096 1024 := resid (X m c) (nn (Zs m c) (Wout m c))

/-- What the operations between the calls compute. -/
theorem v0_eq : V1 m ρ c main_v0 = X m c := by
  show StableHlo.after hostOps0 (W0 m ρ c) (Proc.devRef .tc main_v0) = _
  simp only [hostOps0]; after_results; rfl
theorem v1_eq : V1 m ρ c main_v1 = Win m c := by
  show StableHlo.after hostOps0 (W0 m ρ c) (Proc.devRef .tc main_v1) = _
  simp only [hostOps0]; after_results; rfl
theorem v2_eq : V1 m ρ c main_v2 = Wout m c := by
  show StableHlo.after hostOps0 (W0 m ρ c) (Proc.devRef .tc main_v2) = _
  simp only [hostOps0]; after_results; rfl
theorem v3_eq : V1 m ρ c main_v3 = Zs m c := by
  show StableHlo.after hostOps0 (W0 m ρ c) (Proc.devRef .tc main_v3) = _
  simp only [hostOps0]; after_results; rfl
theorem v4_eq : V1 m ρ c main_v4 = Dz m c := by
  show StableHlo.after hostOps0 (W0 m ρ c) (Proc.devRef .tc main_v4) = _
  simp only [hostOps0]; after_results; rfl
theorem v5_eq : V1 m ρ c main_v5 = Du m c := by
  show StableHlo.after hostOps0 (W0 m ρ c) (Proc.devRef .tc main_v5) = _
  simp only [hostOps0]; after_results; rfl
theorem v7_eq : V3 m ρ c main_v7 = asRow (Gn m c) := by
  refine Eq.trans ?_ (row_host (N := 1024) bcast_S1024_S1x1024_1 (Gn m c))
  show StableHlo.after hostOps1 (W2 m ρ c) (Proc.devRef .tc main_v7) = _
  simp only [hostOps1]; after_results
  exact congrArg _ (W2_args m ρ c main_arg3 (by decide))
theorem v8_eq : V3 m ρ c main_v8 = asRow (Bn m c) := by
  refine Eq.trans ?_ (row_host (N := 1024) bcast_S1024_S1x1024_1 (Bn m c))
  show StableHlo.after hostOps1 (W2 m ρ c) (Proc.devRef .tc main_v8) = _
  simp only [hostOps1]; after_results
  exact congrArg _ (W2_args m ρ c main_arg4 (by decide))

/-- What each call leaves. -/
theorem inp_eq : V2 m ρ c main_v6 = nn (X m c) (Win m c) := by
  refine (W2_arr m ρ c 2).trans ((inp_final (V1 m ρ) c).trans ?_)
  rw [show V1 m ρ c main_v0 = X m c from v0_eq m ρ c,
    show V1 m ρ c main_v1 = Win m c from v1_eq m ρ c]
theorem z_eq : V4 m ρ c main_v9_0 = Z m c := by
  refine (W4_arr m ρ c 5).trans ((mix_z_final (V3 m ρ) c).trans ?_)
  unfold mix_Z
  rw [show V3 m ρ c main_arg0 = X m c from W3_args m ρ c main_arg0 (by decide),
    show V3 m ρ c main_v3 = Zs m c from
      (W3_of m ρ c main_v3 (by decide)).trans ((W2_of m ρ c main_v3 (by decide)).trans (v3_eq m ρ c)),
    show V3 m ρ c main_v2 = Wout m c from
      (W3_of m ρ c main_v2 (by decide)).trans ((W2_of m ρ c main_v2 (by decide)).trans (v2_eq m ρ c))]
theorem y_eq : V4 m ρ c main_v9_1 = ln (Z m c) (asRow (Gn m c)) (asRow (Bn m c)) := by
  refine (W4_arr m ρ c 6).trans ((mix_y_final (V3 m ρ) c).trans ?_)
  unfold mix_Z
  rw [show V3 m ρ c main_arg0 = X m c from W3_args m ρ c main_arg0 (by decide),
    show V3 m ρ c main_v3 = Zs m c from
      (W3_of m ρ c main_v3 (by decide)).trans ((W2_of m ρ c main_v3 (by decide)).trans (v3_eq m ρ c)),
    show V3 m ρ c main_v2 = Wout m c from
      (W3_of m ρ c main_v2 (by decide)).trans ((W2_of m ρ c main_v2 (by decide)).trans (v2_eq m ρ c)),
    show V3 m ρ c main_v7 = asRow (Gn m c) from v7_eq m ρ c,
    show V3 m ρ c main_v8 = asRow (Bn m c) from v8_eq m ρ c]
theorem dwo_eq : V5 m ρ c main_v10 = tn (Zs m c) (Dz m c) := by
  refine (W5_arr m ρ c 2).trans ((dwo_final (V4 m ρ) c).trans ?_)
  rw [show V4 m ρ c main_v3 = Zs m c from
      (W4_of m ρ c main_v3 (by decide)).trans ((W3_of m ρ c main_v3 (by decide)).trans ((W2_of m ρ c main_v3 (by decide)).trans (v3_eq m ρ c))),
    show V4 m ρ c main_v4 = Dz m c from
      (W4_of m ρ c main_v4 (by decide)).trans ((W3_of m ρ c main_v4 (by decide)).trans ((W2_of m ρ c main_v4 (by decide)).trans (v4_eq m ρ c)))]
theorem dzs_eq : V6 m ρ c main_v11 = nt (Dz m c) (Wout m c) := by
  refine (W6_arr m ρ c 2).trans ((dzs_final (V5 m ρ) c).trans ?_)
  rw [show V5 m ρ c main_v4 = Dz m c from
      (W5_of m ρ c main_v4 (by decide)).trans ((W4_of m ρ c main_v4 (by decide)).trans ((W3_of m ρ c main_v4 (by decide)).trans ((W2_of m ρ c main_v4 (by decide)).trans (v4_eq m ρ c)))),
    show V5 m ρ c main_v2 = Wout m c from
      (W5_of m ρ c main_v2 (by decide)).trans ((W4_of m ρ c main_v2 (by decide)).trans ((W3_of m ρ c main_v2 (by decide)).trans ((W2_of m ρ c main_v2 (by decide)).trans (v2_eq m ρ c))))]
theorem dwi_eq : V7 m ρ c main_v12 = tn (X m c) (Du m c) := by
  refine (W7_arr m ρ c 2).trans ((dwi_final (V6 m ρ) c).trans ?_)
  rw [show V6 m ρ c main_v0 = X m c from
      (W6_of m ρ c main_v0 (by decide)).trans ((W5_of m ρ c main_v0 (by decide)).trans ((W4_of m ρ c main_v0 (by decide)).trans ((W3_of m ρ c main_v0 (by decide)).trans ((W2_of m ρ c main_v0 (by decide)).trans (v0_eq m ρ c))))),
    show V6 m ρ c main_v5 = Du m c from
      (W6_of m ρ c main_v5 (by decide)).trans ((W5_of m ρ c main_v5 (by decide)).trans ((W4_of m ρ c main_v5 (by decide)).trans ((W3_of m ρ c main_v5 (by decide)).trans ((W2_of m ρ c main_v5 (by decide)).trans (v5_eq m ρ c)))))]

/-- The frame of the reference, from its run. -/
theorem frame_ref : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

/-- The kernel's results are the reference's. -/
theorem results : Cert.algebraic_Kernel3Ideal_Reference3Ideal := fun m ρ m' ρ' _ hm =>
  ⟨fun c => nn (X m c) (Win m c), fun c => Z m c, fun c => ln (Z m c) (asRow (Gn m c)) (asRow (Bn m c)), fun c => tn (Zs m c) (Dz m c), fun c => nt (Dz m c) (Wout m c), fun c => tn (X m c) (Du m c),
    (θ_run defs _ _).mono (fun _ h c =>
      ⟨(h c _ (mem_uc main_v6 (by decide))).trans ((W7_of m ρ c main_v6 (by decide)).trans ((W6_of m ρ c main_v6 (by decide)).trans ((W5_of m ρ c main_v6 (by decide)).trans ((W4_of m ρ c main_v6 (by decide)).trans ((W3_of m ρ c main_v6 (by decide)).trans (inp_eq m ρ c)))))),
        (h c _ (mem_uc main_v9_0 (by decide))).trans ((W7_of m ρ c main_v9_0 (by decide)).trans ((W6_of m ρ c main_v9_0 (by decide)).trans ((W5_of m ρ c main_v9_0 (by decide)).trans (z_eq m ρ c)))),
        (h c _ (mem_uc main_v9_1 (by decide))).trans ((W7_of m ρ c main_v9_1 (by decide)).trans ((W6_of m ρ c main_v9_1 (by decide)).trans ((W5_of m ρ c main_v9_1 (by decide)).trans (y_eq m ρ c)))),
        (h c _ (mem_uc main_v10 (by decide))).trans ((W7_of m ρ c main_v10 (by decide)).trans ((W6_of m ρ c main_v10 (by decide)).trans (dwo_eq m ρ c))),
        (h c _ (mem_uc main_v11 (by decide))).trans ((W7_of m ρ c main_v11 (by decide)).trans (dzs_eq m ρ c)),
        (h c _ (mem_uc main_v12 (by decide))).trans (dwi_eq m ρ c),
        (h c _ (mem_uc main_arg0 (by decide))).trans (W7_main_arg0 m ρ c),
        (h c _ (mem_uc main_arg1 (by decide))).trans (W7_main_arg1 m ρ c),
        (h c _ (mem_uc main_arg2 (by decide))).trans (W7_main_arg2 m ρ c),
        (h c _ (mem_uc main_arg3 (by decide))).trans (W7_main_arg3 m ρ c),
        (h c _ (mem_uc main_arg4 (by decide))).trans (W7_main_arg4 m ρ c),
        (h c _ (mem_uc main_arg5 (by decide))).trans (W7_main_arg5 m ρ c),
        (h c _ (mem_uc main_arg6 (by decide))).trans (W7_main_arg6 m ρ c),
        (h c _ (mem_uc main_arg7 (by decide))).trans (W7_main_arg7 m ρ c)⟩) (run_all m ρ),
    (θ_run Cert.Reference3Ideal.defs _ _).mono (fun _ h c => by
      obtain ⟨h0, h1, h2, h3, h4, h5, hargs⟩ := h c
      obtain ⟨e0, e1, e2, e3, e4, e5, e6, e7⟩ := hm c
      refine ⟨h0.trans ?_, h1.trans ?_, h2.trans ?_, h3.trans ?_, h4.trans ?_, h5.trans ?_, hargs⟩
      · rw [Cert.Reference3Ideal.Read.val_main_v0_eq, e0, e1]
        exact ref_inp (X m c) (Win m c)
      · rw [Cert.Reference3Ideal.Read.val_main_v4_eq, e0, e2, e5]
        exact ref_z (X m c) (Wout m c) (Zs m c)
      · rw [Cert.Reference3Ideal.Read.val_main_v35_eq, e0, e2, e3, e4, e5]
        exact ref_ln (X m c) (Wout m c) (Zs m c) (Gn m c) (Bn m c)
      · rw [Cert.Reference3Ideal.Read.val_main_v36_eq, e5, e6]
        exact ref_dwo (Zs m c) (Dz m c)
      · rw [Cert.Reference3Ideal.Read.val_main_v8_eq, e2, e6]
        exact ref_dh (Wout m c) (Dz m c)
      · rw [Cert.Reference3Ideal.Read.val_main_v37_eq, e0, e7]
        exact ref_dwi (X m c) (Du m c)
      )
      (Cert.Reference3Ideal.Value.run (F := Ideal) m' ρ')⟩

end Cert.Proof.Pool

end
-- ==== Proof.PleCalls.lean ====
/-
  Hand-written, untrusted. WHAT EACH CALL OF THE PER-LAYER EMBEDDING LEAVES IN ITS RESULT, as a function of the arrays it is entered with.
-/
module

public import proofs.«01_k».proof.Proof.Norm
public import proofs.«01_k».proof.Proof.Gen.Kernel4Ideal.Frame
public import Idealize.ShloMosaic.Lib.Pipeline.ValueKit

@[expose] public section

set_option maxRecDepth 16384

noncomputable section

namespace Cert.Proof.Ple

open Idealize.ShloMosaic Idealize.SL.Sem Cert.Kernel4Ideal Cert.Products Cert.Norm
open Cert.Kernel4Ideal.Gen Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The embeddings of the layer the program is written for. -/
def layer (p : (⟨3, ![4, 4096, 256]⟩ : Shape).Idx → EReal) : Mat 4096 256 := fun i => p (ValueIdx.ix3 2 (row i) (col i))
/-- One over one plus the exponential of the negative, and the gated sum. -/
def sigm (x : Mat 4096 1024) : Mat 4096 1024 := fun i => Ideal.logistic (x i)
def gate (x : Mat 4096 1024) (w : Mat 1024 1024) (b : Mat 1 1024) : Mat 4096 1024 := fun i => nn x w i + b (ValueIdx.ix2 0 (col i))
def gated (x : Mat 4096 1024) (w : Mat 1024 1024) (b : Mat 1 1024) (y pp : Mat 4096 1024) : Mat 4096 1024 :=
  fun i => y i + pp i * Ideal.logistic (gate x w b i)

/-! ## `ple_up` -/

theorem up_idx : ∀ t : Fin grid0.N, win0_0.index t = ![2, win0_2.index t 0, 0] ∧ win0_1.index t = ![0, win0_2.index t 1] := by
  decide +kernel
/-- Where the layer's block lies. -/
def up_p (t : Fin cfg0.N) : (Sh 1024 256).Idx → (Sh 4096 256).Idx := fun j =>
  ValueIdx.ix2 ((win0_0.blk t).view.emb (ValueIdx.ix3 0 (row j) (col j)) 1) ((win0_0.blk t).view.emb (ValueIdx.ix3 0 (row j) (col j)) 2)
theorem up_lead (t : Fin cfg0.N) (j : (Sh 1024 256).Idx) :
    (win0_0.blk t).view.emb (ValueIdx.ix3 0 (row j) (col j)) = ValueIdx.ix3 2 (row (up_p t j)) (col (up_p t j)) := by
  funext a; apply Fin.ext
  match a with
  | ⟨0, _⟩ => blk_simp [(up_idx t).1]; rfl
  | ⟨1, _⟩ => rfl
  | ⟨2, _⟩ => rfl
theorem up_a (t : Fin cfg0.N) : Placed (up_p t) (win0_2.index t 0 * 1024) 0 := fun j => by
  constructor
  · show ((win0_0.blk t).view.emb (ValueIdx.ix3 0 (row j) (col j)) 1).val = _
    blk_simp [(up_idx t).1] <;> simp [row] <;> rfl
  · show ((win0_0.blk t).view.emb (ValueIdx.ix3 0 (row j) (col j)) 2).val = _
    blk_simp [(up_idx t).1] <;> simp [col] <;> rfl
theorem up_b (t : Fin cfg0.N) : Placed (m := 256) (n := 1024) (M := 256) (N := 1024)
    (fun j => (win0_1.blk t).view.emb j) 0 (win0_2.index t 1 * 1024) := fun j => by
  constructor <;> blk_simp [(up_idx t).2] <;> simp
theorem up_o (t : Fin cfg0.N) : Placed (m := 1024) (n := 1024) (M := 4096) (N := 1024)
    (fun j => (win0_2.blk t).view.emb j) (win0_2.index t 0 * 1024) (win0_2.index t 1 * 1024) := fun j => by
  constructor <;> blk_simp
theorem up_tile (x : Vec Ideal S1x1024x256 .f32) (y : Vec Ideal S256x1024 .bf16) :
    k0_pay1 x y = nn (M := 1024) (K := 256) (N := 1024) (fun i => x (ValueIdx.ix3 0 (row i) (col i))) y := by
  unfold k0_pay1
  simp only [shapeCast_self]
  refine (matmul_nn (M := 1024) (K := 256) (N := 1024) (φ₁ := .bf16) (φ₂ := .bf16) none _ y).trans (congrArg (fun a => nn a y) (funext fun i => ?_))
  show shapeCast S1024x256 x shapeCasts_S1x1024x256_S1024x256 i = _
  refine (congrArg _ (Products.eq_ix2 i)).trans ?_
  exact shapeCast_1ab_ab_apply x _ (row i) (col i)
/-- The embedding's product. -/
theorem up_final (c : Dev nD) : (dat0 V c).arrAt 2 cfg0.N = nn (M := 4096) (K := 256) (N := 1024) (layer (V c main_arg1)) (V c main_v1) := by
  refine (dat0 V c).arrAt_eq_of_covers 2 _ (by decide +kernel) fun t hf y => ?_
  blk_simp
  rw [after0_2]
  frame_out
  rw [up_tile]
  refine Eq.trans ?_ (nn_tile (layer (V c main_arg1)) (V c main_v1) (up_a t) (up_b t) (up_o t) y)
  exact congrFun (congrArg (fun a => nn (M := 1024) (K := 256) (N := 1024) a _) (funext fun j => congrArg (V c main_arg1) (up_lead t j))) y

/-! ## `ple_gate` -/

theorem gate_idx : ∀ t : Fin grid1.N, win1_0.index t = ![win1_5.index t 0, 0] ∧ win1_1.index t = ![0, 0]
    ∧ win1_2.index t = ![0, 0] ∧ win1_3.index t = win1_5.index t ∧ win1_4.index t = win1_5.index t ∧ win1_5.index t 1 = 0 := by
  decide +kernel
theorem gate_a (t : Fin cfg1.N) : Placed (m := 512) (n := 1024) (M := 4096) (N := 1024)
    (fun j => (win1_0.blk t).view.emb j) (win1_5.index t 0 * 512) 0 := fun j => by
  constructor <;> blk_simp [(gate_idx t).1] <;> simp
theorem gate_b (t : Fin cfg1.N) : Placed (m := 1024) (n := 1024) (M := 1024) (N := 1024)
    (fun j => (win1_1.blk t).view.emb j) 0 0 := fun j => by
  constructor <;> blk_simp [(gate_idx t).2.1] <;> simp
theorem gate_bias (t : Fin cfg1.N) : Placed (m := 1) (n := 1024) (M := 1) (N := 1024)
    (fun j => (win1_2.blk t).view.emb j) 0 0 := fun j => by
  constructor <;> blk_simp [(gate_idx t).2.2.1] <;> simp
theorem gate_x (t : Fin cfg1.N) : Placed (m := 512) (n := 1024) (M := 4096) (N := 1024)
    (fun j => (win1_3.blk t).view.emb j) (win1_5.index t 0 * 512) 0 := fun j => by
  constructor <;> blk_simp [(gate_idx t).2.2.2.1, (gate_idx t).2.2.2.2.2] <;> simp
theorem gate_pp (t : Fin cfg1.N) : Placed (m := 512) (n := 1024) (M := 4096) (N := 1024)
    (fun j => (win1_4.blk t).view.emb j) (win1_5.index t 0 * 512) 0 := fun j => by
  constructor <;> blk_simp [(gate_idx t).2.2.2.2.1, (gate_idx t).2.2.2.2.2] <;> simp
theorem gate_o (t : Fin cfg1.N) : Placed (m := 512) (n := 1024) (M := 4096) (N := 1024)
    (fun j => (win1_5.blk t).view.emb j) (win1_5.index t 0 * 512) 0 := fun j => by
  constructor <;> blk_simp [(gate_idx t).2.2.2.2.2] <;> simp
theorem gate_tile (x : Vec Ideal S512x1024 .bf16) (w : Vec Ideal S1024x1024 .bf16) (b : Vec Ideal S1x1024 .f32)
    (y pp : Vec Ideal S512x1024 .f32) :
    k1_pay2 x w b y pp = fun i => y i + pp i * Ideal.logistic (nn (M := 512) (K := 1024) (N := 1024) x w i + b (ValueIdx.ix2 0 (col (M := 512) (N := 1024) i))) := by
  unfold k1_pay2 k1_pay1
  simp only [shapeCast_self]
  funext i
  exact congrArg₂ (fun p q : EReal => y i + pp i * Ideal.logistic (p + q))
    (congrFun (matmul_nn (M := 512) (K := 1024) (N := 1024) (φ₁ := .bf16) (φ₂ := .bf16) none x w) i)
    (congrFun (row_column (M := 512) (N := 1024) b _) i)
/-- The gated sum. -/
theorem gated_final (c : Dev nD) : (dat1 V c).arrAt 5 cfg1.N
    = gated (V c main_v0) (V c main_v2) (V c main_v6) (V c main_arg0) (V c main_v5) := by
  refine (dat1 V c).arrAt_eq_of_covers 5 _ (by decide +kernel) fun t hf y => ?_
  blk_simp
  rw [after1_5]
  frame_out
  rw [gate_tile]
  have hy := congrFun ((gate_x t).eq (gate_o t)) y
  have hp := congrFun ((gate_pp t).eq (gate_o t)) y
  have hn := nn_tile (V c main_v0) (V c main_v2) (gate_a t) (gate_b t) (gate_o t) y
  have hb := (gate_bias t).at (ValueIdx.ix2 0 (col (M := 512) (N := 1024) y)) (ValueIdx.ix2 0 (col (M := 4096) (N := 1024) ((win1_5.blk t).view.emb y)))
    (Nat.zero_add _).symm (by rw [Nat.zero_add]; exact ((gate_o t y).2.trans (Nat.zero_add _)))
  have e := congr (congrArg₂ (fun (p q r : EReal) => p + q * Ideal.logistic r) (congrArg (V c main_arg0) hy) (congrArg (V c main_v5) hp))
    (congrArg₂ (· + ·) hn (congrArg (V c main_v6) hb))
  exact e

/-! ## `d_ple_w` -/

theorem dpw_idx : ∀ t : Fin grid2.N, win2_0.index t = ![2, 0, win2_2.index t 0] ∧ win2_1.index t = ![0, win2_2.index t 1] := by
  decide +kernel
/-- Where the layer's block lies. -/
def dpw_p (t : Fin cfg2.N) : (Sh 4096 256).Idx → (Sh 4096 256).Idx := fun j =>
  ValueIdx.ix2 ((win2_0.blk t).view.emb (ValueIdx.ix3 0 (row j) (col j)) 1) ((win2_0.blk t).view.emb (ValueIdx.ix3 0 (row j) (col j)) 2)
theorem dpw_lead (t : Fin cfg2.N) (j : (Sh 4096 256).Idx) :
    (win2_0.blk t).view.emb (ValueIdx.ix3 0 (row j) (col j)) = ValueIdx.ix3 2 (row (dpw_p t j)) (col (dpw_p t j)) := by
  funext a; apply Fin.ext
  match a with
  | ⟨0, _⟩ => blk_simp [(dpw_idx t).1]; rfl
  | ⟨1, _⟩ => rfl
  | ⟨2, _⟩ => rfl
theorem dpw_a (t : Fin cfg2.N) : Placed (dpw_p t) 0 (win2_2.index t 0 * 256) := fun j => by
  constructor
  · show ((win2_0.blk t).view.emb (ValueIdx.ix3 0 (row j) (col j)) 1).val = _
    blk_simp [(dpw_idx t).1] <;> simp [row] <;> rfl
  · show ((win2_0.blk t).view.emb (ValueIdx.ix3 0 (row j) (col j)) 2).val = _
    blk_simp [(dpw_idx t).1] <;> simp [col] <;> rfl
theorem dpw_b (t : Fin cfg2.N) : Placed (m := 4096) (n := 512) (M := 4096) (N := 1024)
    (fun j => (win2_1.blk t).view.emb j) 0 (win2_2.index t 1 * 512) := fun j => by
  constructor <;> blk_simp [(dpw_idx t).2] <;> simp
theorem dpw_o (t : Fin cfg2.N) : Placed (m := 256) (n := 512) (M := 256) (N := 1024)
    (fun j => (win2_2.blk t).view.emb j) (win2_2.index t 0 * 256) (win2_2.index t 1 * 512) := fun j => by
  constructor <;> blk_simp
theorem dpw_tile (x : Vec Ideal S1x4096x256 .f32) (y : Vec Ideal S4096x512 .bf16) :
    k2_pay1 x y = tn (M := 256) (K := 4096) (N := 512) (fun i => x (ValueIdx.ix3 0 (row i) (col i))) y := by
  unfold k2_pay1
  simp only [shapeCast_self]
  refine (matmul_tn (M := 256) (K := 4096) (N := 512) (φ₁ := .bf16) (φ₂ := .bf16) none _ y).trans (congrArg (fun a => tn a y) (funext fun i => ?_))
  show shapeCast S4096x256 x shapeCasts_S1x4096x256_S4096x256 i = _
  refine (congrArg _ (Products.eq_ix2 i)).trans ?_
  exact shapeCast_1ab_ab_apply x _ (row i) (col i)
/-- The gradient of the embedding's weight. -/
theorem dpw_final (c : Dev nD) : (dat2 V c).arrAt 2 cfg2.N = tn (M := 256) (K := 4096) (N := 1024) (layer (V c main_arg1)) (V c main_v3) := by
  refine (dat2 V c).arrAt_eq_of_covers 2 _ (by decide +kernel) fun t hf y => ?_
  blk_simp
  rw [after2_2]
  frame_out
  rw [dpw_tile]
  refine Eq.trans ?_ (tn_tile (layer (V c main_arg1)) (V c main_v3) (dpw_a t) (dpw_b t) (dpw_o t) y)
  exact congrFun (congrArg (fun a => tn (M := 256) (K := 4096) (N := 512) a _) (funext fun j => congrArg (V c main_arg1) (dpw_lead t j))) y

/-! ## `d_ple_gate_w` -/

theorem dgw_idx : ∀ t : Fin grid3.N, win3_0.index t = ![0, win3_2.index t 0] ∧ win3_1.index t = ![0, win3_2.index t 1] := by
  decide +kernel
theorem dgw_a (t : Fin cfg3.N) : Placed (m := 4096) (n := 1024) (M := 4096) (N := 1024)
    (fun j => (win3_0.blk t).view.emb j) 0 (win3_2.index t 0 * 1024) := fun j => by
  constructor <;> blk_simp [(dgw_idx t).1] <;> simp
theorem dgw_b (t : Fin cfg3.N) : Placed (m := 4096) (n := 512) (M := 4096) (N := 1024)
    (fun j => (win3_1.blk t).view.emb j) 0 (win3_2.index t 1 * 512) := fun j => by
  constructor <;> blk_simp [(dgw_idx t).2] <;> simp
theorem dgw_o (t : Fin cfg3.N) : Placed (m := 1024) (n := 512) (M := 1024) (N := 1024)
    (fun j => (win3_2.blk t).view.emb j) (win3_2.index t 0 * 1024) (win3_2.index t 1 * 512) := fun j => by
  constructor <;> blk_simp
theorem dgw_tile (x : Vec Ideal S4096x1024 .bf16) (y : Vec Ideal S4096x512 .bf16) :
    k3_pay1 x y = tn (M := 1024) (K := 4096) (N := 512) x y := by
  unfold k3_pay1
  simp only [shapeCast_self]
  exact matmul_tn (M := 1024) (K := 4096) (N := 512) (φ₁ := .bf16) (φ₂ := .bf16) none x y
/-- The gradient of the gate's weight. -/
theorem dgw_final (c : Dev nD) : (dat3 V c).arrAt 2 cfg3.N = tn (M := 1024) (K := 4096) (N := 1024) (V c main_v0) (V c main_v4) := by
  refine (dat3 V c).arrAt_eq_of_covers 2 _ (by decide +kernel) fun t hf y => ?_
  blk_simp
  rw [after3_2]
  frame_out
  rw [dgw_tile]
  exact tn_tile (V c main_v0) (V c main_v4) (dgw_a t) (dgw_b t) (dgw_o t) y

end Cert.Proof.Ple

end
-- ==== Proof.PleRef.lean ====
/-
  Hand-written, untrusted. THE PER-LAYER EMBEDDING AS THE REFERENCE WRITES IT: the same functions of the same arrays.
-/
module

public import proofs.«01_k».proof.Proof.PleCalls
public import proofs.«01_k».proof.Proof.Gen.Reference4Ideal.Read

@[expose] public section

noncomputable section

namespace Cert.Proof.Ple

open Idealize.ShloMosaic Idealize.ShloMosaic.ValueIdx Cert.Products Cert.Norm Cert.Reference4Ideal.Read

variable (x : Mat 4096 1024) (p : (⟨3, ![4, 4096, 256]⟩ : Shape).Idx → EReal) (w : Mat 256 1024) (gw : Mat 1024 1024)
  (gb : FVec Ideal ⟨1, ![1024]⟩ .f32) (dp dg : Mat 4096 1024)

/-- The literal 1. -/
theorem one_eq : Ideal.ofBits .f32 0x3F800000#32 = (1 : EReal) := by
  simp only [Ideal.ofBits, Ideal.ieee]
  norm_num
  exact congrArg ((↑) : ℝ → EReal) (by norm_num : (8388608 * ((2 ^ 23 : ℝ))⁻¹) = 1)

/-- One layer of the stack, taken out and its leading axis dropped. -/
theorem ref_layer : val_main_v1 (F := Ideal) p = layer p := by
  funext i
  rw [val_main_v1_apply, val_main_v0_apply]
  refine congrArg p (funext fun a => Fin.ext ?_)
  have h0 : (i 0).val < 4096 := (i 0).isLt
  have h1 : (i 1).val < 256 := (i 1).isLt
  match a with
  | ⟨0, _⟩ => rfl
  | ⟨1, _⟩ => show ((i 0).val * 256 + (i 1).val) / 256 % 4096 = (i 0).val; omega
  | ⟨2, _⟩ => show ((i 0).val * 256 + (i 1).val) % 256 = (i 1).val; omega
theorem ref_layer' : val_main_v9 (F := Ideal) p = layer p := ref_layer p

theorem ref_up : val_main_v20 (F := Ideal) p w = nn (layer p) w := by
  funext i; rw [val_main_v20_apply, ref_layer']
  exact Finset.sum_congr rfl fun k _ => congrArg₂ (· * ·) (congrArg (layer p) (Products.eq_ix2 _)) (congrArg w (Products.eq_ix2 _))

theorem ref_gate : val_main_v10 (F := Ideal) x gw = nn x gw := by
  funext i; rw [val_main_v10_apply]
  exact Finset.sum_congr rfl fun k _ => congrArg₂ (· * ·) (congrArg x (Products.eq_ix2 _)) (congrArg gw (Products.eq_ix2 _))

theorem ref_bias (i : (Sh 4096 1024).Idx) : val_main_v12 (F := Ideal) gb i = asRow gb (ValueIdx.ix2 0 (col i)) := by
  rw [val_main_v12_apply, val_main_v11_apply]
  exact congrArg gb (funext fun a => match a with | ⟨0, _⟩ => rfl)

theorem ref_x : val_main_v22 (F := Ideal) x p w gw gb = gated x gw (asRow gb) x (nn (layer p) w) := by
  funext i
  rw [val_main_v22_apply, val_main_v21_apply, ref_up, val_main_v19_apply, val_main_v18_apply, val_main_cst_0_apply, val_main_v17_apply,
    val_main_v16_apply, val_main_cst_apply, val_main_v15_apply, val_main_v14_apply, val_main_v13_apply, ref_gate, ref_bias,
    show FloatOps.ofBits (F := Ideal) .f32 0x3F800000#32 = (1 : EReal) from one_eq]
  rfl

theorem ref_dw : val_main_v23 (F := Ideal) p dp = tn (layer p) dp := by
  funext i
  rw [val_main_v23_apply]
  show val_main_v4 (F := Ideal) p dp i = _
  rw [val_main_v4_apply, val_main_v3_apply, ref_layer]
  exact Finset.sum_congr rfl fun k _ =>
    (mul_comm _ _).trans (congrArg₂ (· * ·) (congrArg (layer p) (Products.eq_ix2 _)) (congrArg dp (Products.eq_ix2 _)))

theorem ref_dgw : val_main_v24 (F := Ideal) x dg = tn x dg := by
  funext i
  rw [val_main_v24_apply]
  show val_main_v7 (F := Ideal) x dg i = _
  rw [val_main_v7_apply, val_main_v6_apply]
  exact Finset.sum_congr rfl fun k _ =>
    (mul_comm _ _).trans (congrArg₂ (· * ·) (congrArg x (Products.eq_ix2 _)) (congrArg dg (Products.eq_ix2 _)))

end Cert.Proof.Ple

end
-- ==== Proof.PleValue.lean ====
/-
  Hand-written, untrusted. THE PER-LAYER EMBEDDING'S CALLS IN A ROW: one run of the program with every buffer's contents at the end, its results as
  functions of the arguments, and the reference's results as the same functions.
-/
module

public import proofs.«01_k».proof.Proof.PleCalls
public import proofs.«01_k».proof.Proof.PleRef
public import proofs.«01_k».proof.Defs

@[expose] public section

set_option maxRecDepth 16384

noncomputable section

namespace Cert.Proof.Ple

open Idealize.ShloMosaic Idealize.SL.Sem Cert.Kernel4Ideal Cert.Products Cert.Norm
open Idealize.SL Idealize.SL.RA Idealize.SL.BI
open scoped Idealize.SL.BI
open Idealize.ShloMosaic.Rounds
open Idealize.SL.BI.BIBase Idealize.SL.BI.Laws Idealize.SL.ProofMode
open Cert.Kernel4Ideal.Gen Idealize.ShloMosaic.TcCoe Idealize.ShloMosaic.ValueIdx
open Idealize.ShloMosaic.Pipeline (Dat Cfg Window cellOf)

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The program runs, and every buffer ends at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Run

variable (m : (ℓ : Loc nD τ sig) → Buf (Elt Ideal) ℓ) (ρ : Dev nD → PrngReg) (c : Dev nD)

/-- The arguments as arrays. -/
abbrev X : Mat 4096 1024 := m ((c : Thread nD τ).loc main_arg0)
abbrev Em : (⟨3, ![4, 4096, 256]⟩ : Shape).Idx → EReal := m ((c : Thread nD τ).loc main_arg1)
abbrev Wp : Mat 256 1024 := m ((c : Thread nD τ).loc main_arg2)
abbrev Wg : Mat 1024 1024 := m ((c : Thread nD τ).loc main_arg3)
abbrev Bg : FVec Ideal ⟨1, ![1024]⟩ .f32 := m ((c : Thread nD τ).loc main_arg4)
abbrev Dp : Mat 4096 1024 := m ((c : Thread nD τ).loc main_arg5)
abbrev Dg : Mat 4096 1024 := m ((c : Thread nD τ).loc main_arg6)

/-- What the operations between the calls compute. -/
theorem v0_eq : V1 m ρ c main_v0 = X m c := by
  show StableHlo.after hostOps0 (W0 m ρ c) (Proc.devRef .tc main_v0) = _
  simp only [hostOps0]; after_results; rfl
theorem v1_eq : V1 m ρ c main_v1 = Wp m c := by
  show StableHlo.after hostOps0 (W0 m ρ c) (Proc.devRef .tc main_v1) = _
  simp only [hostOps0]; after_results; rfl
theorem v2_eq : V1 m ρ c main_v2 = Wg m c := by
  show StableHlo.after hostOps0 (W0 m ρ c) (Proc.devRef .tc main_v2) = _
  simp only [hostOps0]; after_results; rfl
theorem v3_eq : V1 m ρ c main_v3 = Dp m c := by
  show StableHlo.after hostOps0 (W0 m ρ c) (Proc.devRef .tc main_v3) = _
  simp only [hostOps0]; after_results; rfl
theorem v4_eq : V1 m ρ c main_v4 = Dg m c := by
  show StableHlo.after hostOps0 (W0 m ρ c) (Proc.devRef .tc main_v4) = _
  simp only [hostOps0]; after_results; rfl
theorem v6_eq : V3 m ρ c main_v6 = asRow (Bg m c) := by
  refine Eq.trans ?_ (row_host (N := 1024) bcast_S1024_S1x1024_1 (Bg m c))
  show StableHlo.after hostOps1 (W2 m ρ c) (Proc.devRef .tc main_v6) = _
  simp only [hostOps1]; after_results
  exact congrArg _ (W2_args m ρ c main_arg4 (by decide))

/-- What each call leaves. -/
theorem up_eq : V2 m ρ c main_v5 = nn (layer (Em m c)) (Wp m c) := by
  refine (W2_arr m ρ c 2).trans ((up_final (V1 m ρ) c).trans ?_)
  rw [show V1 m ρ c main_arg1 = Em m c from W1_args m ρ c main_arg1 (by decide),
    show V1 m ρ c main_v1 = Wp m c from v1_eq m ρ c]
theorem x_eq : V4 m ρ c main_v7_0 = gated (X m c) (Wg m c) (asRow (Bg m c)) (X m c) (nn (layer (Em m c)) (Wp m c)) := by
  refine (W4_arr m ρ c 5).trans ((gated_final (V3 m ρ) c).trans ?_)
  rw [show V3 m ρ c main_v0 = X m c from
      (W3_of m ρ c main_v0 (by decide)).trans ((W2_of m ρ c main_v0 (by decide)).trans (v0_eq m ρ c)),
    show V3 m ρ c main_v2 = Wg m c from
      (W3_of m ρ c main_v2 (by decide)).trans ((W2_of m ρ c main_v2 (by decide)).trans (v2_eq m ρ c)),
    show V3 m ρ c main_v6 = asRow (Bg m c) from v6_eq m ρ c,
    show V3 m ρ c main_arg0 = X m c from W3_args m ρ c main_arg0 (by decide),
    show V3 m ρ c main_v5 = nn (layer (Em m c)) (Wp m c) from
      (W3_of m ρ c main_v5 (by decide)).trans (up_eq m ρ c)]
theorem dpw_eq : V5 m ρ c main_v8 = tn (layer (Em m c)) (Dp m c) := by
  refine (W5_arr m ρ c 2).trans ((dpw_final (V4 m ρ) c).trans ?_)
  rw [show V4 m ρ c main_arg1 = Em m c from W4_args m ρ c main_arg1 (by decide),
    show V4 m ρ c main_v3 = Dp m c from
      (W4_of m ρ c main_v3 (by decide)).trans ((W3_of m ρ c main_v3 (by decide)).trans ((W2_of m ρ c main_v3 (by decide)).trans (v3_eq m ρ c)))]
theorem dgw_eq : V6 m ρ c main_v9 = tn (X m c) (Dg m c) := by
  refine (W6_arr m ρ c 2).trans ((dgw_final (V5 m ρ) c).trans ?_)
  rw [show V5 m ρ c main_v0 = X m c from
      (W5_of m ρ c main_v0 (by decide)).trans ((W4_of m ρ c main_v0 (by decide)).trans ((W3_of m ρ c main_v0 (by decide)).trans ((W2_of m ρ c main_v0 (by decide)).trans (v0_eq m ρ c)))),
    show V5 m ρ c main_v4 = Dg m c from
      (W5_of m ρ c main_v4 (by decide)).trans ((W4_of m ρ c main_v4 (by decide)).trans ((W3_of m ρ c main_v4 (by decide)).trans ((W2_of m ρ c main_v4 (by decide)).trans (v4_eq m ρ c))))]

/-- The frame of the reference, from its run. -/
theorem frame_ref : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

/-- The kernel's results are the reference's. -/
theorem results : Cert.algebraic_Kernel4Ideal_Reference4Ideal := fun m ρ m' ρ' _ hm =>
  ⟨fun c => gated (X m c) (Wg m c) (asRow (Bg m c)) (X m c) (nn (layer (Em m c)) (Wp m c)), fun c => tn (layer (Em m c)) (Dp m c), fun c => tn (X m c) (Dg m c),
    (θ_run defs _ _).mono (fun _ h c =>
      ⟨(h c _ (mem_uc main_v7_0 (by decide))).trans ((W6_of m ρ c main_v7_0 (by decide)).trans ((W5_of m ρ c main_v7_0 (by decide)).trans (x_eq m ρ c))),
        (h c _ (mem_uc main_v8 (by decide))).trans ((W6_of m ρ c main_v8 (by decide)).trans (dpw_eq m ρ c)),
        (h c _ (mem_uc main_v9 (by decide))).trans (dgw_eq m ρ c),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c),
        (h c _ (mem_uc main_arg4 (by decide))).trans (W6_main_arg4 m ρ c),
        (h c _ (mem_uc main_arg5 (by decide))).trans (W6_main_arg5 m ρ c),
        (h c _ (mem_uc main_arg6 (by decide))).trans (W6_main_arg6 m ρ c)⟩) (run_all m ρ),
    (θ_run Cert.Reference4Ideal.defs _ _).mono (fun _ h c => by
      obtain ⟨h0, h1, h2, hargs⟩ := h c
      obtain ⟨e0, e1, e2, e3, e4, e5, e6⟩ := hm c
      refine ⟨h0.trans ?_, h1.trans ?_, h2.trans ?_, hargs⟩
      · rw [Cert.Reference4Ideal.Read.val_main_v22_eq, e0, e1, e2, e3, e4]
        exact ref_x (X m c) (Em m c) (Wp m c) (Wg m c) (Bg m c)
      · rw [Cert.Reference4Ideal.Read.val_main_v23_eq, e1, e5]
        exact ref_dw (Em m c) (Dp m c)
      · rw [Cert.Reference4Ideal.Read.val_main_v24_eq, e0, e6]
        exact ref_dgw (X m c) (Dg m c)
      )
      (Cert.Reference4Ideal.Value.run (F := Ideal) m' ρ')⟩

end Cert.Proof.Ple

end
-- ==== Proof.Adam.lean ====
/-
  Hand-written, untrusted. THE OPTIMISER'S STEP over the extended reals, entry by entry: the two moments after the step, and the change
  of the weight. The constants are the ones that both programs write.
-/
module

public import Idealize.ShloMosaic.PureOps.Ideal.Laws

@[expose] public section

noncomputable section

namespace Cert.Adam

open Idealize.ShloMosaic

variable {s : Shape}

/-- A float's value. -/
abbrev lit (b : BitVec 32) : EReal := Ideal.ofBits .f32 b
/-- The first moment after the step, from the gradient and the moment before it. -/
def newM (g m : s.Idx → EReal) : s.Idx → EReal := fun i => lit 0x3F666666#32 * m i + lit 0x3DCCCCCD#32 * g i
/-- The second moment after the step. -/
def newV (g v : s.Idx → EReal) : s.Idx → EReal := fun i => lit 0x3F7FBE77#32 * v i + lit 0x3A83126F#32 * (g i * g i)
/-- The change of the weight. -/
def delta (w g m v : s.Idx → EReal) : s.Idx → EReal := fun i =>
  lit 0xBA83126F#32 * (Ideal.div (Ideal.div (newM g m i) (lit 0x3F26BD02#32))
    (Ideal.sqrt (Ideal.div (newV g v i) (lit 0x3C231ACC#32)) + lit 0x322BCC77#32) + lit 0x3C23D70A#32 * w i)
theorem newM_congr {g g' m m' : s.Idx → EReal} (hg : g = g') (hm : m = m') : newM g m = newM g' m' := by rw [hg, hm]
theorem newV_congr {g g' v v' : s.Idx → EReal} (hg : g = g') (hv : v = v') : newV g v = newV g' v' := by rw [hg, hv]
theorem delta_congr {w w' g g' m m' v v' : s.Idx → EReal} (hw : w = w') (hg : g = g') (hm : m = m') (hv : v = v') :
    delta w g m v = delta w' g' m' v' := by rw [hw, hg, hm, hv]
/-- Three arrays are a weight's change and its two moments after the step. -/
def Step (w g m v d m' v' : s.Idx → EReal) : Prop := d = delta w g m v ∧ m' = newM g m ∧ v' = newV g v

end Cert.Adam

end
-- ==== Proof.SmallValue.lean ====
/-
  Hand-written, untrusted. THE OPTIMISER'S CALLS FOR THE RECURRENT MIXER'S SMALL WEIGHTS: what each call leaves, one run of the seven calls with every buffer's
  contents at the end, the results as functions of the arguments, and the reference's results as the same functions.
-/
module

public import proofs.«01_k».proof.Proof.Adam
public import proofs.«01_k».proof.Proof.Gen.Kernel5Ideal.Frame
public import proofs.«01_k».proof.Proof.Gen.Reference5Ideal.Run
public import proofs.«01_k».proof.Defs
public import Idealize.ShloMosaic.Lib.Pipeline.ValueKit

@[expose] public section

set_option maxRecDepth 16384

noncomputable section

namespace Cert.Proof.Small

open Idealize.ShloMosaic Idealize.SL.Sem Cert.Kernel5Ideal Cert.Adam
open Idealize.SL Idealize.SL.RA Idealize.SL.BI
open scoped Idealize.SL.BI
open Idealize.ShloMosaic.Rounds
open Idealize.SL.BI.BIBase Idealize.SL.BI.Laws Idealize.SL.ProofMode
open Cert.Kernel5Ideal.Gen Idealize.ShloMosaic.TcCoe Idealize.ShloMosaic.ValueIdx
open Idealize.ShloMosaic.Pipeline (Dat Cfg Window cellOf)

/-! ## What each call leaves in its three results, from the arrays that it is entered with -/

section Calls

variable (V : (c : Dev nD) → (b : Ref sig .tc) → Buf (Elt Ideal) ((c : Thread nD τ).loc b)) (c : Dev nD)

theorem lru_conv_w_final : Step (V c main_arg0) (V c main_arg1) (V c main_arg2) (V c main_arg3)
    ((dat0 V c).arrAt 4 cfg0.N) ((dat0 V c).arrAt 5 cfg0.N) ((dat0 V c).arrAt 6 cfg0.N) :=
  ⟨(dat0 V c).arrAt_eq_of_covers 4 _ (by decide +kernel) fun t _ y => by blk_simp; rw [after0_4]; frame_out; rfl,
    (dat0 V c).arrAt_eq_of_covers 5 _ (by decide +kernel) fun t _ y => by blk_simp; rw [after0_5]; frame_out; rfl,
    (dat0 V c).arrAt_eq_of_covers 6 _ (by decide +kernel) fun t _ y => by blk_simp; rw [after0_6]; frame_out; rfl⟩
theorem lru_conv_b_final : Step (V c main_arg4) (V c main_arg5) (V c main_arg6) (V c main_arg7)
    ((dat1 V c).arrAt 4 cfg1.N) ((dat1 V c).arrAt 5 cfg1.N) ((dat1 V c).arrAt 6 cfg1.N) :=
  ⟨(dat1 V c).arrAt_eq_of_covers 4 _ (by decide +kernel) fun t _ y => by blk_simp; rw [after1_4]; frame_out; rfl,
    (dat1 V c).arrAt_eq_of_covers 5 _ (by decide +kernel) fun t _ y => by blk_simp; rw [after1_5]; frame_out; rfl,
    (dat1 V c).arrAt_eq_of_covers 6 _ (by decide +kernel) fun t _ y => by blk_simp; rw [after1_6]; frame_out; rfl⟩
theorem lru_wa_final : Step (V c main_arg8) (V c main_arg9) (V c main_arg10) (V c main_arg11)
    ((dat2 V c).arrAt 4 cfg2.N) ((dat2 V c).arrAt 5 cfg2.N) ((dat2 V c).arrAt 6 cfg2.N) :=
  ⟨(dat2 V c).arrAt_eq_of_covers 4 _ (by decide +kernel) fun t _ y => by blk_simp; rw [after2_4]; frame_out; rfl,
    (dat2 V c).arrAt_eq_of_covers 5 _ (by decide +kernel) fun t _ y => by blk_simp; rw [after2_5]; frame_out; rfl,
    (dat2 V c).arrAt_eq_of_covers 6 _ (by decide +kernel) fun t _ y => by blk_simp; rw [after2_6]; frame_out; rfl⟩
theorem lru_ba_final : Step (V c main_arg12) (V c main_arg13) (V c main_arg14) (V c main_arg15)
    ((dat3 V c).arrAt 4 cfg3.N) ((dat3 V c).arrAt 5 cfg3.N) ((dat3 V c).arrAt 6 cfg3.N) :=
  ⟨(dat3 V c).arrAt_eq_of_covers 4 _ (by decide +kernel) fun t _ y => by blk_simp; rw [after3_4]; frame_out; rfl,
    (dat3 V c).arrAt_eq_of_covers 5 _ (by decide +kernel) fun t _ y => by blk_simp; rw [after3_5]; frame_out; rfl,
    (dat3 V c).arrAt_eq_of_covers 6 _ (by decide +kernel) fun t _ y => by blk_simp; rw [after3_6]; frame_out; rfl⟩
theorem lru_wx_final : Step (V c main_arg16) (V c main_arg17) (V c main_arg18) (V c main_arg19)
    ((dat4 V c).arrAt 4 cfg4.N) ((dat4 V c).arrAt 5 cfg4.N) ((dat4 V c).arrAt 6 cfg4.N) :=
  ⟨(dat4 V c).arrAt_eq_of_covers 4 _ (by decide +kernel) fun t _ y => by blk_simp; rw [after4_4]; frame_out; rfl,
    (dat4 V c).arrAt_eq_of_covers 5 _ (by decide +kernel) fun t _ y => by blk_simp; rw [after4_5]; frame_out; rfl,
    (dat4 V c).arrAt_eq_of_covers 6 _ (by decide +kernel) fun t _ y => by blk_simp; rw [after4_6]; frame_out; rfl⟩
theorem lru_bx_final : Step (V c main_arg20) (V c main_arg21) (V c main_arg22) (V c main_arg23)
    ((dat5 V c).arrAt 4 cfg5.N) ((dat5 V c).arrAt 5 cfg5.N) ((dat5 V c).arrAt 6 cfg5.N) :=
  ⟨(dat5 V c).arrAt_eq_of_covers 4 _ (by decide +kernel) fun t _ y => by blk_simp; rw [after5_4]; frame_out; rfl,
    (dat5 V c).arrAt_eq_of_covers 5 _ (by decide +kernel) fun t _ y => by blk_simp; rw [after5_5]; frame_out; rfl,
    (dat5 V c).arrAt_eq_of_covers 6 _ (by decide +kernel) fun t _ y => by blk_simp; rw [after5_6]; frame_out; rfl⟩
theorem lru_lambda_final : Step (V c main_arg24) (V c main_arg25) (V c main_arg26) (V c main_arg27)
    ((dat6 V c).arrAt 4 cfg6.N) ((dat6 V c).arrAt 5 cfg6.N) ((dat6 V c).arrAt 6 cfg6.N) :=
  ⟨(dat6 V c).arrAt_eq_of_covers 4 _ (by decide +kernel) fun t _ y => by blk_simp; rw [after6_4]; frame_out; rfl,
    (dat6 V c).arrAt_eq_of_covers 5 _ (by decide +kernel) fun t _ y => by blk_simp; rw [after6_5]; frame_out; rfl,
    (dat6 V c).arrAt_eq_of_covers 6 _ (by decide +kernel) fun t _ y => by blk_simp; rw [after6_6]; frame_out; rfl⟩

end Calls

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The program runs, and every buffer ends at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

/-! ## The results as functions of the arguments -/

variable (m : (ℓ : Loc nD τ sig) → Buf (Elt Ideal) ℓ) (ρ : Dev nD → PrngReg) (c : Dev nD)

theorem lru_conv_w_step : Step (m ((c : Thread nD τ).loc main_arg0)) (m ((c : Thread nD τ).loc main_arg1)) (m ((c : Thread nD τ).loc main_arg2)) (m ((c : Thread nD τ).loc main_arg3))
    (V1 m ρ c main_v0_0) (V1 m ρ c main_v0_1) (V1 m ρ c main_v0_2) := by
  have h := lru_conv_w_final (V0 m ρ) c
  rw [show V0 m ρ c main_arg0 = _ from W0_args m ρ c main_arg0 (by decide),
    show V0 m ρ c main_arg1 = _ from W0_args m ρ c main_arg1 (by decide),
    show V0 m ρ c main_arg2 = _ from W0_args m ρ c main_arg2 (by decide),
    show V0 m ρ c main_arg3 = _ from W0_args m ρ c main_arg3 (by decide)] at h
  exact ⟨(W1_arr m ρ c 4).trans h.1, (W1_arr m ρ c 5).trans h.2.1, (W1_arr m ρ c 6).trans h.2.2⟩
theorem lru_conv_b_step : Step (m ((c : Thread nD τ).loc main_arg4)) (m ((c : Thread nD τ).loc main_arg5)) (m ((c : Thread nD τ).loc main_arg6)) (m ((c : Thread nD τ).loc main_arg7))
    (V2 m ρ c main_v1_0) (V2 m ρ c main_v1_1) (V2 m ρ c main_v1_2) := by
  have h := lru_conv_b_final (V1 m ρ) c
  rw [show V1 m ρ c main_arg4 = _ from W1_args m ρ c main_arg4 (by decide),
    show V1 m ρ c main_arg5 = _ from W1_args m ρ c main_arg5 (by decide),
    show V1 m ρ c main_arg6 = _ from W1_args m ρ c main_arg6 (by decide),
    show V1 m ρ c main_arg7 = _ from W1_args m ρ c main_arg7 (by decide)] at h
  exact ⟨(W2_arr m ρ c 4).trans h.1, (W2_arr m ρ c 5).trans h.2.1, (W2_arr m ρ c 6).trans h.2.2⟩
theorem lru_wa_step : Step (m ((c : Thread nD τ).loc main_arg8)) (m ((c : Thread nD τ).loc main_arg9)) (m ((c : Thread nD τ).loc main_arg10)) (m ((c : Thread nD τ).loc main_arg11))
    (V3 m ρ c main_v2_0) (V3 m ρ c main_v2_1) (V3 m ρ c main_v2_2) := by
  have h := lru_wa_final (V2 m ρ) c
  rw [show V2 m ρ c main_arg8 = _ from W2_args m ρ c main_arg8 (by decide),
    show V2 m ρ c main_arg9 = _ from W2_args m ρ c main_arg9 (by decide),
    show V2 m ρ c main_arg10 = _ from W2_args m ρ c main_arg10 (by decide),
    show V2 m ρ c main_arg11 = _ from W2_args m ρ c main_arg11 (by decide)] at h
  exact ⟨(W3_arr m ρ c 4).trans h.1, (W3_arr m ρ c 5).trans h.2.1, (W3_arr m ρ c 6).trans h.2.2⟩
theorem lru_ba_step : Step (m ((c : Thread nD τ).loc main_arg12)) (m ((c : Thread nD τ).loc main_arg13)) (m ((c : Thread nD τ).loc main_arg14)) (m ((c : Thread nD τ).loc main_arg15))
    (V4 m ρ c main_v3_0) (V4 m ρ c main_v3_1) (V4 m ρ c main_v3_2) := by
  have h := lru_ba_final (V3 m ρ) c
  rw [show V3 m ρ c main_arg12 = _ from W3_args m ρ c main_arg12 (by decide),
    show V3 m ρ c main_arg13 = _ from W3_args m ρ c main_arg13 (by decide),
    show V3 m ρ c main_arg14 = _ from W3_args m ρ c main_arg14 (by decide),
    show V3 m ρ c main_arg15 = _ from W3_args m ρ c main_arg15 (by decide)] at h
  exact ⟨(W4_arr m ρ c 4).trans h.1, (W4_arr m ρ c 5).trans h.2.1, (W4_arr m ρ c 6).trans h.2.2⟩
theorem lru_wx_step : Step (m ((c : Thread nD τ).loc main_arg16)) (m ((c : Thread nD τ).loc main_arg17)) (m ((c : Thread nD τ).loc main_arg18)) (m ((c : Thread nD τ).loc main_arg19))
    (V5 m ρ c main_v4_0) (V5 m ρ c main_v4_1) (V5 m ρ c main_v4_2) := by
  have h := lru_wx_final (V4 m ρ) c
  rw [show V4 m ρ c main_arg16 = _ from W4_args m ρ c main_arg16 (by decide),
    show V4 m ρ c main_arg17 = _ from W4_args m ρ c main_arg17 (by decide),
    show V4 m ρ c main_arg18 = _ from W4_args m ρ c main_arg18 (by decide),
    show V4 m ρ c main_arg19 = _ from W4_args m ρ c main_arg19 (by decide)] at h
  exact ⟨(W5_arr m ρ c 4).trans h.1, (W5_arr m ρ c 5).trans h.2.1, (W5_arr m ρ c 6).trans h.2.2⟩
theorem lru_bx_step : Step (m ((c : Thread nD τ).loc main_arg20)) (m ((c : Thread nD τ).loc main_arg21)) (m ((c : Thread nD τ).loc main_arg22)) (m ((c : Thread nD τ).loc main_arg23))
    (V6 m ρ c main_v5_0) (V6 m ρ c main_v5_1) (V6 m ρ c main_v5_2) := by
  have h := lru_bx_final (V5 m ρ) c
  rw [show V5 m ρ c main_arg20 = _ from W5_args m ρ c main_arg20 (by decide),
    show V5 m ρ c main_arg21 = _ from W5_args m ρ c main_arg21 (by decide),
    show V5 m ρ c main_arg22 = _ from W5_args m ρ c main_arg22 (by decide),
    show V5 m ρ c main_arg23 = _ from W5_args m ρ c main_arg23 (by decide)] at h
  exact ⟨(W6_arr m ρ c 4).trans h.1, (W6_arr m ρ c 5).trans h.2.1, (W6_arr m ρ c 6).trans h.2.2⟩
theorem lru_lambda_step : Step (m ((c : Thread nD τ).loc main_arg24)) (m ((c : Thread nD τ).loc main_arg25)) (m ((c : Thread nD τ).loc main_arg26)) (m ((c : Thread nD τ).loc main_arg27))
    (V7 m ρ c main_v6_0) (V7 m ρ c main_v6_1) (V7 m ρ c main_v6_2) := by
  have h := lru_lambda_final (V6 m ρ) c
  rw [show V6 m ρ c main_arg24 = _ from W6_args m ρ c main_arg24 (by decide),
    show V6 m ρ c main_arg25 = _ from W6_args m ρ c main_arg25 (by decide),
    show V6 m ρ c main_arg26 = _ from W6_args m ρ c main_arg26 (by decide),
    show V6 m ρ c main_arg27 = _ from W6_args m ρ c main_arg27 (by decide)] at h
  exact ⟨(W7_arr m ρ c 4).trans h.1, (W7_arr m ρ c 5).trans h.2.1, (W7_arr m ρ c 6).trans h.2.2⟩

/-- The frame of the reference, from its run. -/
theorem frame_ref : Cert.quiescent_Reference5Ideal := fun m ρ _ =>
  (θ_run Cert.Reference5Ideal.defs _ _).mono
    (fun r h => ⟨fun c => (h c).2.2.2.2.2.2.2.2.2.2.2.2.2.2.2.2.2.2.2.2.2, sem_eq_zero_of_no_sems (by decide) r.2⟩)
    (Cert.Reference5Ideal.Value.run (F := Ideal) m ρ)

set_option maxHeartbeats 2000000 in
/-- The kernel's results are the reference's. -/
theorem results : Cert.algebraic_Kernel5Ideal_Reference5Ideal := fun m ρ m' ρ' _ hm =>
  ⟨fun c => delta (m ((c : Thread nD τ).loc main_arg0)) (m ((c : Thread nD τ).loc main_arg1)) (m ((c : Thread nD τ).loc main_arg2)) (m ((c : Thread nD τ).loc main_arg3)),
    fun c => newM (m ((c : Thread nD τ).loc main_arg1)) (m ((c : Thread nD τ).loc main_arg2)),
    fun c => newV (m ((c : Thread nD τ).loc main_arg1)) (m ((c : Thread nD τ).loc main_arg3)),
    fun c => delta (m ((c : Thread nD τ).loc main_arg4)) (m ((c : Thread nD τ).loc main_arg5)) (m ((c : Thread nD τ).loc main_arg6)) (m ((c : Thread nD τ).loc main_arg7)),
    fun c => newM (m ((c : Thread nD τ).loc main_arg5)) (m ((c : Thread nD τ).loc main_arg6)),
    fun c => newV (m ((c : Thread nD τ).loc main_arg5)) (m ((c : Thread nD τ).loc main_arg7)),
    fun c => delta (m ((c : Thread nD τ).loc main_arg8)) (m ((c : Thread nD τ).loc main_arg9)) (m ((c : Thread nD τ).loc main_arg10)) (m ((c : Thread nD τ).loc main_arg11)),
    fun c => newM (m ((c : Thread nD τ).loc main_arg9)) (m ((c : Thread nD τ).loc main_arg10)),
    fun c => newV (m ((c : Thread nD τ).loc main_arg9)) (m ((c : Thread nD τ).loc main_arg11)),
    fun c => delta (m ((c : Thread nD τ).loc main_arg12)) (m ((c : Thread nD τ).loc main_arg13)) (m ((c : Thread nD τ).loc main_arg14)) (m ((c : Thread nD τ).loc main_arg15)),
    fun c => newM (m ((c : Thread nD τ).loc main_arg13)) (m ((c : Thread nD τ).loc main_arg14)),
    fun c => newV (m ((c : Thread nD τ).loc main_arg13)) (m ((c : Thread nD τ).loc main_arg15)),
    fun c => delta (m ((c : Thread nD τ).loc main_arg16)) (m ((c : Thread nD τ).loc main_arg17)) (m ((c : Thread nD τ).loc main_arg18)) (m ((c : Thread nD τ).loc main_arg19)),
    fun c => newM (m ((c : Thread nD τ).loc main_arg17)) (m ((c : Thread nD τ).loc main_arg18)),
    fun c => newV (m ((c : Thread nD τ).loc main_arg17)) (m ((c : Thread nD τ).loc main_arg19)),
    fun c => delta (m ((c : Thread nD τ).loc main_arg20)) (m ((c : Thread nD τ).loc main_arg21)) (m ((c : Thread nD τ).loc main_arg22)) (m ((c : Thread nD τ).loc main_arg23)),
    fun c => newM (m ((c : Thread nD τ).loc main_arg21)) (m ((c : Thread nD τ).loc main_arg22)),
    fun c => newV (m ((c : Thread nD τ).loc main_arg21)) (m ((c : Thread nD τ).loc main_arg23)),
    fun c => delta (m ((c : Thread nD τ).loc main_arg24)) (m ((c : Thread nD τ).loc main_arg25)) (m ((c : Thread nD τ).loc main_arg26)) (m ((c : Thread nD τ).loc main_arg27)),
    fun c => newM (m ((c : Thread nD τ).loc main_arg25)) (m ((c : Thread nD τ).loc main_arg26)),
    fun c => newV (m ((c : Thread nD τ).loc main_arg25)) (m ((c : Thread nD τ).loc main_arg27)),
    (θ_run defs _ _).mono (fun _ h c => by
      refine ⟨(h c _ (mem_uc main_v0_0 (by decide))).trans ((W7_of m ρ c main_v0_0 (by decide)).trans ((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans ((lru_conv_w_step m ρ c).1))))))),
        (h c _ (mem_uc main_v0_1 (by decide))).trans ((W7_of m ρ c main_v0_1 (by decide)).trans ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans ((lru_conv_w_step m ρ c).2.1))))))),
        (h c _ (mem_uc main_v0_2 (by decide))).trans ((W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans ((lru_conv_w_step m ρ c).2.2))))))),
        (h c _ (mem_uc main_v1_0 (by decide))).trans ((W7_of m ρ c main_v1_0 (by decide)).trans ((W6_of m ρ c main_v1_0 (by decide)).trans ((W5_of m ρ c main_v1_0 (by decide)).trans ((W4_of m ρ c main_v1_0 (by decide)).trans ((W3_of m ρ c main_v1_0 (by decide)).trans ((lru_conv_b_step m ρ c).1)))))),
        (h c _ (mem_uc main_v1_1 (by decide))).trans ((W7_of m ρ c main_v1_1 (by decide)).trans ((W6_of m ρ c main_v1_1 (by decide)).trans ((W5_of m ρ c main_v1_1 (by decide)).trans ((W4_of m ρ c main_v1_1 (by decide)).trans ((W3_of m ρ c main_v1_1 (by decide)).trans ((lru_conv_b_step m ρ c).2.1)))))),
        (h c _ (mem_uc main_v1_2 (by decide))).trans ((W7_of m ρ c main_v1_2 (by decide)).trans ((W6_of m ρ c main_v1_2 (by decide)).trans ((W5_of m ρ c main_v1_2 (by decide)).trans ((W4_of m ρ c main_v1_2 (by decide)).trans ((W3_of m ρ c main_v1_2 (by decide)).trans ((lru_conv_b_step m ρ c).2.2)))))),
        (h c _ (mem_uc main_v2_0 (by decide))).trans ((W7_of m ρ c main_v2_0 (by decide)).trans ((W6_of m ρ c main_v2_0 (by decide)).trans ((W5_of m ρ c main_v2_0 (by decide)).trans ((W4_of m ρ c main_v2_0 (by decide)).trans ((lru_wa_step m ρ c).1))))),
        (h c _ (mem_uc main_v2_1 (by decide))).trans ((W7_of m ρ c main_v2_1 (by decide)).trans ((W6_of m ρ c main_v2_1 (by decide)).trans ((W5_of m ρ c main_v2_1 (by decide)).trans ((W4_of m ρ c main_v2_1 (by decide)).trans ((lru_wa_step m ρ c).2.1))))),
        (h c _ (mem_uc main_v2_2 (by decide))).trans ((W7_of m ρ c main_v2_2 (by decide)).trans ((W6_of m ρ c main_v2_2 (by decide)).trans ((W5_of m ρ c main_v2_2 (by decide)).trans ((W4_of m ρ c main_v2_2 (by decide)).trans ((lru_wa_step m ρ c).2.2))))),
        (h c _ (mem_uc main_v3_0 (by decide))).trans ((W7_of m ρ c main_v3_0 (by decide)).trans ((W6_of m ρ c main_v3_0 (by decide)).trans ((W5_of m ρ c main_v3_0 (by decide)).trans ((lru_ba_step m ρ c).1)))),
        (h c _ (mem_uc main_v3_1 (by decide))).trans ((W7_of m ρ c main_v3_1 (by decide)).trans ((W6_of m ρ c main_v3_1 (by decide)).trans ((W5_of m ρ c main_v3_1 (by decide)).trans ((lru_ba_step m ρ c).2.1)))),
        (h c _ (mem_uc main_v3_2 (by decide))).trans ((W7_of m ρ c main_v3_2 (by decide)).trans ((W6_of m ρ c main_v3_2 (by decide)).trans ((W5_of m ρ c main_v3_2 (by decide)).trans ((lru_ba_step m ρ c).2.2)))),
        (h c _ (mem_uc main_v4_0 (by decide))).trans ((W7_of m ρ c main_v4_0 (by decide)).trans ((W6_of m ρ c main_v4_0 (by decide)).trans ((lru_wx_step m ρ c).1))),
        (h c _ (mem_uc main_v4_1 (by decide))).trans ((W7_of m ρ c main_v4_1 (by decide)).trans ((W6_of m ρ c main_v4_1 (by decide)).trans ((lru_wx_step m ρ c).2.1))),
        (h c _ (mem_uc main_v4_2 (by decide))).trans ((W7_of m ρ c main_v4_2 (by decide)).trans ((W6_of m ρ c main_v4_2 (by decide)).trans ((lru_wx_step m ρ c).2.2))),
        (h c _ (mem_uc main_v5_0 (by decide))).trans ((W7_of m ρ c main_v5_0 (by decide)).trans ((lru_bx_step m ρ c).1)),
        (h c _ (mem_uc main_v5_1 (by decide))).trans ((W7_of m ρ c main_v5_1 (by decide)).trans ((lru_bx_step m ρ c).2.1)),
        (h c _ (mem_uc main_v5_2 (by decide))).trans ((W7_of m ρ c main_v5_2 (by decide)).trans ((lru_bx_step m ρ c).2.2)),
        (h c _ (mem_uc main_v6_0 (by decide))).trans ((lru_lambda_step m ρ c).1),
        (h c _ (mem_uc main_v6_1 (by decide))).trans ((lru_lambda_step m ρ c).2.1),
        (h c _ (mem_uc main_v6_2 (by decide))).trans ((lru_lambda_step m ρ c).2.2),
        ?_⟩
      and_intros
      all_goals exact (h c _ (mem_uc _ (by decide))).trans (W7_args m ρ c _ (by decide))) (run_all m ρ),
    (θ_run Cert.Reference5Ideal.defs _ _).mono (fun _ h c => by
      obtain ⟨h0, h1, h2, h3, h4, h5, h6, h7, h8, h9, h10, h11, h12, h13, h14, h15, h16, h17, h18, h19, h20, hargs⟩ := h c
      obtain ⟨e0, e1, e2, e3, e4, e5, e6, e7, e8, e9, e10, e11, e12, e13, e14, e15, e16, e17, e18, e19, e20, e21, e22, e23, e24, e25, e26, e27⟩ := hm c
      exact ⟨h0.trans (delta_congr e0 e1 e2 e3),
        h1.trans (newM_congr e1 e2),
        h2.trans (newV_congr e1 e3),
        h3.trans (delta_congr e4 e5 e6 e7),
        h4.trans (newM_congr e5 e6),
        h5.trans (newV_congr e5 e7),
        h6.trans (delta_congr e8 e9 e10 e11),
        h7.trans (newM_congr e9 e10),
        h8.trans (newV_congr e9 e11),
        h9.trans (delta_congr e12 e13 e14 e15),
        h10.trans (newM_congr e13 e14),
        h11.trans (newV_congr e13 e15),
        h12.trans (delta_congr e16 e17 e18 e19),
        h13.trans (newM_congr e17 e18),
        h14.trans (newV_congr e17 e19),
        h15.trans (delta_congr e20 e21 e22 e23),
        h16.trans (newM_congr e21 e22),
        h17.trans (newV_congr e21 e23),
        h18.trans (delta_congr e24 e25 e26 e27),
        h19.trans (newM_congr e25 e26),
        h20.trans (newV_congr e25 e27), hargs⟩)
      (Cert.Reference5Ideal.Value.run (F := Ideal) m' ρ')⟩

end Cert.Proof.Small

end
-- ==== Proof.VecValue.lean ====
/-
  Hand-written, untrusted. THE OPTIMISER'S CALLS FOR THE VECTORS: what each call leaves, one run of the seven calls with every buffer's contents at the end, the
  results as functions of the arguments, and the reference's results as the same functions.
-/
module

public import proofs.«01_k».proof.Proof.Adam
public import proofs.«01_k».proof.Proof.Gen.Kernel6Ideal.Frame
public import proofs.«01_k».proof.Proof.Gen.Reference6Ideal.Run
public import proofs.«01_k».proof.Defs
public import Idealize.ShloMosaic.Lib.Pipeline.ValueKit

@[expose] public section

set_option maxRecDepth 16384

noncomputable section

namespace Cert.Proof.Vec

open Idealize.ShloMosaic Idealize.SL.Sem Cert.Kernel6Ideal Cert.Adam
open Idealize.SL Idealize.SL.RA Idealize.SL.BI
open scoped Idealize.SL.BI
open Idealize.ShloMosaic.Rounds
open Idealize.SL.BI.BIBase Idealize.SL.BI.Laws Idealize.SL.ProofMode
open Cert.Kernel6Ideal.Gen Idealize.ShloMosaic.TcCoe Idealize.ShloMosaic.ValueIdx
open Idealize.ShloMosaic.Pipeline (Dat Cfg Window cellOf)

/-! ## What each call leaves in its three results, from the arrays that it is entered with -/

section Calls

variable (V : (c : Dev nD) → (b : Ref sig .tc) → Buf (Elt Ideal) ((c : Thread nD τ).loc b)) (c : Dev nD)

theorem pool_b_grp_final : Step (V c main_arg0) (V c main_arg1) (V c main_arg2) (V c main_arg3)
    ((dat0 V c).arrAt 4 cfg0.N) ((dat0 V c).arrAt 5 cfg0.N) ((dat0 V c).arrAt 6 cfg0.N) :=
  ⟨(dat0 V c).arrAt_eq_of_covers 4 _ (by decide +kernel) fun t _ y => by blk_simp; rw [after0_4]; frame_out; rfl,
    (dat0 V c).arrAt_eq_of_covers 5 _ (by decide +kernel) fun t _ y => by blk_simp; rw [after0_5]; frame_out; rfl,
    (dat0 V c).arrAt_eq_of_covers 6 _ (by decide +kernel) fun t _ y => by blk_simp; rw [after0_6]; frame_out; rfl⟩
theorem pool_scale_final : Step (V c main_arg4) (V c main_arg5) (V c main_arg6) (V c main_arg7)
    ((dat1 V c).arrAt 4 cfg1.N) ((dat1 V c).arrAt 5 cfg1.N) ((dat1 V c).arrAt 6 cfg1.N) :=
  ⟨(dat1 V c).arrAt_eq_of_covers 4 _ (by decide +kernel) fun t _ y => by blk_simp; rw [after1_4]; frame_out; rfl,
    (dat1 V c).arrAt_eq_of_covers 5 _ (by decide +kernel) fun t _ y => by blk_simp; rw [after1_5]; frame_out; rfl,
    (dat1 V c).arrAt_eq_of_covers 6 _ (by decide +kernel) fun t _ y => by blk_simp; rw [after1_6]; frame_out; rfl⟩
theorem ln_mix_g_final : Step (V c main_arg8) (V c main_arg9) (V c main_arg10) (V c main_arg11)
    ((dat2 V c).arrAt 4 cfg2.N) ((dat2 V c).arrAt 5 cfg2.N) ((dat2 V c).arrAt 6 cfg2.N) :=
  ⟨(dat2 V c).arrAt_eq_of_covers 4 _ (by decide +kernel) fun t _ y => by blk_simp; rw [after2_4]; frame_out; rfl,
    (dat2 V c).arrAt_eq_of_covers 5 _ (by decide +kernel) fun t _ y => by blk_simp; rw [after2_5]; frame_out; rfl,
    (dat2 V c).arrAt_eq_of_covers 6 _ (by decide +kernel) fun t _ y => by blk_simp; rw [after2_6]; frame_out; rfl⟩
theorem ln_mix_b_final : Step (V c main_arg12) (V c main_arg13) (V c main_arg14) (V c main_arg15)
    ((dat3 V c).arrAt 4 cfg3.N) ((dat3 V c).arrAt 5 cfg3.N) ((dat3 V c).arrAt 6 cfg3.N) :=
  ⟨(dat3 V c).arrAt_eq_of_covers 4 _ (by decide +kernel) fun t _ y => by blk_simp; rw [after3_4]; frame_out; rfl,
    (dat3 V c).arrAt_eq_of_covers 5 _ (by decide +kernel) fun t _ y => by blk_simp; rw [after3_5]; frame_out; rfl,
    (dat3 V c).arrAt_eq_of_covers 6 _ (by decide +kernel) fun t _ y => by blk_simp; rw [after3_6]; frame_out; rfl⟩
theorem ln_mlp_g_final : Step (V c main_arg16) (V c main_arg17) (V c main_arg18) (V c main_arg19)
    ((dat4 V c).arrAt 4 cfg4.N) ((dat4 V c).arrAt 5 cfg4.N) ((dat4 V c).arrAt 6 cfg4.N) :=
  ⟨(dat4 V c).arrAt_eq_of_covers 4 _ (by decide +kernel) fun t _ y => by blk_simp; rw [after4_4]; frame_out; rfl,
    (dat4 V c).arrAt_eq_of_covers 5 _ (by decide +kernel) fun t _ y => by blk_simp; rw [after4_5]; frame_out; rfl,
    (dat4 V c).arrAt_eq_of_covers 6 _ (by decide +kernel) fun t _ y => by blk_simp; rw [after4_6]; frame_out; rfl⟩
theorem ln_mlp_b_final : Step (V c main_arg20) (V c main_arg21) (V c main_arg22) (V c main_arg23)
    ((dat5 V c).arrAt 4 cfg5.N) ((dat5 V c).arrAt 5 cfg5.N) ((dat5 V c).arrAt 6 cfg5.N) :=
  ⟨(dat5 V c).arrAt_eq_of_covers 4 _ (by decide +kernel) fun t _ y => by blk_simp; rw [after5_4]; frame_out; rfl,
    (dat5 V c).arrAt_eq_of_covers 5 _ (by decide +kernel) fun t _ y => by blk_simp; rw [after5_5]; frame_out; rfl,
    (dat5 V c).arrAt_eq_of_covers 6 _ (by decide +kernel) fun t _ y => by blk_simp; rw [after5_6]; frame_out; rfl⟩
theorem ple_gate_b_final : Step (V c main_arg24) (V c main_arg25) (V c main_arg26) (V c main_arg27)
    ((dat6 V c).arrAt 4 cfg6.N) ((dat6 V c).arrAt 5 cfg6.N) ((dat6 V c).arrAt 6 cfg6.N) :=
  ⟨(dat6 V c).arrAt_eq_of_covers 4 _ (by decide +kernel) fun t _ y => by blk_simp; rw [after6_4]; frame_out; rfl,
    (dat6 V c).arrAt_eq_of_covers 5 _ (by decide +kernel) fun t _ y => by blk_simp; rw [after6_5]; frame_out; rfl,
    (dat6 V c).arrAt_eq_of_covers 6 _ (by decide +kernel) fun t _ y => by blk_simp; rw [after6_6]; frame_out; rfl⟩

end Calls

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The program runs, and every buffer ends at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Run

/-! ## The results as functions of the arguments -/

variable (m : (ℓ : Loc nD τ sig) → Buf (Elt Ideal) ℓ) (ρ : Dev nD → PrngReg) (c : Dev nD)

theorem pool_b_grp_step : Step (m ((c : Thread nD τ).loc main_arg0)) (m ((c : Thread nD τ).loc main_arg1)) (m ((c : Thread nD τ).loc main_arg2)) (m ((c : Thread nD τ).loc main_arg3))
    (V1 m ρ c main_v0_0) (V1 m ρ c main_v0_1) (V1 m ρ c main_v0_2) := by
  have h := pool_b_grp_final (V0 m ρ) c
  rw [show V0 m ρ c main_arg0 = _ from W0_args m ρ c main_arg0 (by decide),
    show V0 m ρ c main_arg1 = _ from W0_args m ρ c main_arg1 (by decide),
    show V0 m ρ c main_arg2 = _ from W0_args m ρ c main_arg2 (by decide),
    show V0 m ρ c main_arg3 = _ from W0_args m ρ c main_arg3 (by decide)] at h
  exact ⟨(W1_arr m ρ c 4).trans h.1, (W1_arr m ρ c 5).trans h.2.1, (W1_arr m ρ c 6).trans h.2.2⟩
theorem pool_scale_step : Step (m ((c : Thread nD τ).loc main_arg4)) (m ((c : Thread nD τ).loc main_arg5)) (m ((c : Thread nD τ).loc main_arg6)) (m ((c : Thread nD τ).loc main_arg7))
    (V2 m ρ c main_v1_0) (V2 m ρ c main_v1_1) (V2 m ρ c main_v1_2) := by
  have h := pool_scale_final (V1 m ρ) c
  rw [show V1 m ρ c main_arg4 = _ from W1_args m ρ c main_arg4 (by decide),
    show V1 m ρ c main_arg5 = _ from W1_args m ρ c main_arg5 (by decide),
    show V1 m ρ c main_arg6 = _ from W1_args m ρ c main_arg6 (by decide),
    show V1 m ρ c main_arg7 = _ from W1_args m ρ c main_arg7 (by decide)] at h
  exact ⟨(W2_arr m ρ c 4).trans h.1, (W2_arr m ρ c 5).trans h.2.1, (W2_arr m ρ c 6).trans h.2.2⟩
theorem ln_mix_g_step : Step (m ((c : Thread nD τ).loc main_arg8)) (m ((c : Thread nD τ).loc main_arg9)) (m ((c : Thread nD τ).loc main_arg10)) (m ((c : Thread nD τ).loc main_arg11))
    (V3 m ρ c main_v2_0) (V3 m ρ c main_v2_1) (V3 m ρ c main_v2_2) := by
  have h := ln_mix_g_final (V2 m ρ) c
  rw [show V2 m ρ c main_arg8 = _ from W2_args m ρ c main_arg8 (by decide),
    show V2 m ρ c main_arg9 = _ from W2_args m ρ c main_arg9 (by decide),
    show V2 m ρ c main_arg10 = _ from W2_args m ρ c main_arg10 (by decide),
    show V2 m ρ c main_arg11 = _ from W2_args m ρ c main_arg11 (by decide)] at h
  exact ⟨(W3_arr m ρ c 4).trans h.1, (W3_arr m ρ c 5).trans h.2.1, (W3_arr m ρ c 6).trans h.2.2⟩
theorem ln_mix_b_step : Step (m ((c : Thread nD τ).loc main_arg12)) (m ((c : Thread nD τ).loc main_arg13)) (m ((c : Thread nD τ).loc main_arg14)) (m ((c : Thread nD τ).loc main_arg15))
    (V4 m ρ c main_v3_0) (V4 m ρ c main_v3_1) (V4 m ρ c main_v3_2) := by
  have h := ln_mix_b_final (V3 m ρ) c
  rw [show V3 m ρ c main_arg12 = _ from W3_args m ρ c main_arg12 (by decide),
    show V3 m ρ c main_arg13 = _ from W3_args m ρ c main_arg13 (by decide),
    show V3 m ρ c main_arg14 = _ from W3_args m ρ c main_arg14 (by decide),
    show V3 m ρ c main_arg15 = _ from W3_args m ρ c main_arg15 (by decide)] at h
  exact ⟨(W4_arr m ρ c 4).trans h.1, (W4_arr m ρ c 5).trans h.2.1, (W4_arr m ρ c 6).trans h.2.2⟩
theorem ln_mlp_g_step : Step (m ((c : Thread nD τ).loc main_arg16)) (m ((c : Thread nD τ).loc main_arg17)) (m ((c : Thread nD τ).loc main_arg18)) (m ((c : Thread nD τ).loc main_arg19))
    (V5 m ρ c main_v4_0) (V5 m ρ c main_v4_1) (V5 m ρ c main_v4_2) := by
  have h := ln_mlp_g_final (V4 m ρ) c
  rw [show V4 m ρ c main_arg16 = _ from W4_args m ρ c main_arg16 (by decide),
    show V4 m ρ c main_arg17 = _ from W4_args m ρ c main_arg17 (by decide),
    show V4 m ρ c main_arg18 = _ from W4_args m ρ c main_arg18 (by decide),
    show V4 m ρ c main_arg19 = _ from W4_args m ρ c main_arg19 (by decide)] at h
  exact ⟨(W5_arr m ρ c 4).trans h.1, (W5_arr m ρ c 5).trans h.2.1, (W5_arr m ρ c 6).trans h.2.2⟩
theorem ln_mlp_b_step : Step (m ((c : Thread nD τ).loc main_arg20)) (m ((c : Thread nD τ).loc main_arg21)) (m ((c : Thread nD τ).loc main_arg22)) (m ((c : Thread nD τ).loc main_arg23))
    (V6 m ρ c main_v5_0) (V6 m ρ c main_v5_1) (V6 m ρ c main_v5_2) := by
  have h := ln_mlp_b_final (V5 m ρ) c
  rw [show V5 m ρ c main_arg20 = _ from W5_args m ρ c main_arg20 (by decide),
    show V5 m ρ c main_arg21 = _ from W5_args m ρ c main_arg21 (by decide),
    show V5 m ρ c main_arg22 = _ from W5_args m ρ c main_arg22 (by decide),
    show V5 m ρ c main_arg23 = _ from W5_args m ρ c main_arg23 (by decide)] at h
  exact ⟨(W6_arr m ρ c 4).trans h.1, (W6_arr m ρ c 5).trans h.2.1, (W6_arr m ρ c 6).trans h.2.2⟩
theorem ple_gate_b_step : Step (m ((c : Thread nD τ).loc main_arg24)) (m ((c : Thread nD τ).loc main_arg25)) (m ((c : Thread nD τ).loc main_arg26)) (m ((c : Thread nD τ).loc main_arg27))
    (V7 m ρ c main_v6_0) (V7 m ρ c main_v6_1) (V7 m ρ c main_v6_2) := by
  have h := ple_gate_b_final (V6 m ρ) c
  rw [show V6 m ρ c main_arg24 = _ from W6_args m ρ c main_arg24 (by decide),
    show V6 m ρ c main_arg25 = _ from W6_args m ρ c main_arg25 (by decide),
    show V6 m ρ c main_arg26 = _ from W6_args m ρ c main_arg26 (by decide),
    show V6 m ρ c main_arg27 = _ from W6_args m ρ c main_arg27 (by decide)] at h
  exact ⟨(W7_arr m ρ c 4).trans h.1, (W7_arr m ρ c 5).trans h.2.1, (W7_arr m ρ c 6).trans h.2.2⟩

/-- The frame of the reference, from its run. -/
theorem frame_ref : Cert.quiescent_Reference6Ideal := fun m ρ _ =>
  (θ_run Cert.Reference6Ideal.defs _ _).mono
    (fun r h => ⟨fun c => (h c).2.2.2.2.2.2.2.2.2.2.2.2.2.2.2.2.2.2.2.2.2, sem_eq_zero_of_no_sems (by decide) r.2⟩)
    (Cert.Reference6Ideal.Value.run (F := Ideal) m ρ)

set_option maxHeartbeats 2000000 in
/-- The kernel's results are the reference's. -/
theorem results : Cert.algebraic_Kernel6Ideal_Reference6Ideal := fun m ρ m' ρ' _ hm =>
  ⟨fun c => delta (m ((c : Thread nD τ).loc main_arg0)) (m ((c : Thread nD τ).loc main_arg1)) (m ((c : Thread nD τ).loc main_arg2)) (m ((c : Thread nD τ).loc main_arg3)),
    fun c => newM (m ((c : Thread nD τ).loc main_arg1)) (m ((c : Thread nD τ).loc main_arg2)),
    fun c => newV (m ((c : Thread nD τ).loc main_arg1)) (m ((c : Thread nD τ).loc main_arg3)),
    fun c => delta (m ((c : Thread nD τ).loc main_arg4)) (m ((c : Thread nD τ).loc main_arg5)) (m ((c : Thread nD τ).loc main_arg6)) (m ((c : Thread nD τ).loc main_arg7)),
    fun c => newM (m ((c : Thread nD τ).loc main_arg5)) (m ((c : Thread nD τ).loc main_arg6)),
    fun c => newV (m ((c : Thread nD τ).loc main_arg5)) (m ((c : Thread nD τ).loc main_arg7)),
    fun c => delta (m ((c : Thread nD τ).loc main_arg8)) (m ((c : Thread nD τ).loc main_arg9)) (m ((c : Thread nD τ).loc main_arg10)) (m ((c : Thread nD τ).loc main_arg11)),
    fun c => newM (m ((c : Thread nD τ).loc main_arg9)) (m ((c : Thread nD τ).loc main_arg10)),
    fun c => newV (m ((c : Thread nD τ).loc main_arg9)) (m ((c : Thread nD τ).loc main_arg11)),
    fun c => delta (m ((c : Thread nD τ).loc main_arg12)) (m ((c : Thread nD τ).loc main_arg13)) (m ((c : Thread nD τ).loc main_arg14)) (m ((c : Thread nD τ).loc main_arg15)),
    fun c => newM (m ((c : Thread nD τ).loc main_arg13)) (m ((c : Thread nD τ).loc main_arg14)),
    fun c => newV (m ((c : Thread nD τ).loc main_arg13)) (m ((c : Thread nD τ).loc main_arg15)),
    fun c => delta (m ((c : Thread nD τ).loc main_arg16)) (m ((c : Thread nD τ).loc main_arg17)) (m ((c : Thread nD τ).loc main_arg18)) (m ((c : Thread nD τ).loc main_arg19)),
    fun c => newM (m ((c : Thread nD τ).loc main_arg17)) (m ((c : Thread nD τ).loc main_arg18)),
    fun c => newV (m ((c : Thread nD τ).loc main_arg17)) (m ((c : Thread nD τ).loc main_arg19)),
    fun c => delta (m ((c : Thread nD τ).loc main_arg20)) (m ((c : Thread nD τ).loc main_arg21)) (m ((c : Thread nD τ).loc main_arg22)) (m ((c : Thread nD τ).loc main_arg23)),
    fun c => newM (m ((c : Thread nD τ).loc main_arg21)) (m ((c : Thread nD τ).loc main_arg22)),
    fun c => newV (m ((c : Thread nD τ).loc main_arg21)) (m ((c : Thread nD τ).loc main_arg23)),
    fun c => delta (m ((c : Thread nD τ).loc main_arg24)) (m ((c : Thread nD τ).loc main_arg25)) (m ((c : Thread nD τ).loc main_arg26)) (m ((c : Thread nD τ).loc main_arg27)),
    fun c => newM (m ((c : Thread nD τ).loc main_arg25)) (m ((c : Thread nD τ).loc main_arg26)),
    fun c => newV (m ((c : Thread nD τ).loc main_arg25)) (m ((c : Thread nD τ).loc main_arg27)),
    (θ_run defs _ _).mono (fun _ h c => by
      refine ⟨(h c _ (mem_uc main_v0_0 (by decide))).trans ((W7_of m ρ c main_v0_0 (by decide)).trans ((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans ((pool_b_grp_step m ρ c).1))))))),
        (h c _ (mem_uc main_v0_1 (by decide))).trans ((W7_of m ρ c main_v0_1 (by decide)).trans ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans ((pool_b_grp_step m ρ c).2.1))))))),
        (h c _ (mem_uc main_v0_2 (by decide))).trans ((W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans ((pool_b_grp_step m ρ c).2.2))))))),
        (h c _ (mem_uc main_v1_0 (by decide))).trans ((W7_of m ρ c main_v1_0 (by decide)).trans ((W6_of m ρ c main_v1_0 (by decide)).trans ((W5_of m ρ c main_v1_0 (by decide)).trans ((W4_of m ρ c main_v1_0 (by decide)).trans ((W3_of m ρ c main_v1_0 (by decide)).trans ((pool_scale_step m ρ c).1)))))),
        (h c _ (mem_uc main_v1_1 (by decide))).trans ((W7_of m ρ c main_v1_1 (by decide)).trans ((W6_of m ρ c main_v1_1 (by decide)).trans ((W5_of m ρ c main_v1_1 (by decide)).trans ((W4_of m ρ c main_v1_1 (by decide)).trans ((W3_of m ρ c main_v1_1 (by decide)).trans ((pool_scale_step m ρ c).2.1)))))),
        (h c _ (mem_uc main_v1_2 (by decide))).trans ((W7_of m ρ c main_v1_2 (by decide)).trans ((W6_of m ρ c main_v1_2 (by decide)).trans ((W5_of m ρ c main_v1_2 (by decide)).trans ((W4_of m ρ c main_v1_2 (by decide)).trans ((W3_of m ρ c main_v1_2 (by decide)).trans ((pool_scale_step m ρ c).2.2)))))),
        (h c _ (mem_uc main_v2_0 (by decide))).trans ((W7_of m ρ c main_v2_0 (by decide)).trans ((W6_of m ρ c main_v2_0 (by decide)).trans ((W5_of m ρ c main_v2_0 (by decide)).trans ((W4_of m ρ c main_v2_0 (by decide)).trans ((ln_mix_g_step m ρ c).1))))),
        (h c _ (mem_uc main_v2_1 (by decide))).trans ((W7_of m ρ c main_v2_1 (by decide)).trans ((W6_of m ρ c main_v2_1 (by decide)).trans ((W5_of m ρ c main_v2_1 (by decide)).trans ((W4_of m ρ c main_v2_1 (by decide)).trans ((ln_mix_g_step m ρ c).2.1))))),
        (h c _ (mem_uc main_v2_2 (by decide))).trans ((W7_of m ρ c main_v2_2 (by decide)).trans ((W6_of m ρ c main_v2_2 (by decide)).trans ((W5_of m ρ c main_v2_2 (by decide)).trans ((W4_of m ρ c main_v2_2 (by decide)).trans ((ln_mix_g_step m ρ c).2.2))))),
        (h c _ (mem_uc main_v3_0 (by decide))).trans ((W7_of m ρ c main_v3_0 (by decide)).trans ((W6_of m ρ c main_v3_0 (by decide)).trans ((W5_of m ρ c main_v3_0 (by decide)).trans ((ln_mix_b_step m ρ c).1)))),
        (h c _ (mem_uc main_v3_1 (by decide))).trans ((W7_of m ρ c main_v3_1 (by decide)).trans ((W6_of m ρ c main_v3_1 (by decide)).trans ((W5_of m ρ c main_v3_1 (by decide)).trans ((ln_mix_b_step m ρ c).2.1)))),
        (h c _ (mem_uc main_v3_2 (by decide))).trans ((W7_of m ρ c main_v3_2 (by decide)).trans ((W6_of m ρ c main_v3_2 (by decide)).trans ((W5_of m ρ c main_v3_2 (by decide)).trans ((ln_mix_b_step m ρ c).2.2)))),
        (h c _ (mem_uc main_v4_0 (by decide))).trans ((W7_of m ρ c main_v4_0 (by decide)).trans ((W6_of m ρ c main_v4_0 (by decide)).trans ((ln_mlp_g_step m ρ c).1))),
        (h c _ (mem_uc main_v4_1 (by decide))).trans ((W7_of m ρ c main_v4_1 (by decide)).trans ((W6_of m ρ c main_v4_1 (by decide)).trans ((ln_mlp_g_step m ρ c).2.1))),
        (h c _ (mem_uc main_v4_2 (by decide))).trans ((W7_of m ρ c main_v4_2 (by decide)).trans ((W6_of m ρ c main_v4_2 (by decide)).trans ((ln_mlp_g_step m ρ c).2.2))),
        (h c _ (mem_uc main_v5_0 (by decide))).trans ((W7_of m ρ c main_v5_0 (by decide)).trans ((ln_mlp_b_step m ρ c).1)),
        (h c _ (mem_uc main_v5_1 (by decide))).trans ((W7_of m ρ c main_v5_1 (by decide)).trans ((ln_mlp_b_step m ρ c).2.1)),
        (h c _ (mem_uc main_v5_2 (by decide))).trans ((W7_of m ρ c main_v5_2 (by decide)).trans ((ln_mlp_b_step m ρ c).2.2)),
        (h c _ (mem_uc main_v6_0 (by decide))).trans ((ple_gate_b_step m ρ c).1),
        (h c _ (mem_uc main_v6_1 (by decide))).trans ((ple_gate_b_step m ρ c).2.1),
        (h c _ (mem_uc main_v6_2 (by decide))).trans ((ple_gate_b_step m ρ c).2.2),
        ?_⟩
      and_intros
      all_goals exact (h c _ (mem_uc _ (by decide))).trans (W7_args m ρ c _ (by decide))) (run_all m ρ),
    (θ_run Cert.Reference6Ideal.defs _ _).mono (fun _ h c => by
      obtain ⟨h0, h1, h2, h3, h4, h5, h6, h7, h8, h9, h10, h11, h12, h13, h14, h15, h16, h17, h18, h19, h20, hargs⟩ := h c
      obtain ⟨e0, e1, e2, e3, e4, e5, e6, e7, e8, e9, e10, e11, e12, e13, e14, e15, e16, e17, e18, e19, e20, e21, e22, e23, e24, e25, e26, e27⟩ := hm c
      exact ⟨h0.trans (delta_congr e0 e1 e2 e3),
        h1.trans (newM_congr e1 e2),
        h2.trans (newV_congr e1 e3),
        h3.trans (delta_congr e4 e5 e6 e7),
        h4.trans (newM_congr e5 e6),
        h5.trans (newV_congr e5 e7),
        h6.trans (delta_congr e8 e9 e10 e11),
        h7.trans (newM_congr e9 e10),
        h8.trans (newV_congr e9 e11),
        h9.trans (delta_congr e12 e13 e14 e15),
        h10.trans (newM_congr e13 e14),
        h11.trans (newV_congr e13 e15),
        h12.trans (delta_congr e16 e17 e18 e19),
        h13.trans (newM_congr e17 e18),
        h14.trans (newV_congr e17 e19),
        h15.trans (delta_congr e20 e21 e22 e23),
        h16.trans (newM_congr e21 e22),
        h17.trans (newV_congr e21 e23),
        h18.trans (delta_congr e24 e25 e26 e27),
        h19.trans (newM_congr e25 e26),
        h20.trans (newV_congr e25 e27), hargs⟩)
      (Cert.Reference6Ideal.Value.run (F := Ideal) m' ρ')⟩

end Cert.Proof.Vec

end
-- ==== Proof.Layer.lean ====
/-
  Hand-written, untrusted. A WEIGHT'S LAYERS: the optimiser's step of one layer of a weight, whose gradient is a sum of eight slots, read
  out of blocks with a leading unit axis.
-/
module

public import proofs.«01_k».proof.Proof.Adam
public import Idealize.ShloMosaic.Lib.Pipeline.ValueKit
public import Idealize.ShloMosaic.Lib.ValueLayoutCasts
public import Idealize.ShloMosaic.Lib.Pointwise.Reduce

@[expose] public section

noncomputable section

namespace Cert.Layer

open Idealize.ShloMosaic Idealize.ShloMosaic.ValueIdx Cert.Adam

/-- `n` matrices, and one. -/
abbrev Stack (n a b : ℕ) : Type := (⟨3, ![n, a, b]⟩ : Shape).Idx → EReal
abbrev Flat (a b : ℕ) : Type := (⟨2, ![a, b]⟩ : Shape).Idx → EReal

variable {n a b : ℕ}

/-- Layer `l` of a stack. -/
def layer (x : Stack n a b) (l : Fin n) : Flat a b := fun i => x (ValueIdx.ix3 l (i 0) (i 1))
/-- The sum of eight slots. -/
def total (x : Stack 8 a b) : Flat a b := fun i => ∑ s : Fin 8, layer x s i
/-- The stack all of whose layers are one matrix. -/
def every (g : Flat a b) : Stack n a b := fun i => g (ValueIdx.ix2 (i 1) (i 2))

/-- An index of a one-layer block, at layer `l` of a stack. -/
def put (l : Fin n) (y : (⟨3, ![1, a, b]⟩ : Shape).Idx) : (⟨3, ![n, a, b]⟩ : Shape).Idx := ValueIdx.ix3 l (y 1) (y 2)

/-- A slot read out of the slots. -/
theorem slot_read {e : EltTy} (x : (⟨3, ![8, a, b]⟩ : Shape).Idx → Elt Ideal e) (s : Fin 8)
    (inb : ∀ k, (![(s : ℕ), 0, 0] : Fin 3 → ℕ) k + (![1, a, b] : Fin 3 → ℕ) k ≤ (⟨3, ![8, a, b]⟩ : Shape).size k)
    (hc : (⟨3, ![1, a, b]⟩ : Shape).ShapeCasts ⟨2, ![a, b]⟩) (i : (⟨2, ![a, b]⟩ : Shape).Idx) :
    shapeCast ⟨2, ![a, b]⟩ (View.ld (Val := Elt Ideal) x (Rect.unit (s := ⟨3, ![8, a, b]⟩) ![(s : ℕ), 0, 0] ![1, a, b] inb)) hc i
      = x (ValueIdx.ix3 s (i 0) (i 1)) := by
  refine (congrArg _ (ValueIdx.eq_ix2 i)).trans ((shapeCast_1ab_ab_apply _ hc (i 0) (i 1)).trans ?_)
  refine congrArg x ?_
  funext k; apply Fin.ext
  match k with
  | ⟨0, _⟩ => simp [Rect.idx_unit_val]
  | ⟨1, _⟩ => simp [Rect.idx_unit_val]
  | ⟨2, _⟩ => simp [Rect.idx_unit_val]

/-- A block's layer with its unit axis dropped, and a matrix with a unit axis added. -/
theorem drop (x : Stack 1 a b) (hc : (⟨3, ![1, a, b]⟩ : Shape).ShapeCasts ⟨2, ![a, b]⟩) : shapeCast ⟨2, ![a, b]⟩ x hc = layer x 0 :=
  funext fun i => (congrArg _ (ValueIdx.eq_ix2 i)).trans (shapeCast_1ab_ab_apply x hc (i 0) (i 1))
theorem lift (g : Flat a b) (hc : (⟨2, ![a, b]⟩ : Shape).ShapeCasts ⟨3, ![1, a, b]⟩) : shapeCast ⟨3, ![1, a, b]⟩ g hc = every g :=
  funext fun y => (congrArg _ (ValueIdx.eq_ix3 y)).trans (shapeCast_ab_1ab_apply g hc (y 0) (y 1) (y 2))

/-- Two matrices as the layers of a stack. -/
def both (x y : Flat a b) : Stack 2 a b := fun i => if (i 0 : ℕ) = 0 then every x i else every y i

/-- The host's sum over the slots. -/
theorem total_host (x : Stack 8 a b) (h : (⟨3, ![8, a, b]⟩ : Shape).ReducesTo [0] ⟨2, ![a, b]⟩) (h0 : 0 < (⟨0, ![]⟩ : Shape).numel) :
    Host.reduceAdd (F := Ideal) (φ := .f32) x (constant ⟨0, ![]⟩ .f32 0x00000000#32) h h0 = total x := by
  funext j
  refine (Ideal.hostReduceAdd_r3_a0 h x _ j).trans ?_
  rw [show (constant (F := Ideal) ⟨0, ![]⟩ .f32 0x00000000#32 (Shape.Idx.first h0) : EReal) = 0 from by simp [constant]]
  exact zero_add _

/-- The host's stack of two matrices. -/
theorem stack_host (x y : Flat a b) (hb : (⟨2, ![a, b]⟩ : Shape).BroadcastsInDim ⟨3, ![1, a, b]⟩ (![1, 2] : Fin 2 → Fin 3))
    (h : Shape.Concatenates [⟨3, ![1, a, b]⟩, ⟨3, ![1, a, b]⟩] ⟨3, ![2, a, b]⟩ 0) :
    concatenate ⟨3, ![2, a, b]⟩ 0
        [⟨⟨3, ![1, a, b]⟩, broadcastInDim ⟨3, ![1, a, b]⟩ (![1, 2] : Fin 2 → Fin 3) hb x⟩,
          ⟨⟨3, ![1, a, b]⟩, broadcastInDim ⟨3, ![1, a, b]⟩ (![1, 2] : Fin 2 → Fin 3) hb y⟩] h
      = both x y := by
  have e (z : Flat a b) (k : (⟨3, ![1, a, b]⟩ : Shape).Idx) : broadcastInDim ⟨3, ![1, a, b]⟩ (![1, 2] : Fin 2 → Fin 3) hb z k = every z k :=
    broadcastInDim_apply _ hb z k (ValueIdx.ix2 (k 1) (k 2)) fun ax => by
      match ax with
      | ⟨0, _⟩ => show (k 1 : ℕ) = if a = 1 then 0 else (k 1 : ℕ); have : (k 1 : ℕ) < a := (k 1).isLt; split <;> omega
      | ⟨1, _⟩ => show (k 2 : ℕ) = if b = 1 then 0 else (k 2 : ℕ); have : (k 2 : ℕ) < b := (k 2).isLt; split <;> omega
  funext i
  unfold both
  have hi : (i 0 : ℕ) < 2 := (i 0).isLt
  by_cases hz : (i 0 : ℕ) = 0
  · rw [if_pos hz, concatenate_pair_apply_left 0 _ _ h i rfl (ValueIdx.ix3 (0 : Fin 1) (i 1) (i 2)) (fun ax => by
      match ax with
      | ⟨0, _⟩ => exact hz.symm
      | ⟨1, _⟩ => rfl
      | ⟨2, _⟩ => rfl), e]; rfl
  · rw [if_neg hz, concatenate_pair_apply_right 0 _ _ h i rfl rfl (ValueIdx.ix3 (0 : Fin 1) (i 1) (i 2)) (fun ax hx => by
      match ax with
      | ⟨0, _⟩ => exact absurd rfl hx
      | ⟨1, _⟩ => rfl
      | ⟨2, _⟩ => rfl) (by show 0 + 1 = (i 0 : ℕ); omega), e]; rfl

/-- What two calls leave that write one layer each, the second into a copy of what the first leaves. -/
theorem both_of {x y : Flat a b} {u u' v v' : Stack 2 a b} (hu : u = fun i => if (i 0 : ℕ) / 1 = 0 then every x i else u' i) (h : u' = v)
    (hv : v = fun i => if (i 0 : ℕ) / 1 = 1 then every y i else v' i) : u = both x y := by
  funext i
  have hi : (i 0 : ℕ) < 2 := (i 0).isLt
  rw [hu, h, hv]; unfold both
  by_cases hz : (i 0 : ℕ) = 0
  · simp [hz]
  · simp [show (i 0 : ℕ) = 1 by omega]

/-- The optimiser's step of a stack is its step layer by layer. -/
theorem layer_at (m : Stack n a b) (l : Fin n) (i : (⟨3, ![n, a, b]⟩ : Shape).Idx) (h : (i 0 : ℕ) = l) : m i = every (layer m l) i :=
  congrArg m ((ValueIdx.eq_ix3 i).trans (congrArg (fun k => ValueIdx.ix3 k (i 1) (i 2)) (Fin.ext h)))
theorem newM_both (x y : Flat a b) (m : Stack 2 a b) : newM (both x y) m = both (newM x (layer m 0)) (newM y (layer m 1)) := by
  funext i
  have hi : (i 0 : ℕ) < 2 := (i 0).isLt
  by_cases hz : (i 0 : ℕ) = 0
  · simp only [newM, both, if_pos hz, layer_at m 0 i hz]; rfl
  · simp only [newM, both, if_neg hz, layer_at m 1 i (show (i 0 : ℕ) = 1 by omega)]; rfl
theorem newV_both (x y : Flat a b) (v : Stack 2 a b) : newV (both x y) v = both (newV x (layer v 0)) (newV y (layer v 1)) := by
  funext i
  have hi : (i 0 : ℕ) < 2 := (i 0).isLt
  by_cases hz : (i 0 : ℕ) = 0
  · simp only [newV, both, if_pos hz, layer_at v 0 i hz]; rfl
  · simp only [newV, both, if_neg hz, layer_at v 1 i (show (i 0 : ℕ) = 1 by omega)]; rfl
theorem delta_both (w : Stack 2 a b) (x y : Flat a b) (m v : Stack 2 a b) :
    delta w (both x y) m v = both (delta (layer w 0) x (layer m 0) (layer v 0)) (delta (layer w 1) y (layer m 1) (layer v 1)) := by
  unfold delta
  rw [newM_both, newV_both]
  funext i
  have hi : (i 0 : ℕ) < 2 := (i 0).isLt
  by_cases hz : (i 0 : ℕ) = 0
  · simp only [both, if_pos hz, layer_at w 0 i hz]; rfl
  · simp only [both, if_neg hz, layer_at w 1 i (show (i 0 : ℕ) = 1 by omega)]; rfl

end Cert.Layer

end
-- ==== Proof.GrpValue.lean ====
/-
  Hand-written, untrusted. THE OPTIMISER'S CALLS FOR THE POOLING MIXER'S GROUPED WEIGHT: each call sums the slots that the exchange leaves
  for its layer and steps that layer.
-/
module

public import proofs.«01_k».proof.Proof.Layer
public import proofs.«01_k».proof.Proof.Gen.Kernel7Ideal.Frame
public import proofs.«01_k».proof.Proof.Gen.Reference7Ideal.Run
public import proofs.«01_k».proof.Defs
public import Idealize.ShloMosaic.Lib.Pipeline.ValueKit

@[expose] public section

set_option maxRecDepth 16384

noncomputable section

namespace Cert.Proof.Grp

open Idealize.ShloMosaic Idealize.SL.Sem Cert.Kernel7Ideal Cert.Adam Cert.Layer
open Idealize.SL Idealize.SL.RA Idealize.SL.BI
open scoped Idealize.SL.BI
open Idealize.ShloMosaic.Rounds
open Idealize.SL.BI.BIBase Idealize.SL.BI.Laws Idealize.SL.ProofMode
open Cert.Kernel7Ideal.Gen Idealize.ShloMosaic.TcCoe Idealize.ShloMosaic.ValueIdx
open Idealize.ShloMosaic.Pipeline (Dat Cfg Window cellOf)

theorem sum_slots (x : Vec Ideal S8x128x256 .bf16) : k0_pay3 (F := Ideal) (View.ld x r0_0) (View.ld x r0_1) (View.ld x r0_2) (View.ld x r0_3)
    (View.ld x r0_4) (View.ld x r0_5) (View.ld x r0_6) (View.ld x r0_7) = total (a := 128) (b := 256) x := by
  funext i
  unfold total
  rw [Fin.sum_univ_eight]
  exact congrArg₂ (· + ·) (congrArg₂ (· + ·) (congrArg₂ (· + ·) (congrArg₂ (· + ·) (congrArg₂ (· + ·) (congrArg₂ (· + ·) (congrArg₂ (· + ·)
    (slot_read x 0 _ _ i) (slot_read x 1 _ _ i)) (slot_read x 2 _ _ i)) (slot_read x 3 _ _ i)) (slot_read x 4 _ _ i)) (slot_read x 5 _ _ i))
    (slot_read x 6 _ _ i)) (slot_read x 7 _ _ i)

theorem pay_d (g : Flat 128 256) (w m v : Stack 1 128 256) :
    k0_pay7 (F := Ideal) g w m v = every (delta (layer w 0) g (layer m 0) (layer v 0)) := by
  unfold k0_pay7 k0_pay4 k0_pay5
  refine (lift _ _).trans ?_
  rw [drop, drop, drop]; rfl
theorem pay_m (g : Flat 128 256) (m : Stack 1 128 256) : k0_pay1 (F := Ideal) (k0_pay4 g m) = every (newM g (layer m 0)) := by
  unfold k0_pay1 k0_pay4
  refine (lift _ _).trans ?_
  rw [drop]; rfl
theorem pay_v (g : Flat 128 256) (v : Stack 1 128 256) : k0_pay2 (F := Ideal) (k0_pay5 g v) = every (newV g (layer v 0)) := by
  unfold k0_pay2 k0_pay5
  refine (lift _ _).trans ?_
  rw [drop]; rfl

theorem pay_g (g : Flat 128 256) : k0_pay6 (F := Ideal) g = every g := lift _ _

section Calls

variable (V : (c : Dev nD) → (b : Ref sig .tc) → Buf (Elt Ideal) ((c : Thread nD τ).loc b)) (c : Dev nD)

/-- Where each call's blocks lie: the slots whole, and of every other array the layer that the call is for. -/
theorem idx0 : ∀ t : Fin grid0.N, win0_0.index t = ![0, 0, 0] ∧ win0_1.index t = ![1, 0, 0] ∧ win0_2.index t = ![1, 0, 0] ∧ win0_3.index t = ![1, 0, 0]
    ∧ win0_4.index t = ![1, 0, 0] ∧ win0_5.index t = ![1, 0, 0] ∧ win0_6.index t = ![1, 0, 0] ∧ win0_7.index t = ![1, 0, 0] := by decide +kernel
theorem all0 (t : Fin cfg0.N) (j : (⟨3, ![8, 128, 256]⟩ : Shape).Idx) : (win0_0.blk t).view.emb j = j := by
  funext a; apply Fin.ext
  match a with
  | ⟨0, _⟩ => blk_simp [(idx0 t).1] <;> simp
  | ⟨1, _⟩ => blk_simp [(idx0 t).1] <;> simp
  | ⟨2, _⟩ => blk_simp [(idx0 t).1] <;> simp
theorem at0 (t : Fin cfg0.N) (y : (⟨3, ![1, 128, 256]⟩ : Shape).Idx) :
    (win0_1.blk t).view.emb y = put 1 y ∧ (win0_2.blk t).view.emb y = put 1 y ∧ (win0_3.blk t).view.emb y = put 1 y
    ∧ (win0_4.blk t).view.emb y = put 1 y ∧ (win0_5.blk t).view.emb y = put 1 y
    ∧ (win0_6.blk t).view.emb y = put 1 y ∧ (win0_7.blk t).view.emb y = put 1 y := by
  have h0 : (y 0 : ℕ) = 0 := by have := (y 0).isLt; change (y 0 : ℕ) < 1 at this; omega
  obtain ⟨-, h1, h2, h3, h4, h5, h6, h7⟩ := idx0 t
  and_intros <;> funext a <;> apply Fin.ext <;> match a with
  | ⟨0, _⟩ => blk_simp [h1, h2, h3, h4, h5, h6, h7] <;> simp [h0] <;> rfl
  | ⟨1, _⟩ => blk_simp [h1, h2, h3, h4, h5, h6, h7] <;> rfl
  | ⟨2, _⟩ => blk_simp [h1, h2, h3, h4, h5, h6, h7] <;> rfl
theorem idx1 : ∀ t : Fin grid1.N, win1_0.index t = ![0, 0, 0] ∧ win1_1.index t = ![0, 0, 0] ∧ win1_2.index t = ![0, 0, 0] ∧ win1_3.index t = ![0, 0, 0]
    ∧ win1_4.index t = ![0, 0, 0] ∧ win1_5.index t = ![0, 0, 0] ∧ win1_6.index t = ![0, 0, 0] ∧ win1_7.index t = ![0, 0, 0] := by decide +kernel
theorem all1 (t : Fin cfg1.N) (j : (⟨3, ![8, 128, 256]⟩ : Shape).Idx) : (win1_0.blk t).view.emb j = j := by
  funext a; apply Fin.ext
  match a with
  | ⟨0, _⟩ => blk_simp [(idx1 t).1] <;> simp
  | ⟨1, _⟩ => blk_simp [(idx1 t).1] <;> simp
  | ⟨2, _⟩ => blk_simp [(idx1 t).1] <;> simp
theorem at1 (t : Fin cfg1.N) (y : (⟨3, ![1, 128, 256]⟩ : Shape).Idx) :
    (win1_1.blk t).view.emb y = put 0 y ∧ (win1_2.blk t).view.emb y = put 0 y ∧ (win1_3.blk t).view.emb y = put 0 y
    ∧ (win1_4.blk t).view.emb y = put 0 y ∧ (win1_5.blk t).view.emb y = put 0 y
    ∧ (win1_6.blk t).view.emb y = put 0 y ∧ (win1_7.blk t).view.emb y = put 0 y := by
  have h0 : (y 0 : ℕ) = 0 := by have := (y 0).isLt; change (y 0 : ℕ) < 1 at this; omega
  obtain ⟨-, h1, h2, h3, h4, h5, h6, h7⟩ := idx1 t
  and_intros <;> funext a <;> apply Fin.ext <;> match a with
  | ⟨0, _⟩ => blk_simp [h1, h2, h3, h4, h5, h6, h7] <;> simp [h0] <;> rfl
  | ⟨1, _⟩ => blk_simp [h1, h2, h3, h4, h5, h6, h7] <;> rfl
  | ⟨2, _⟩ => blk_simp [h1, h2, h3, h4, h5, h6, h7] <;> rfl
/-- The two layers' gradients, and a layer of the weight and of its two moments. -/
abbrev sum0 : Flat 128 256 := total (V c main_arg0)
abbrev sum1 : Flat 128 256 := total (V c main_arg1)
abbrev wt (l : Fin 2) : Flat 128 256 := layer (n := 2) (V c main_arg2) l
abbrev mt (l : Fin 2) : Flat 128 256 := layer (n := 2) (V c main_arg3) l
abbrev et (l : Fin 2) : Flat 128 256 := layer (n := 2) (V c main_arg4) l
theorem slots0 (t : Fin cfg0.N) : iblk0 V c 0 t = V c main_arg1 := funext fun j => congrArg (V c main_arg1) (all0 t j)
theorem in0_1 (t : Fin cfg0.N) : layer (n := 1) (a := 128) (b := 256) (iblk0 V c 1 t) 0 = layer (n := 2) (a := 128) (b := 256) (V c main_arg2) 1 :=
  funext fun j => congrArg (V c main_arg2) ((at0 t (ValueIdx.ix3 0 (j 0) (j 1))).1.trans rfl)
theorem in0_2 (t : Fin cfg0.N) : layer (n := 1) (a := 128) (b := 256) (iblk0 V c 2 t) 0 = layer (n := 2) (a := 128) (b := 256) (V c main_arg3) 1 :=
  funext fun j => congrArg (V c main_arg3) ((at0 t (ValueIdx.ix3 0 (j 0) (j 1))).2.1.trans rfl)
theorem in0_3 (t : Fin cfg0.N) : layer (n := 1) (a := 128) (b := 256) (iblk0 V c 3 t) 0 = layer (n := 2) (a := 128) (b := 256) (V c main_arg4) 1 :=
  funext fun j => congrArg (V c main_arg4) ((at0 t (ValueIdx.ix3 0 (j 0) (j 1))).2.2.1.trans rfl)
theorem g0 : (dat0 V c).arrAt 4 cfg0.N = fun i => if (i 0 : ℕ) / 1 = 1 then every (n := 2) (sum1 V c) i else V c main_v0_0 i := by
  refine (dat0 V c).arrAt_eq_of_coversWhere 4 _ (fun β => β (0 : Fin _) = 1) (by decide +kernel) (fun t hf y => ?_) (fun j => Iff.rfl)
  blk_simp; rw [after0_4]; frame_out
  rw [k0_pay8, sum_slots, pay_g, slots0]
  exact (congrArg (every (n := 2) (sum1 V c)) (at0 t y).2.2.2.1).symm
theorem d0 : (dat0 V c).arrAt 5 cfg0.N = fun i => if (i 0 : ℕ) / 1 = 1 then every (n := 2) (delta (wt V c 1) (sum1 V c) (mt V c 1) (et V c 1)) i else V c main_v0_1 i := by
  refine (dat0 V c).arrAt_eq_of_coversWhere 5 _ (fun β => β (0 : Fin _) = 1) (by decide +kernel) (fun t hf y => ?_) (fun j => Iff.rfl)
  blk_simp; rw [after0_5]; frame_out
  rw [k0_pay8, sum_slots, pay_d, slots0, in0_1, in0_2, in0_3]
  exact (congrArg (every (n := 2) (delta (wt V c 1) (sum1 V c) (mt V c 1) (et V c 1))) (at0 t y).2.2.2.2.1).symm
theorem m0 : (dat0 V c).arrAt 6 cfg0.N = fun i => if (i 0 : ℕ) / 1 = 1 then every (n := 2) (newM (sum1 V c) (mt V c 1)) i else V c main_v0_2 i := by
  refine (dat0 V c).arrAt_eq_of_coversWhere 6 _ (fun β => β (0 : Fin _) = 1) (by decide +kernel) (fun t hf y => ?_) (fun j => Iff.rfl)
  blk_simp; rw [after0_6]; frame_out
  rw [k0_pay8, sum_slots, pay_m, slots0, in0_2]
  exact (congrArg (every (n := 2) (newM (sum1 V c) (mt V c 1))) (at0 t y).2.2.2.2.2.1).symm
theorem v0 : (dat0 V c).arrAt 7 cfg0.N = fun i => if (i 0 : ℕ) / 1 = 1 then every (n := 2) (newV (sum1 V c) (et V c 1)) i else V c main_v0_3 i := by
  refine (dat0 V c).arrAt_eq_of_coversWhere 7 _ (fun β => β (0 : Fin _) = 1) (by decide +kernel) (fun t hf y => ?_) (fun j => Iff.rfl)
  blk_simp; rw [after0_7]; frame_out
  rw [k0_pay8, sum_slots, pay_v, slots0, in0_3]
  exact (congrArg (every (n := 2) (newV (sum1 V c) (et V c 1))) (at0 t y).2.2.2.2.2.2).symm
theorem slots1 (t : Fin cfg1.N) : iblk1 V c 0 t = V c main_arg0 := funext fun j => congrArg (V c main_arg0) (all1 t j)
theorem in1_1 (t : Fin cfg1.N) : layer (n := 1) (a := 128) (b := 256) (iblk1 V c 1 t) 0 = layer (n := 2) (a := 128) (b := 256) (V c main_arg2) 0 :=
  funext fun j => congrArg (V c main_arg2) ((at1 t (ValueIdx.ix3 0 (j 0) (j 1))).1.trans rfl)
theorem in1_2 (t : Fin cfg1.N) : layer (n := 1) (a := 128) (b := 256) (iblk1 V c 2 t) 0 = layer (n := 2) (a := 128) (b := 256) (V c main_arg3) 0 :=
  funext fun j => congrArg (V c main_arg3) ((at1 t (ValueIdx.ix3 0 (j 0) (j 1))).2.1.trans rfl)
theorem in1_3 (t : Fin cfg1.N) : layer (n := 1) (a := 128) (b := 256) (iblk1 V c 3 t) 0 = layer (n := 2) (a := 128) (b := 256) (V c main_arg4) 0 :=
  funext fun j => congrArg (V c main_arg4) ((at1 t (ValueIdx.ix3 0 (j 0) (j 1))).2.2.1.trans rfl)
theorem g1 : (dat1 V c).arrAt 4 cfg1.N = fun i => if (i 0 : ℕ) / 1 = 0 then every (n := 2) (sum0 V c) i else V c main_v1_0 i := by
  refine (dat1 V c).arrAt_eq_of_coversWhere 4 _ (fun β => β (0 : Fin _) = 0) (by decide +kernel) (fun t hf y => ?_) (fun j => Iff.rfl)
  blk_simp; rw [after1_4, outsAt1]; frame_out
  refine (congrFun ((pay_g _).trans (?_ : _ = every (n := 1) (sum0 V c))) y).trans (congrArg (every (n := 2) (sum0 V c)) (at1 t y).2.2.2.1).symm
  rw [show k1_pay3 _ _ _ _ _ _ _ _ = _ from sum_slots _, slots1]
theorem d1 : (dat1 V c).arrAt 5 cfg1.N = fun i => if (i 0 : ℕ) / 1 = 0 then every (n := 2) (delta (wt V c 0) (sum0 V c) (mt V c 0) (et V c 0)) i else V c main_v1_1 i := by
  refine (dat1 V c).arrAt_eq_of_coversWhere 5 _ (fun β => β (0 : Fin _) = 0) (by decide +kernel) (fun t hf y => ?_) (fun j => Iff.rfl)
  blk_simp; rw [after1_5, outsAt1]; frame_out
  refine (congrFun ((pay_d _ _ _ _).trans (?_ : _ = every (n := 1) (delta (wt V c 0) (sum0 V c) (mt V c 0) (et V c 0)))) y).trans (congrArg (every (n := 2) (delta (wt V c 0) (sum0 V c) (mt V c 0) (et V c 0))) (at1 t y).2.2.2.2.1).symm
  rw [show k1_pay3 _ _ _ _ _ _ _ _ = _ from sum_slots _, slots1, in1_1, in1_2, in1_3]
theorem m1 : (dat1 V c).arrAt 6 cfg1.N = fun i => if (i 0 : ℕ) / 1 = 0 then every (n := 2) (newM (sum0 V c) (mt V c 0)) i else V c main_v1_2 i := by
  refine (dat1 V c).arrAt_eq_of_coversWhere 6 _ (fun β => β (0 : Fin _) = 0) (by decide +kernel) (fun t hf y => ?_) (fun j => Iff.rfl)
  blk_simp; rw [after1_6, outsAt1]; frame_out
  refine (congrFun ((pay_m _ _).trans (?_ : _ = every (n := 1) (newM (sum0 V c) (mt V c 0)))) y).trans (congrArg (every (n := 2) (newM (sum0 V c) (mt V c 0))) (at1 t y).2.2.2.2.2.1).symm
  rw [show k1_pay3 _ _ _ _ _ _ _ _ = _ from sum_slots _, slots1, in1_2]
theorem v1 : (dat1 V c).arrAt 7 cfg1.N = fun i => if (i 0 : ℕ) / 1 = 0 then every (n := 2) (newV (sum0 V c) (et V c 0)) i else V c main_v1_3 i := by
  refine (dat1 V c).arrAt_eq_of_coversWhere 7 _ (fun β => β (0 : Fin _) = 0) (by decide +kernel) (fun t hf y => ?_) (fun j => Iff.rfl)
  blk_simp; rw [after1_7, outsAt1]; frame_out
  refine (congrFun ((pay_v _ _).trans (?_ : _ = every (n := 1) (newV (sum0 V c) (et V c 0)))) y).trans (congrArg (every (n := 2) (newV (sum0 V c) (et V c 0))) (at1 t y).2.2.2.2.2.2).symm
  rw [show k1_pay3 _ _ _ _ _ _ _ _ = _ from sum_slots _, slots1, in1_3]

end Calls

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The program runs, and every buffer ends at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Run

/-! ## The results as functions of the arguments -/

variable (m : (ℓ : Loc nD τ sig) → Buf (Elt Ideal) ℓ) (ρ : Dev nD → PrngReg) (c : Dev nD)

/-- The gradient of both layers, the weight and its two moments. -/
abbrev G : Stack 2 128 256 := both (total (m ((c : Thread nD τ).loc main_arg0))) (total (m ((c : Thread nD τ).loc main_arg1)))
abbrev Wt : Stack 2 128 256 := m ((c : Thread nD τ).loc main_arg2)
abbrev Mt : Stack 2 128 256 := m ((c : Thread nD τ).loc main_arg3)
abbrev Vt : Stack 2 128 256 := m ((c : Thread nD τ).loc main_arg4)

theorem g_copied : V2 m ρ c main_v1_0 = V1 m ρ c main_v0_0 := by
  show StableHlo.after hostOps1 (W1 m ρ c) (Proc.devRef .tc main_v1_0) = _
  simp only [hostOps1]; after_results; try rfl
theorem g_final : V3 m ρ c main_v1_0 = G m c := by
  have h := g1 (V2 m ρ) c
  simp only [sum0, show V2 m ρ c main_arg0 = _ from W2_args m ρ c main_arg0 (by decide)] at h
  exact ((W3_arr m ρ c 4).trans (both_of h (g_copied m ρ c) ((W1_arr m ρ c 4).trans (g0 (V0 m ρ) c)))).trans rfl
theorem d_copied : V2 m ρ c main_v1_1 = V1 m ρ c main_v0_1 := by
  show StableHlo.after hostOps1 (W1 m ρ c) (Proc.devRef .tc main_v1_1) = _
  simp only [hostOps1]; after_results; try rfl
theorem d_final : V3 m ρ c main_v1_1 = delta (Wt m c) (G m c) (Mt m c) (Vt m c) := by
  have h := d1 (V2 m ρ) c
  simp only [sum0, wt, mt, et, show V2 m ρ c main_arg0 = _ from W2_args m ρ c main_arg0 (by decide), show V2 m ρ c main_arg2 = _ from W2_args m ρ c main_arg2 (by decide), show V2 m ρ c main_arg3 = _ from W2_args m ρ c main_arg3 (by decide), show V2 m ρ c main_arg4 = _ from W2_args m ρ c main_arg4 (by decide)] at h
  exact ((W3_arr m ρ c 5).trans (both_of h (d_copied m ρ c) ((W1_arr m ρ c 5).trans (d0 (V0 m ρ) c)))).trans (delta_both _ _ _ _ _).symm
theorem m_copied : V2 m ρ c main_v1_2 = V1 m ρ c main_v0_2 := by
  show StableHlo.after hostOps1 (W1 m ρ c) (Proc.devRef .tc main_v1_2) = _
  simp only [hostOps1]; after_results; try rfl
theorem m_final : V3 m ρ c main_v1_2 = newM (G m c) (Mt m c) := by
  have h := m1 (V2 m ρ) c
  simp only [sum0, mt, show V2 m ρ c main_arg0 = _ from W2_args m ρ c main_arg0 (by decide), show V2 m ρ c main_arg3 = _ from W2_args m ρ c main_arg3 (by decide)] at h
  exact ((W3_arr m ρ c 6).trans (both_of h (m_copied m ρ c) ((W1_arr m ρ c 6).trans (m0 (V0 m ρ) c)))).trans (newM_both _ _ _).symm
theorem v_copied : V2 m ρ c main_v1_3 = V1 m ρ c main_v0_3 := by
  show StableHlo.after hostOps1 (W1 m ρ c) (Proc.devRef .tc main_v1_3) = _
  simp only [hostOps1]; after_results; try rfl
theorem v_final : V3 m ρ c main_v1_3 = newV (G m c) (Vt m c) := by
  have h := v1 (V2 m ρ) c
  simp only [sum0, et, show V2 m ρ c main_arg0 = _ from W2_args m ρ c main_arg0 (by decide), show V2 m ρ c main_arg4 = _ from W2_args m ρ c main_arg4 (by decide)] at h
  exact ((W3_arr m ρ c 7).trans (both_of h (v_copied m ρ c) ((W1_arr m ρ c 7).trans (v0 (V0 m ρ) c)))).trans (newV_both _ _ _).symm

/-- The frame of the reference, from its run. -/
theorem frame_ref : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

set_option maxHeartbeats 2000000 in
/-- The kernel's results are the reference's. -/
theorem results : Cert.algebraic_Kernel7Ideal_Reference7Ideal := fun m ρ m' ρ' _ hm =>
  ⟨fun c => G m c, fun c => delta (Wt m c) (G m c) (Mt m c) (Vt m c), fun c => newM (G m c) (Mt m c), fun c => newV (G m c) (Vt m c),
    (θ_run defs _ _).mono (fun _ h c => by
      refine ⟨(h c _ (mem_uc main_v1_0 (by decide))).trans (g_final m ρ c), (h c _ (mem_uc main_v1_1 (by decide))).trans (d_final m ρ c),
        (h c _ (mem_uc main_v1_2 (by decide))).trans (m_final m ρ c), (h c _ (mem_uc main_v1_3 (by decide))).trans (v_final m ρ c), ?_⟩
      and_intros
      all_goals exact (h c _ (mem_uc _ (by decide))).trans (W3_args m ρ c _ (by decide))) (run_all m ρ),
    (θ_run Cert.Reference7Ideal.defs _ _).mono (fun _ h c => by
      obtain ⟨h0, h1, h2, h3, hargs⟩ := h c
      obtain ⟨e0, e1, e2, e3, e4⟩ := hm c
      have eg := (stack_host _ _ Cert.Reference7Ideal.Gen.bcast_S128x256_S1x128x256_1_2
        Cert.Reference7Ideal.Gen.concatenates_S1x128x256_S1x128x256_S2x128x256_d0).trans
        (congrArg₂ (both (a := 128) (b := 256))
          ((total_host _ Cert.Reference7Ideal.Gen.reducesTo_S8x128x256_S128x256_d0 Cert.Reference7Ideal.Gen.h_S_).trans (congrArg total e0))
          ((total_host _ Cert.Reference7Ideal.Gen.reducesTo_S8x128x256_S128x256_d0 Cert.Reference7Ideal.Gen.h_S_).trans (congrArg total e1)))
      exact ⟨h0.trans eg, h1.trans (delta_congr e2 eg e3 e4), h2.trans (newM_congr eg e3), h3.trans (newV_congr eg e4), hargs⟩)
      (Cert.Reference7Ideal.Value.run (F := Ideal) m' ρ')⟩

end Cert.Proof.Grp

end
-- ==== Proof.Own.lean ====
/-
  Hand-written, untrusted. A LAYER'S STEP FROM THE SLOTS AND THE DEVICE'S OWN GRADIENT: the slots are summed with one of them, the device's
  own, read instead out of the gradient that the device itself computed, of which it is one block; and the step of one layer is written
  into arrays that hold the other layers' steps.
-/
module

public import proofs.«01_k».proof.Proof.Layer
public import Idealize.ShloMosaic.Lib.StableHlo.Predicate

@[expose] public section

noncomputable section

namespace Cert.Own

open Idealize.ShloMosaic Idealize.ShloMosaic.ValueIdx Cert.Adam Cert.Layer

variable {n a b : ℕ}

/-- The slots with block `k` of the device's own blocks in the place of slot `k`. -/
def picked (k : BitVec 32) (own x : Stack 8 a b) : Stack 8 a b := fun i => if BitVec.ofNat 32 (i 0 : ℕ) = k then own i else x i
/-- The blocks of eight times as many rows. -/
def rowBlocks {N : ℕ} (hN : N = 8 * a) (x : Flat N b) : Stack 8 a b := fun i =>
  x (ValueIdx.ix2 ⟨(i 0 : ℕ) * a + (i 1 : ℕ), by
    have h0 : (i 0 : ℕ) < 8 := (i 0).isLt
    have h1 : (i 1 : ℕ) < a := (i 1).isLt
    rw [hN]; nlinarith⟩ (i 2))
/-- The blocks of eight times as many columns. -/
def colBlocks {M : ℕ} (hM : M = 8 * b) (x : Flat a M) : Stack 8 a b := fun i =>
  x (ValueIdx.ix2 (i 1) ⟨(i 0 : ℕ) * b + (i 2 : ℕ), by
    have h0 : (i 0 : ℕ) < 8 := (i 0).isLt
    have h2 : (i 2 : ℕ) < b := (i 2).isLt
    rw [hM]; nlinarith⟩)
/-- One layer of a stack, put in the place of what an array holds there. -/
def into (l : ℕ) (x old : Stack n a b) : Stack n a b := fun i => if (i 0 : ℕ) / 1 = l then x i else old i

/-- A choice by a comparison of words. -/
theorem choose {α : Type} (k k' : BitVec 32) (x y : α) : Scalar.select (Scalar.cmpi .eq k k') x y = if k' = k then x else y :=
  if_congr (StableHlo.Predicate.cmpi_eq_iff.trans eq_comm) rfl rfl

/-- One term of the sum over the slots. -/
theorem term (k : BitVec 32) (own : Stack 8 a b) (mine : Flat a b) (hm : ∀ s : Fin 8, BitVec.ofNat 32 (s : ℕ) = k → mine = layer own s)
    (x : Stack 8 a b) (s : Fin 8) (v : Flat a b) (hv : v = layer x s) (w : BitVec 32) (hw : w = BitVec.ofNat 32 (s : ℕ)) (i : (⟨2, ![a, b]⟩ : Shape).Idx) :
    Scalar.select (Scalar.cmpi .eq k w) mine v i = layer (picked k own x) s i := by
  rw [choose, hw]
  unfold picked
  by_cases h : BitVec.ofNat 32 (s : ℕ) = k
  · rw [if_pos h, hm s h]; exact (if_pos h).symm
  · rw [if_neg h, hv]; exact (if_neg h).symm

/-- The sum over the slots, from what the body reads of each. -/
theorem slots_total (k : BitVec 32) (own : Stack 8 a b) (mine : Flat a b) (hm : ∀ s : Fin 8, BitVec.ofNat 32 (s : ℕ) = k → mine = layer own s)
    (x : Stack 8 a b) (v0 v1 v2 v3 v4 v5 v6 v7 : Flat a b)
    (h0 : ∀ i, v0 i = x (ValueIdx.ix3 0 (i 0) (i 1))) (h1 : ∀ i, v1 i = x (ValueIdx.ix3 1 (i 0) (i 1)))
    (h2 : ∀ i, v2 i = x (ValueIdx.ix3 2 (i 0) (i 1))) (h3 : ∀ i, v3 i = x (ValueIdx.ix3 3 (i 0) (i 1)))
    (h4 : ∀ i, v4 i = x (ValueIdx.ix3 4 (i 0) (i 1))) (h5 : ∀ i, v5 i = x (ValueIdx.ix3 5 (i 0) (i 1)))
    (h6 : ∀ i, v6 i = x (ValueIdx.ix3 6 (i 0) (i 1))) (h7 : ∀ i, v7 i = x (ValueIdx.ix3 7 (i 0) (i 1))) :
    addf (F := Ideal) (φ := .f32) (addf (addf (addf (addf (addf (addf (Scalar.select (Scalar.cmpi .eq k 0#32) mine v0) (Scalar.select (Scalar.cmpi .eq k 1#32) mine v1))
      (Scalar.select (Scalar.cmpi .eq k 2#32) mine v2)) (Scalar.select (Scalar.cmpi .eq k 3#32) mine v3)) (Scalar.select (Scalar.cmpi .eq k 4#32) mine v4))
      (Scalar.select (Scalar.cmpi .eq k 5#32) mine v5)) (Scalar.select (Scalar.cmpi .eq k 6#32) mine v6)) (Scalar.select (Scalar.cmpi .eq k 7#32) mine v7)
      = total (picked k own x) := by
  funext i
  unfold total
  rw [Fin.sum_univ_eight]
  have T (s : Fin 8) (v : Flat a b) (hv : ∀ i, v i = x (ValueIdx.ix3 s (i 0) (i 1))) (w : BitVec 32) (hw : w = BitVec.ofNat 32 (s : ℕ)) :
      Scalar.select (Scalar.cmpi .eq k w) mine v i = layer (picked k own x) s i := term k own mine hm x s v (funext hv) w hw i
  exact congrArg₂ (· + ·) (congrArg₂ (· + ·) (congrArg₂ (· + ·) (congrArg₂ (· + ·) (congrArg₂ (· + ·) (congrArg₂ (· + ·) (congrArg₂ (· + ·)
    (T 0 _ h0 _ rfl) (T 1 _ h1 _ rfl)) (T 2 _ h2 _ rfl)) (T 3 _ h3 _ rfl)) (T 4 _ h4 _ rfl)) (T 5 _ h5 _ rfl)) (T 6 _ h6 _ rfl)) (T 7 _ h7 _ rfl)

/-! Strips of rows: a stack's, a matrix's, and what is computed of them. -/
section Strips

variable {A T : ℕ} (hA : A = T * a) (t : Fin T)

/-- Row `i` of strip `t`. -/
def row (i : Fin a) : Fin A := ⟨(t : ℕ) * a + (i : ℕ), by
  have ht : (t : ℕ) + 1 ≤ T := t.isLt
  have hi : (i : ℕ) < a := i.isLt
  rw [hA]; nlinarith [Nat.mul_le_mul_right a ht]⟩
def strips (x : Stack n A b) : Stack n a b := fun i => x (ValueIdx.ix3 (i 0) (row hA t (i 1)) (i 2))
def strip (g : Flat A b) : Flat a b := fun i => g (ValueIdx.ix2 (row hA t (i 0)) (i 1))
/-- Where strip `t` of layer `l` lies. -/
def inLayer (l : Fin n) (y : (⟨3, ![1, a, b]⟩ : Shape).Idx) : (⟨3, ![n, A, b]⟩ : Shape).Idx := ValueIdx.ix3 l (row hA t (y 1)) (y 2)
/-- The sum over the slots of a strip is the strip of the sum. -/
theorem total_strips (k : BitVec 32) (own x : Stack 8 A b) :
    total (picked k (strips hA t own) (strips hA t x)) = strip hA t (total (picked k own x)) := rfl

end Strips

/-! The step of one layer, of blocks of one layer each. -/
section Kept

variable (g : Flat a b) (w m v : Stack 1 a b) (hd : (⟨3, ![1, a, b]⟩ : Shape).ShapeCasts ⟨2, ![a, b]⟩) (hl : (⟨2, ![a, b]⟩ : Shape).ShapeCasts ⟨3, ![1, a, b]⟩)

theorem kept_d : shapeCast ⟨3, ![1, a, b]⟩ (delta (shapeCast ⟨2, ![a, b]⟩ w hd) g (shapeCast ⟨2, ![a, b]⟩ m hd) (shapeCast ⟨2, ![a, b]⟩ v hd)) hl
    = every (delta (layer w 0) g (layer m 0) (layer v 0)) := by rw [lift, drop, drop, drop]
theorem kept_m : shapeCast ⟨3, ![1, a, b]⟩ (newM g (shapeCast ⟨2, ![a, b]⟩ m hd)) hl = every (newM g (layer m 0)) := by rw [lift, drop]
theorem kept_v : shapeCast ⟨3, ![1, a, b]⟩ (newV g (shapeCast ⟨2, ![a, b]⟩ v hd)) hl = every (newV g (layer v 0)) := by rw [lift, drop]

end Kept

/-- The host's slots, the device's own replaced. -/
theorem picked_host (me : (⟨1, ![1]⟩ : Shape).Idx → BitVec 32) (k : BitVec 32) (hk : ∀ y, me y = k) (own x : Stack 8 a b)
    (hc : (⟨1, ![1]⟩ : Shape).ShapeCasts ⟨0, ![]⟩) (hb : (⟨0, ![]⟩ : Shape).BroadcastsInDim ⟨3, ![8, a, b]⟩ (![] : Fin 0 → Fin 3)) :
    select (cmpi .eq (iotaInDim ⟨3, ![8, a, b]⟩ 32 0) (broadcastInDim ⟨3, ![8, a, b]⟩ (![] : Fin 0 → Fin 3) hb (shapeCast ⟨0, ![]⟩ me hc))) own x
      = picked k own x := by
  funext i
  have hbk : broadcastInDim ⟨3, ![8, a, b]⟩ (![] : Fin 0 → Fin 3) hb (shapeCast ⟨0, ![]⟩ me hc) i = k := hk _
  show Scalar.select (Scalar.cmpi .eq (BitVec.ofNat 32 (i 0 : ℕ)) (broadcastInDim ⟨3, ![8, a, b]⟩ (![] : Fin 0 → Fin 3) hb (shapeCast ⟨0, ![]⟩ me hc) i)) (own i) (x i) = _
  rw [hbk, choose]
  unfold picked
  exact if_congr ⟨fun h => h.symm, fun h => h.symm⟩ rfl rfl

/-- The host's blocks of rows. -/
theorem rowBlocks_host {N : ℕ} (hN : N = 8 * a) (x : Flat N b) (h : (⟨2, ![N, b]⟩ : Shape).ShapeCasts ⟨3, ![8, a, b]⟩) :
    shapeCast ⟨3, ![8, a, b]⟩ x h = rowBlocks hN x := by
  funext i
  refine shapeCast_apply x h i _ ?_
  rw [Shape.rowMajor_val_two, Shape.rowMajor_val_three]
  rfl

/-- The host's blocks of columns. -/
theorem colBlocks_host {M : ℕ} (hM : M = 8 * b) (x : Flat a M) (h : (⟨2, ![a, M]⟩ : Shape).ShapeCasts ⟨3, ![a, 8, b]⟩)
    (ht : (⟨3, ![a, 8, b]⟩ : Shape).Transposes [1, 0, 2] ⟨3, ![8, a, b]⟩) :
    transpose ⟨3, ![8, a, b]⟩ [1, 0, 2] (shapeCast ⟨3, ![a, 8, b]⟩ x h) ht = colBlocks hM x := by
  funext i
  refine (transpose_apply _ _ ht i (ValueIdx.ix3 (i 1) (i 0) (i 2)) fun k => ?_).trans (shapeCast_apply x h _ _ ?_)
  · match k with
    | ⟨0, _⟩ => rfl
    | ⟨1, _⟩ => rfl
    | ⟨2, _⟩ => rfl
  · rw [Shape.rowMajor_val_two, Shape.rowMajor_val_three]
    subst hM
    show (i 1 : ℕ) * (8 * b) + ((i 0 : ℕ) * b + (i 2 : ℕ)) = ((i 1 : ℕ) * 8 + (i 0 : ℕ)) * b + (i 2 : ℕ)
    ring

/-- The host's sum over the slots, the device's own read out of its own gradient. -/
theorem gradient_host (me : (⟨1, ![1]⟩ : Shape).Idx → BitVec 32) (k : BitVec 32) (hk : ∀ y, me y = k)
    {own own' : Stack 8 a b} (ho : own = own') {x x' : Stack 8 a b} (hx : x = x')
    (hc : (⟨1, ![1]⟩ : Shape).ShapeCasts ⟨0, ![]⟩) (hb : (⟨0, ![]⟩ : Shape).BroadcastsInDim ⟨3, ![8, a, b]⟩ (![] : Fin 0 → Fin 3))
    (h : (⟨3, ![8, a, b]⟩ : Shape).ReducesTo [0] ⟨2, ![a, b]⟩) (h0 : 0 < (⟨0, ![]⟩ : Shape).numel) :
    Host.reduceAdd (F := Ideal) (φ := .f32) (select (cmpi .eq (iotaInDim ⟨3, ![8, a, b]⟩ 32 0)
        (broadcastInDim ⟨3, ![8, a, b]⟩ (![] : Fin 0 → Fin 3) hb (shapeCast ⟨0, ![]⟩ me hc))) own x)
        (constant ⟨0, ![]⟩ .f32 0x00000000#32) h h0
      = total (picked k own' x') := by
  subst ho hx
  rw [total_host, picked_host me k hk]

/-- The host's choice of one layer. -/
theorem into_host (l : ℕ) (hl : l < 2 ^ 32) (hn : n < 2 ^ 32) (x old : Stack n a b)
    (hb : (⟨0, ![]⟩ : Shape).BroadcastsInDim ⟨3, ![n, a, b]⟩ (![] : Fin 0 → Fin 3)) :
    select (cmpi .eq (iotaInDim ⟨3, ![n, a, b]⟩ 32 0) (broadcastInDim ⟨3, ![n, a, b]⟩ (![] : Fin 0 → Fin 3) hb (constantI ⟨0, ![]⟩ 32 (BitVec.ofNat 32 l)))) x old
      = into l x old := by
  funext i
  have hi : (i 0 : ℕ) < n := (i 0).isLt
  show Scalar.select (Scalar.cmpi .eq (BitVec.ofNat 32 (i 0 : ℕ)) (BitVec.ofNat 32 l)) (x i) (old i) = _
  rw [choose]
  unfold into
  refine if_congr ⟨fun h => ?_, fun h => ?_⟩ rfl rfl
  · have h := congrArg BitVec.toNat h
    rw [BitVec.toNat_ofNat, BitVec.toNat_ofNat, Nat.mod_eq_of_lt hl, Nat.mod_eq_of_lt (by omega)] at h
    omega
  · rw [show (i 0 : ℕ) = l by omega]

/-- A matrix repeated over the layers, at once and by way of a unit axis. -/
theorem every_host (g : Flat a b) (hb : (⟨2, ![a, b]⟩ : Shape).BroadcastsInDim ⟨3, ![n, a, b]⟩ (![1, 2] : Fin 2 → Fin 3)) :
    broadcastInDim ⟨3, ![n, a, b]⟩ (![1, 2] : Fin 2 → Fin 3) hb g = every g := by
  funext k
  refine broadcastInDim_apply _ hb g k (ValueIdx.ix2 (k 1) (k 2)) fun ax => by
      match ax with
      | ⟨0, _⟩ => show (k 1 : ℕ) = if a = 1 then 0 else (k 1 : ℕ); have : (k 1 : ℕ) < a := (k 1).isLt; split <;> omega
      | ⟨1, _⟩ => show (k 2 : ℕ) = if b = 1 then 0 else (k 2 : ℕ); have : (k 2 : ℕ) < b := (k 2).isLt; split <;> omega
theorem every_host' (g : Stack 1 a b) (g' : Flat a b) (hg : g = every g')
    (hb : (⟨3, ![1, a, b]⟩ : Shape).BroadcastsInDim ⟨3, ![n, a, b]⟩ (![0, 1, 2] : Fin 3 → Fin 3)) :
    broadcastInDim ⟨3, ![n, a, b]⟩ (![0, 1, 2] : Fin 3 → Fin 3) hb g = every g' := by
  funext k
  rw [hg]
  exact broadcastInDim_apply _ hb (every g') k (ValueIdx.ix3 0 (k 1) (k 2)) fun ax => by
      match ax with
      | ⟨0, _⟩ => rfl
      | ⟨1, _⟩ => show (k 1 : ℕ) = if a = 1 then 0 else (k 1 : ℕ); have : (k 1 : ℕ) < a := (k 1).isLt; split <;> omega
      | ⟨2, _⟩ => show (k 2 : ℕ) = if b = 1 then 0 else (k 2 : ℕ); have : (k 2 : ℕ) < b := (k 2).isLt; split <;> omega

/-! The host's step of a stack by one matrix for all its layers. -/
section Step

variable (h3 : (⟨0, ![]⟩ : Shape).BroadcastsInDim ⟨3, ![n, a, b]⟩ (![] : Fin 0 → Fin 3)) (h2 : (⟨0, ![]⟩ : Shape).BroadcastsInDim ⟨2, ![a, b]⟩ (![] : Fin 0 → Fin 2))
  (h1 : (⟨2, ![a, b]⟩ : Shape).BroadcastsInDim ⟨3, ![1, a, b]⟩ (![1, 2] : Fin 2 → Fin 3))
  (hn : (⟨3, ![1, a, b]⟩ : Shape).BroadcastsInDim ⟨3, ![n, a, b]⟩ (![0, 1, 2] : Fin 3 → Fin 3)) (g : Flat a b) (w m v : Stack n a b)

theorem newM_host : addf (F := Ideal) (φ := .f32) (mulf (broadcastInDim ⟨3, ![n, a, b]⟩ (![] : Fin 0 → Fin 3) h3 (constant (F := Ideal) ⟨0, ![]⟩ .f32 0x3F666666#32)) m)
    (broadcastInDim ⟨3, ![n, a, b]⟩ (![0, 1, 2] : Fin 3 → Fin 3) hn (broadcastInDim ⟨3, ![1, a, b]⟩ (![1, 2] : Fin 2 → Fin 3) h1 (mulf (broadcastInDim ⟨2, ![a, b]⟩ (![] : Fin 0 → Fin 2) h2 (constant (F := Ideal) ⟨0, ![]⟩ .f32 0x3DCCCCCD#32)) g)))
      = newM (every g) m := by
  rw [every_host' _ _ (every_host _ h1) hn]; rfl
theorem newV_host : addf (F := Ideal) (φ := .f32) (mulf (broadcastInDim ⟨3, ![n, a, b]⟩ (![] : Fin 0 → Fin 3) h3 (constant (F := Ideal) ⟨0, ![]⟩ .f32 0x3F7FBE77#32)) v)
    (broadcastInDim ⟨3, ![n, a, b]⟩ (![0, 1, 2] : Fin 3 → Fin 3) hn (broadcastInDim ⟨3, ![1, a, b]⟩ (![1, 2] : Fin 2 → Fin 3) h1 (mulf (broadcastInDim ⟨2, ![a, b]⟩ (![] : Fin 0 → Fin 2) h2 (constant (F := Ideal) ⟨0, ![]⟩ .f32 0x3A83126F#32)) (mulf g g))))
      = newV (every g) v := by
  rw [every_host' _ _ (every_host _ h1) hn]; rfl
theorem delta_host (g M V : Stack n a b) (hM : M = newM g m) (hV : V = newV g v) :
    mulf (F := Ideal) (φ := .f32) (broadcastInDim ⟨3, ![n, a, b]⟩ (![] : Fin 0 → Fin 3) h3 (constant (F := Ideal) ⟨0, ![]⟩ .f32 0xBA83126F#32))
      (addf (Host.divf (Host.divf M (broadcastInDim ⟨3, ![n, a, b]⟩ (![] : Fin 0 → Fin 3) h3 (constant (F := Ideal) ⟨0, ![]⟩ .f32 0x3F26BD02#32)))
          (addf (Host.sqrt (Host.divf V (broadcastInDim ⟨3, ![n, a, b]⟩ (![] : Fin 0 → Fin 3) h3 (constant (F := Ideal) ⟨0, ![]⟩ .f32 0x3C231ACC#32)))) (broadcastInDim ⟨3, ![n, a, b]⟩ (![] : Fin 0 → Fin 3) h3 (constant (F := Ideal) ⟨0, ![]⟩ .f32 0x322BCC77#32))))
        (mulf (broadcastInDim ⟨3, ![n, a, b]⟩ (![] : Fin 0 → Fin 3) h3 (constant (F := Ideal) ⟨0, ![]⟩ .f32 0x3C23D70A#32)) w)) = delta w g m v := by
  rw [hM, hV]; rfl

end Step

end Cert.Own

end
-- ==== Proof.PoolStep.lean ====
/-
  Hand-written, untrusted. THE OPTIMISER'S CALL FOR ONE LAYER OF A MIXER'S INPUT OR OUTPUT PROJECTION: the call sums the slots that the exchange
  leaves for its layer, of which the device's own is read out of its own gradient at a block that a prefetched word names, and steps that
  layer.
-/
module

public import proofs.«01_k».proof.Proof.Own
public import proofs.«01_k».proof.Proof.Gen.Kernel8.Frame
public import proofs.«01_k».proof.Proof.Gen.Kernel8Ideal.Frame
public import proofs.«01_k».proof.Proof.Gen.Pre_device
public import proofs.«01_k».proof.Proof.Gen.Reference8Ideal.Run
public import proofs.«01_k».proof.Defs
public import Idealize.ShloMosaic.Lib.Pipeline.ValueKit

@[expose] public section

set_option maxRecDepth 16384

noncomputable section

namespace Cert.Proof.PoolStep

open Idealize.ShloMosaic Idealize.SL.Sem Cert.Kernel8Ideal Cert.Adam Cert.Layer Cert.Own
open Cert.Kernel8Ideal.Gen Idealize.ShloMosaic.TcCoe Idealize.ShloMosaic.ValueIdx
open Idealize.ShloMosaic.Pipeline (Dat Cfg Window cellOf)

/-- The word that the precondition admits is a device's number. -/
theorem named (a9 : IVec Cert.Pre_device.S1 32) (h : ∀ y, IntOp.andi (IntOp.cmpi .sge (a9 y) 0#32) (IntOp.cmpi .slt (a9 y) 8#32) = 1#1) :
    ∃ s : Fin 8, a9 = fun _ => BitVec.ofNat 32 (s : ℕ) := by
  have and_one (x y : BitVec 1) : IntOp.andi x y = 1#1 → x = 1#1 ∧ y = 1#1 := by revert x y; decide
  have hw (x : BitVec 32) (h0 : IntOp.cmpi .sge x 0#32 = 1#1) (h8 : IntOp.cmpi .slt x 8#32 = 1#1) : x.toNat < 8 := by
    simp only [IntOp.cmpi, StableHlo.Predicate.ofBool_eq_one_iff, BitVec.sle, BitVec.slt, decide_eq_true_eq, BitVec.toInt_eq_toNat_cond] at h0 h8
    simp only [BitVec.toNat_ofNat] at h0 h8
    omega
  have h' := fun y => and_one _ _ (h y)
  refine ⟨⟨(a9 (ValueIdx.ix1 0)).toNat, hw _ (h' _).1 (h' _).2⟩, funext fun y => ?_⟩
  obtain rfl : y = ValueIdx.ix1 0 := funext fun k => by
    obtain rfl : k = 0 := Subsingleton.elim _ _
    exact Fin.ext (by have h : (y 0 : ℕ) < 1 := (y 0).isLt; show (y 0 : ℕ) = 0; omega)
  simp

/-- The sum over the slots, the device's own read out of its own gradient. -/
theorem sum_slots (k : BitVec 32) (x : Vec Ideal S8x128x1024 .bf16) (mine : Vec Ideal S128x1024 .bf16) (own : Stack 8 128 1024)
    (hm : ∀ s : Fin 8, BitVec.ofNat 32 (s : ℕ) = k → mine = layer own s) :
    k0_pay9 (F := Ideal) (k0_pay7 mine)
      (k0_pay8 mine k (View.ld x (Rect.unit ![0, 0, 0] ![1, 128, 1024] inb_S8x128x1024_S1x128x1024_0_0_0))
        k (View.ld x (Rect.unit ![1, 0, 0] ![1, 128, 1024] inb_S8x128x1024_S1x128x1024_1_0_0))
        k (View.ld x (Rect.unit ![2, 0, 0] ![1, 128, 1024] inb_S8x128x1024_S1x128x1024_2_0_0))
        k (View.ld x (Rect.unit ![3, 0, 0] ![1, 128, 1024] inb_S8x128x1024_S1x128x1024_3_0_0)))
      (Scalar.cmpi .eq k 4#32) (View.ld x (Rect.unit ![4, 0, 0] ![1, 128, 1024] inb_S8x128x1024_S1x128x1024_4_0_0))
      k (View.ld x (Rect.unit ![5, 0, 0] ![1, 128, 1024] inb_S8x128x1024_S1x128x1024_5_0_0))
      k (View.ld x (Rect.unit ![6, 0, 0] ![1, 128, 1024] inb_S8x128x1024_S1x128x1024_6_0_0))
      k (View.ld x (Rect.unit ![7, 0, 0] ![1, 128, 1024] inb_S8x128x1024_S1x128x1024_7_0_0))
      = total (a := 128) (b := 1024) (picked k own x) :=
  slots_total (a := 128) (b := 1024) k own mine hm x _ _ _ _ _ _ _ _ (slot_read x 0 _ _) (slot_read x 1 _ _) (slot_read x 2 _ _) (slot_read x 3 _ _)
    (slot_read x 4 _ _) (slot_read x 5 _ _) (slot_read x 6 _ _) (slot_read x 7 _ _)

/-- The body's four results from the layer's gradient: the gradient itself, the update, and the two moments. -/
theorem pay_g (g : Flat 128 1024) : k0_pay3 (F := Ideal) g = every g := lift _ _
theorem pay_d (g : Flat 128 1024) (w m v : Stack 1 128 1024) :
    k0_pay4 (F := Ideal) g (k0_pay10 w) (k0_pay11 v) (k0_pay12 m) k0_pay13 = every (delta (layer w 0) g (layer m 0) (layer v 0)) := kept_d g w m v _ _
theorem pay_m (g : Flat 128 1024) (m : Stack 1 128 1024) : k0_pay5 (F := Ideal) g (k0_pay12 m) k0_pay13 = every (newM g (layer m 0)) := kept_m g m _ _
theorem pay_v (g : Flat 128 1024) (v : Stack 1 128 1024) : k0_pay6 (F := Ideal) g (k0_pay11 v) = every (newV g (layer v 0)) := kept_v g v _ _

section Table

variable {F : FTy → Type} [FloatOps F]
set_option backward.proofsInPublic true in
/-- The table that names device `s`. -/
def named_tbl (s : Fin 8) : pre0.Contents (Elt F) := fun | ⟨0, _⟩ => fun _ => BitVec.ofNat 32 (s : ℕ) | ⟨_ + 1, h⟩ => absurd h (by simp)
/-- Under each such table every block lies inside its array. -/
theorem ok_named (s : Fin 8) : ok0 (F := F) (named_tbl s) := by
  revert s; exact of_decide_eq_true (by sl_kernel_rfl)

end Table

variable (m : (ℓ : Loc nD τ sig) → Buf (Elt Ideal) ℓ) (ρ : Dev nD → PrngReg)

variable (hO : Ok m) (c : Dev nD)

section Body

variable (i : grid0.Coords)
  (b2 : Memref sig .tc .vmem S8x128x1024 .bf16) (h2 : b2.IsWhole) (b3 : Memref sig .tc .vmem S128x1024 .bf16) (h3 : b3.IsWhole)
  (b4 : Memref sig .tc .vmem S1x128x1024 .f32) (h4 : b4.IsWhole) (b5 : Memref sig .tc .vmem S1x128x1024 .f32) (h5 : b5.IsWhole)
  (b6 : Memref sig .tc .vmem S1x128x1024 .f32) (h6 : b6.IsWhole) (b7 : Memref sig .tc .vmem S1x128x1024 .f32) (h7 : b7.IsWhole)
  (b8 : Memref sig .tc .vmem S1x128x1024 .f32) (h8 : b8.IsWhole) (b9 : Memref sig .tc .vmem S1x128x1024 .f32) (h9 : b9.IsWhole)
  (b10 : Memref sig .tc .vmem S1x128x1024 .f32) (h10 : b10.IsWhole)
  (x : Vec Ideal S8x128x1024 .bf16) (mine : Vec Ideal S128x1024 .bf16) (w mm v : Vec Ideal S1x128x1024 .f32) (xt : TbBuf0 (F := Ideal) c tbM0_0)
  (k : BitVec 32) (hx : xt = fun _ => k) (own : Stack 8 128 1024) (hm : ∀ s : Fin 8, BitVec.ofNat 32 (s : ℕ) = k → mine = layer own s)
include hx hm

/-- What the body leaves of each of its four results. -/
theorem body : out0_A_5 (F := Ideal) c i b2 h2 b3 h3 b4 h4 b5 h5 b6 h6 b7 h7 b8 h8 b9 h9 b10 h10 x mine w mm v xt = every (total (picked k own x))
    ∧ out0_A_6 (F := Ideal) c i b2 h2 b3 h3 b4 h4 b5 h5 b6 h6 b7 h7 b8 h8 b9 h9 b10 h10 x mine w mm v xt = every (delta (layer w 0) (total (picked k own x)) (layer mm 0) (layer v 0))
    ∧ out0_A_7 (F := Ideal) c i b2 h2 b3 h3 b4 h4 b5 h5 b6 h6 b7 h7 b8 h8 b9 h9 b10 h10 x mine w mm v xt = every (newM (total (picked k own x)) (layer mm 0))
    ∧ out0_A_8 (F := Ideal) c i b2 h2 b3 h3 b4 h4 b5 h5 b6 h6 b7 h7 b8 h8 b9 h9 b10 h10 x mine w mm v xt = every (newV (total (picked k own x)) (layer v 0)) := by
  have e := sum_slots k x mine own hm
  subst hx; and_intros <;> funext y <;> frame_out
  · exact congrFun ((pay_g _).trans (congrArg every e)) y
  · exact congrFun ((pay_d _ _ _ _).trans (congrArg (fun g => every (delta (layer (n := 1) w 0) g (layer (n := 1) mm 0) (layer (n := 1) v 0))) e)) y
  · exact congrFun ((pay_m _ _).trans (congrArg (fun g => every (newM g (layer (n := 1) mm 0))) e)) y
  · exact congrFun ((pay_v _ _).trans (congrArg (fun g => every (newV g (layer (n := 1) v 0))) e)) y

end Body

/-- Where the blocks lie: the slots whole, of the device's own gradient the block that the table names, and of every other array layer 0. -/
theorem idx : ∀ t : Fin grid0.N, cc0_transform_0 (grid0.coords t) = ![0, 0, 0] ∧ cc0_transform_2 (grid0.coords t) = ![0, 0, 0] := by decide +kernel
theorem idx_own : ∀ (s : Fin 8) (t : Fin grid0.N), cc0_transform_1 inb_S1_S1_0 numel1_S1 (named_tbl (F := Ideal) s) (grid0.coords t) = ![(s : ℕ), 0] :=
  of_decide_eq_true (by sl_kernel_rfl)
/-- The slots' block is the whole array. -/
theorem all (t : Fin (cfgM m hO).N) (j : (⟨3, ![8, 128, 1024]⟩ : Shape).Idx) : (((cfgM m hO).win 0).blk t).view.emb j = j := by
  have e : ((cfgM m hO).win 0).index t = ![0, 0, 0] := (idx t).1
  funext a; apply Fin.ext
  match a with
  | ⟨0, _⟩ => blk_simp [e] <;> simp
  | ⟨1, _⟩ => blk_simp [e] <;> simp
  | ⟨2, _⟩ => blk_simp [e] <;> simp
/-- The block of the device's own gradient, when the table names device `s`. -/
theorem in_own (s : Fin 8) (hs : tbl m = named_tbl s) (t : Fin (cfgM m hO).N) :
    (iblk m hO c 1 t : Flat 128 1024) = layer (a := 128) (b := 1024) (rowBlocks (a := 128) (b := 1024) (N := 1024) rfl (V m c main_arg1)) s := by
  have e : ((cfgM m hO).win 1).index t = ![(s : ℕ), 0] := by
    show cc0_transform_1 inb_S1_S1_0 numel1_S1 (tbl m) (grid0.coords t) = _
    rw [hs]; exact idx_own s t
  funext j
  refine congrArg (V m c main_arg1) (?_ : (((cfgM m hO).win 1).blk t).view.emb j = _)
  funext a; apply Fin.ext
  match a with
  | ⟨0, _⟩ => blk_simp [e] <;> rfl
  | ⟨1, _⟩ => blk_simp [e] <;> rfl
/-- The other blocks are layer 0 of their arrays. -/
theorem at0 (t : Fin (cfgM m hO).N) (y : (⟨3, ![1, 128, 1024]⟩ : Shape).Idx) :
    (((cfgM m hO).win 2).blk t).view.emb y = put (n := 2) 0 y ∧ (((cfgM m hO).win 3).blk t).view.emb y = put (n := 2) 0 y
    ∧ (((cfgM m hO).win 4).blk t).view.emb y = put (n := 2) 0 y ∧ (((cfgM m hO).win 5).blk t).view.emb y = put (n := 2) 0 y
    ∧ (((cfgM m hO).win 6).blk t).view.emb y = put (n := 2) 0 y ∧ (((cfgM m hO).win 7).blk t).view.emb y = put (n := 2) 0 y
    ∧ (((cfgM m hO).win 8).blk t).view.emb y = put (n := 2) 0 y := by
  have h0 : (y 0 : ℕ) = 0 := by have := (y 0).isLt; change (y 0 : ℕ) < 1 at this; omega
  have e2 : ((cfgM m hO).win 2).index t = ![0, 0, 0] := (idx t).2
  have e3 : ((cfgM m hO).win 3).index t = ![0, 0, 0] := (idx t).2
  have e4 : ((cfgM m hO).win 4).index t = ![0, 0, 0] := (idx t).2
  have e5 : ((cfgM m hO).win 5).index t = ![0, 0, 0] := (idx t).2
  have e6 : ((cfgM m hO).win 6).index t = ![0, 0, 0] := (idx t).2
  have e7 : ((cfgM m hO).win 7).index t = ![0, 0, 0] := (idx t).2
  have e8 : ((cfgM m hO).win 8).index t = ![0, 0, 0] := (idx t).2
  and_intros <;> funext a <;> apply Fin.ext <;> match a with
  | ⟨0, _⟩ => blk_simp [e2, e3, e4, e5, e6, e7, e8] <;> simp [h0] <;> rfl
  | ⟨1, _⟩ => blk_simp [e2, e3, e4, e5, e6, e7, e8] <;> rfl
  | ⟨2, _⟩ => blk_simp [e2, e3, e4, e5, e6, e7, e8] <;> rfl

/-- The device's own gradient in blocks; the layer's gradient; the weight, its two moments, and the four arrays that hold the other layer's step. -/
abbrev blocks : Stack 8 128 1024 := rowBlocks (N := 1024) rfl (V m c main_arg1)
abbrev G (s : Fin 8) : Flat 128 1024 := total (picked (BitVec.ofNat 32 (s : ℕ)) (blocks m c) (V m c main_arg0))
abbrev Wt : Stack 2 128 1024 := V m c main_arg2
abbrev Mt : Stack 2 128 1024 := V m c main_arg3
abbrev Vt : Stack 2 128 1024 := V m c main_arg4

/-- Two devices' numbers are the same word only if they are one device. -/
theorem same_slot : ∀ a b : Fin 8, BitVec.ofNat 32 (a : ℕ) = BitVec.ofNat 32 (b : ℕ) → a = b := by decide

section Call

variable (s : Fin 8) (hs : tbl m = named_tbl s) (t : Fin (cfgM m hO).N)

/-- What the call reads: the slots, its own block, and layer 0 of the weight and of its moments. -/
theorem slots : iblk m hO c 0 t = V m c main_arg0 := funext fun j => congrArg (V m c main_arg0) (all m hO t j)
include hs in
theorem own_block (s' : Fin 8) (h : BitVec.ofNat 32 (s' : ℕ) = BitVec.ofNat 32 (s : ℕ)) : (iblk m hO c 1 t : Flat 128 1024) = layer (blocks m c) s' := by
  obtain rfl : s' = s := same_slot s' s h
  exact in_own m hO c s' hs t
theorem in_w : layer (n := 1) (a := 128) (b := 1024) (iblk m hO c 2 t) 0 = layer (Wt m c) 0 :=
  funext fun j => congrArg (V m c main_arg2) ((at0 m hO t (ValueIdx.ix3 0 (j 0) (j 1))).1.trans rfl)
theorem in_m : layer (n := 1) (a := 128) (b := 1024) (iblk m hO c 3 t) 0 = layer (Mt m c) 0 :=
  funext fun j => congrArg (V m c main_arg3) ((at0 m hO t (ValueIdx.ix3 0 (j 0) (j 1))).2.1.trans rfl)
theorem in_v : layer (n := 1) (a := 128) (b := 1024) (iblk m hO c 4 t) 0 = layer (Vt m c) 0 :=
  funext fun j => congrArg (V m c main_arg4) ((at0 m hO t (ValueIdx.ix3 0 (j 0) (j 1))).2.2.1.trans rfl)

include hs
/-- The word that the body reads. -/
theorem named_word : (tbl m 0 : TbBuf0 (F := Ideal) c tbM0_0) = fun _ => BitVec.ofNat 32 (s : ℕ) := by rw [hs]; rfl
/-- What a step of the call leaves in the blocks of its four results. -/
theorem left : (outsAt0 m hO c t).1 = every (G m c s) ∧ (outsAt0 m hO c t).2.1 = every (delta (layer (Wt m c) 0) (G m c s) (layer (Mt m c) 0) (layer (Vt m c) 0))
    ∧ (outsAt0 m hO c t).2.2.1 = every (newM (G m c s) (layer (Mt m c) 0)) ∧ (outsAt0 m hO c t).2.2.2 = every (newV (G m c s) (layer (Vt m c) 0)) := by
  have hb := own_block m hO c s hs t
  rw [outsAt0]; dsimp only
  have q := body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (iblk m hO c 0 t) (iblk m hO c 1 t) (iblk m hO c 2 t) (iblk m hO c 3 t) (iblk m hO c 4 t) (tbl m 0) (BitVec.ofNat 32 (s : ℕ)) (named_word m s hs) (blocks m c) hb
  refine ⟨q.1.trans ?_, q.2.1.trans ?_, q.2.2.1.trans ?_, q.2.2.2.trans ?_⟩
  · rw [slots]
  · rw [slots, in_w, in_m, in_v]
  · rw [slots, in_m]
  · rw [slots, in_v]

omit t
/-- What the call leaves in the four arrays: layer 0 stepped, the other layer as it was. -/
theorem end_g : (dats m hO 0 c).arrAt 5 (cfgM m hO).N = into 0 (every (G m c s)) (V m c main_v0_0) := by
  refine (dats m hO 0 c).arrAt_eq_of_coversWhere 5 _ (fun β => β (⟨0, by decide⟩ : Fin 3) = 0) (of_decide_eq_true (by sl_kernel_rfl)) (fun t hf y => ?_) (fun j => Iff.rfl)
  blk_simp; rw [after0_5, (left m hO c s hs t).1]
  exact (congrArg (every (n := 2) (G m c s)) (at0 m hO t y).2.2.2.1).symm
theorem end_d : (dats m hO 0 c).arrAt 6 (cfgM m hO).N = into 0 (delta (Wt m c) (every (G m c s)) (Mt m c) (Vt m c)) (V m c main_v0_1) := by
  refine (dats m hO 0 c).arrAt_eq_of_coversWhere 6 _ (fun β => β (⟨0, by decide⟩ : Fin 3) = 0) (of_decide_eq_true (by sl_kernel_rfl)) (fun t hf y => ?_) (fun j => Iff.rfl)
  blk_simp; rw [after0_6, (left m hO c s hs t).2.1]
  exact (congrArg (delta (Wt m c) (every (G m c s)) (Mt m c) (Vt m c)) (at0 m hO t y).2.2.2.2.1).symm
theorem end_m : (dats m hO 0 c).arrAt 7 (cfgM m hO).N = into 0 (newM (every (G m c s)) (Mt m c)) (V m c main_v0_2) := by
  refine (dats m hO 0 c).arrAt_eq_of_coversWhere 7 _ (fun β => β (⟨0, by decide⟩ : Fin 3) = 0) (of_decide_eq_true (by sl_kernel_rfl)) (fun t hf y => ?_) (fun j => Iff.rfl)
  blk_simp; rw [after0_7, (left m hO c s hs t).2.2.1]
  exact (congrArg (newM (every (G m c s)) (Mt m c)) (at0 m hO t y).2.2.2.2.2.1).symm
theorem end_v : (dats m hO 0 c).arrAt 8 (cfgM m hO).N = into 0 (newV (every (G m c s)) (Vt m c)) (V m c main_v0_3) := by
  refine (dats m hO 0 c).arrAt_eq_of_coversWhere 8 _ (fun β => β (⟨0, by decide⟩ : Fin 3) = 0) (of_decide_eq_true (by sl_kernel_rfl)) (fun t hf y => ?_) (fun j => Iff.rfl)
  blk_simp; rw [after0_8, (left m hO c s hs t).2.2.2]
  exact (congrArg (newV (every (G m c s)) (Vt m c)) (at0 m hO t y).2.2.2.2.2.2).symm

end Call

/-! ## The results as functions of the arguments -/

/-- Under the precondition the table names a device. -/
theorem tbl_named (h : Cert.Pre_Kernel8Ideal m) : ∃ s, tbl m = named_tbl s := by
  obtain ⟨s, e⟩ := named (m (((0 : Dev nD) : Thread nD τ).loc main_arg9)) (fun y => congrFun (h 0) y)
  refine ⟨s, funext fun j => ?_⟩
  obtain rfl : j = 0 := Subsingleton.elim _ _
  exact (V_main_arg9 m 0).trans e

/-- The arrays that the call writes its layer into are copies of the arguments. -/
theorem copied_g : V m c main_v0_0 = m ((c : Thread nD τ).loc main_arg5) := by
  show StableHlo.after hostOps0 _ _ = _
  simp only [hostOps0]; after_results; try rfl
theorem copied_d : V m c main_v0_1 = m ((c : Thread nD τ).loc main_arg6) := by
  show StableHlo.after hostOps0 _ _ = _
  simp only [hostOps0]; after_results; try rfl
theorem copied_m : V m c main_v0_2 = m ((c : Thread nD τ).loc main_arg7) := by
  show StableHlo.after hostOps0 _ _ = _
  simp only [hostOps0]; after_results; try rfl
theorem copied_v : V m c main_v0_3 = m ((c : Thread nD τ).loc main_arg8) := by
  show StableHlo.after hostOps0 _ _ = _
  simp only [hostOps0]; after_results; try rfl

/-- The kernel's frame: the block that the table names lies inside the device's own gradient. -/
theorem frame_ideal : Cert.quiescent_Kernel8Ideal := fun m ρ h => by
  obtain ⟨s, hs⟩ := tbl_named m h
  exact Cert.Kernel8Ideal.Gen.frame m ρ (show ok0 (tbl m) by rw [hs]; exact ok_named s)

/-- The frames of the reference, from its run. -/
theorem frame_ref : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

/-- The reference's frame under the precondition follows from the one without it. -/
theorem frame_ref_device : Cert.quiescent_Reference8Ideal_pre_device := fun m ρ _ => frame_ref m ρ trivial

/-- The same of the kernel on floats' bits. -/
def bits_tbl (s : Fin 8) : Cert.Kernel8.pre0.Contents (Elt Bits) := fun | ⟨0, _⟩ => fun _ => BitVec.ofNat 32 (s : ℕ) | ⟨_ + 1, h⟩ => absurd h (by simp)
theorem ok_bits (s : Fin 8) : Cert.Kernel8.ok0 (F := Bits) (bits_tbl s) := by
  revert s; exact of_decide_eq_true (by sl_kernel_rfl)
theorem frame_bits : Cert.quiescent_Kernel8 := fun m ρ h => by
  obtain ⟨s, e⟩ := named (m (((0 : Dev Cert.Kernel8.nD) : Thread Cert.Kernel8.nD Cert.Kernel8.τ).loc Cert.Kernel8.main_arg9)) (fun y => congrFun (h 0) y)
  have hs : Cert.Kernel8.Gen.tbl m = bits_tbl s := funext fun j => by
    obtain rfl : j = 0 := Subsingleton.elim _ _
    exact (Cert.Kernel8.Gen.V_main_arg9 m 0).trans e
  exact Cert.Kernel8.Gen.frame m ρ (show Cert.Kernel8.ok0 (Cert.Kernel8.Gen.tbl m) by rw [hs]; exact ok_bits s)

open Cert.Reference8Ideal.Gen in
set_option maxHeartbeats 2000000 in
/-- The kernel's results are the reference's. -/
theorem results : Cert.algebraic_Kernel8Ideal_Reference8Ideal := fun m ρ m' ρ' h hm => by
  obtain ⟨s, hs⟩ := tbl_named m h
  have hO : Ok m := show ok0 (tbl m) by rw [hs]; exact ok_named s
  refine ⟨fun c => into 0 (every (G m c s)) (m ((c : Thread nD τ).loc main_arg5)),
    fun c => into 0 (delta (Wt m c) (every (G m c s)) (Mt m c) (Vt m c)) (m ((c : Thread nD τ).loc main_arg6)),
    fun c => into 0 (newM (every (G m c s)) (Mt m c)) (m ((c : Thread nD τ).loc main_arg7)),
    fun c => into 0 (newV (every (G m c s)) (Vt m c)) (m ((c : Thread nD τ).loc main_arg8)), ?_, ?_⟩
  · refine (θ_run defs _ _).mono (fun r hr c => ⟨?_, ?_, ?_, ?_, hr.1 c⟩) (θ_run_and (unchanged m ρ hO) (run_main m ρ hO))
    · exact ((hr.2 c).1 5).trans ((end_g m hO c s hs).trans (congrArg _ (copied_g m c)))
    · exact ((hr.2 c).1 6).trans ((end_d m hO c s hs).trans (congrArg _ (copied_d m c)))
    · exact ((hr.2 c).1 7).trans ((end_m m hO c s hs).trans (congrArg _ (copied_m m c)))
    · exact ((hr.2 c).1 8).trans ((end_v m hO c s hs).trans (congrArg _ (copied_v m c)))
  · refine (θ_run Cert.Reference8Ideal.defs _ _).mono (fun r hr c => ?_) (Cert.Reference8Ideal.Value.run (F := Ideal) m' ρ')
    obtain ⟨h0, h1, h2, h3, hargs⟩ := hr c
    obtain ⟨e0, e1, e2, e3, e4, e5, e6, e7, e8, e9⟩ := hm c
    have hk : ∀ y, m ((c : Thread nD τ).loc main_arg9) y = BitVec.ofNat 32 (s : ℕ) := fun y => by
      have q := congrFun (named_word m s hs) y
      obtain rfl : c = 0 := Subsingleton.elim _ _
      exact (congrFun (V_main_arg9 m 0) y).symm.trans q
    have eg := gradient_host (a := 128) (b := 1024) (m' ((c : Thread nD τ).loc Cert.Reference8Ideal.main_arg9)) _ (fun y => (congrFun e9 y).trans (hk y))
      ((rowBlocks_host (a := 128) (b := 1024) rfl _ shapeCasts_S1024x1024_S8x128x1024).trans (congrArg (rowBlocks rfl) (e1.trans (V_main_arg1 m c).symm)))
      (e0.trans (V_main_arg0 m c).symm) shapeCasts_S1_S_ bcast_S_S8x128x1024 reducesTo_S8x128x1024_S128x1024_d0 h_S_
    have em := (newM_host (n := 2) (a := 128) (b := 1024) bcast_S_S2x128x1024 bcast_S_S128x1024 bcast_S128x1024_S1x128x1024_1_2 bcast_S1x128x1024_S2x128x1024_0_1_2
      _ _).trans (newM_congr (congrArg every eg) (e3.trans (V_main_arg3 m c).symm))
    have ev := (newV_host (n := 2) (a := 128) (b := 1024) bcast_S_S2x128x1024 bcast_S_S128x1024 bcast_S128x1024_S1x128x1024_1_2 bcast_S1x128x1024_S2x128x1024_0_1_2
      _ _).trans (newV_congr (congrArg every eg) (e4.trans (V_main_arg4 m c).symm))
    have here (x old : Stack 2 128 1024) := into_host (n := 2) (a := 128) (b := 1024) 0 (by norm_num) (by norm_num) x old bcast_S_S2x128x1024
    exact ⟨h0.trans ((here _ _).trans (congrArg₂ (into 0) ((every_host (n := 2) (a := 128) (b := 1024) _ bcast_S128x1024_S2x128x1024_1_2).trans (congrArg every eg)) e5)),
      h1.trans ((here _ _).trans (congrArg₂ (into 0)
        ((delta_host (n := 2) (a := 128) (b := 1024) bcast_S_S2x128x1024 _ _ _ _ _ _ em ev).trans (delta_congr (e2.trans (V_main_arg2 m c).symm) rfl rfl rfl)) e6)),
      h2.trans ((here _ _).trans (congrArg₂ (into 0) em e7)), h3.trans ((here _ _).trans (congrArg₂ (into 0) ev e8)), hargs⟩

end Cert.Proof.PoolStep

end
-- ==== Proof.GateStep.lean ====
/-
  Hand-written, untrusted. THE OPTIMISER'S CALL FOR LAYER 2 OF THE EMBEDDING'S GATE: the same body as that of a mixer's projection
  (`Proof/PoolStep.lean`), on a stack of four layers of which the call steps the third.
-/
module

public import proofs.«01_k».proof.Proof.PoolStep
public import proofs.«01_k».proof.Proof.Gen.Kernel9.Frame
public import proofs.«01_k».proof.Proof.Gen.Kernel9Ideal.Frame
public import proofs.«01_k».proof.Proof.Gen.Pre_device9
public import proofs.«01_k».proof.Proof.Gen.Reference9Ideal.Run

@[expose] public section

set_option maxRecDepth 16384

noncomputable section

namespace Cert.Proof.GateStep

open Idealize.ShloMosaic Idealize.SL.Sem Cert.Kernel9Ideal Cert.Adam Cert.Layer Cert.Own Cert.Proof.PoolStep
open Cert.Kernel9Ideal.Gen Idealize.ShloMosaic.TcCoe Idealize.ShloMosaic.ValueIdx
open Idealize.ShloMosaic.Pipeline (Dat Cfg Window cellOf)

section Table

variable {F : FTy → Type} [FloatOps F]
set_option backward.proofsInPublic true in
/-- The table that names device `s`. -/
def gate_tbl (s : Fin 8) : pre0.Contents (Elt F) := fun | ⟨0, _⟩ => fun _ => BitVec.ofNat 32 (s : ℕ) | ⟨_ + 1, h⟩ => absurd h (by simp)
/-- Under each such table every block lies inside its array. -/
theorem ok_gate (s : Fin 8) : ok0 (F := F) (gate_tbl s) := by
  revert s; exact of_decide_eq_true (by sl_kernel_rfl)

end Table

variable (m : (ℓ : Loc nD τ sig) → Buf (Elt Ideal) ℓ) (ρ : Dev nD → PrngReg)

variable (hO : Ok m) (c : Dev nD)

section Body

variable (i : grid0.Coords)
  (b2 : Memref sig .tc .vmem S8x128x1024 .bf16) (h2 : b2.IsWhole) (b3 : Memref sig .tc .vmem S128x1024 .bf16) (h3 : b3.IsWhole)
  (b4 : Memref sig .tc .vmem S1x128x1024 .f32) (h4 : b4.IsWhole) (b5 : Memref sig .tc .vmem S1x128x1024 .f32) (h5 : b5.IsWhole)
  (b6 : Memref sig .tc .vmem S1x128x1024 .f32) (h6 : b6.IsWhole) (b7 : Memref sig .tc .vmem S1x128x1024 .f32) (h7 : b7.IsWhole)
  (b8 : Memref sig .tc .vmem S1x128x1024 .f32) (h8 : b8.IsWhole) (b9 : Memref sig .tc .vmem S1x128x1024 .f32) (h9 : b9.IsWhole)
  (b10 : Memref sig .tc .vmem S1x128x1024 .f32) (h10 : b10.IsWhole)
  (x : Vec Ideal S8x128x1024 .bf16) (mine : Vec Ideal S128x1024 .bf16) (w mm v : Vec Ideal S1x128x1024 .f32) (xt : TbBuf0 (F := Ideal) c tbM0_0)
  (k : BitVec 32) (hx : xt = fun _ => k) (own : Stack 8 128 1024) (hm : ∀ s : Fin 8, BitVec.ofNat 32 (s : ℕ) = k → mine = layer own s)
include hx hm

/-- What the body leaves of each of its four results. -/
theorem body : out0_A_5 (F := Ideal) c i b2 h2 b3 h3 b4 h4 b5 h5 b6 h6 b7 h7 b8 h8 b9 h9 b10 h10 x mine w mm v xt = every (total (picked k own x))
    ∧ out0_A_6 (F := Ideal) c i b2 h2 b3 h3 b4 h4 b5 h5 b6 h6 b7 h7 b8 h8 b9 h9 b10 h10 x mine w mm v xt = every (delta (layer w 0) (total (picked k own x)) (layer mm 0) (layer v 0))
    ∧ out0_A_7 (F := Ideal) c i b2 h2 b3 h3 b4 h4 b5 h5 b6 h6 b7 h7 b8 h8 b9 h9 b10 h10 x mine w mm v xt = every (newM (total (picked k own x)) (layer mm 0))
    ∧ out0_A_8 (F := Ideal) c i b2 h2 b3 h3 b4 h4 b5 h5 b6 h6 b7 h7 b8 h8 b9 h9 b10 h10 x mine w mm v xt = every (newV (total (picked k own x)) (layer v 0)) := by
  have e := sum_slots k x mine own hm
  subst hx; and_intros <;> funext y <;> frame_out
  · exact congrFun ((pay_g _).trans (congrArg every e)) y
  · exact congrFun ((pay_d _ _ _ _).trans (congrArg (fun g => every (delta (layer (n := 1) w 0) g (layer (n := 1) mm 0) (layer (n := 1) v 0))) e)) y
  · exact congrFun ((pay_m _ _).trans (congrArg (fun g => every (newM g (layer (n := 1) mm 0))) e)) y
  · exact congrFun ((pay_v _ _).trans (congrArg (fun g => every (newV g (layer (n := 1) v 0))) e)) y

end Body

/-- Where the blocks lie: the slots whole, of the device's own gradient the block that the table names, and of every other array layer 2. -/
theorem idx : ∀ t : Fin grid0.N, cc0_transform_0 (grid0.coords t) = ![0, 0, 0] ∧ cc0_transform_2 (grid0.coords t) = ![2, 0, 0] := by decide +kernel
theorem idx_own : ∀ (s : Fin 8) (t : Fin grid0.N), cc0_transform_1 inb_S1_S1_0 numel1_S1 (gate_tbl (F := Ideal) s) (grid0.coords t) = ![(s : ℕ), 0] :=
  of_decide_eq_true (by sl_kernel_rfl)
/-- The slots' block is the whole array. -/
theorem all (t : Fin (cfgM m hO).N) (j : (⟨3, ![8, 128, 1024]⟩ : Shape).Idx) : (((cfgM m hO).win 0).blk t).view.emb j = j := by
  have e : ((cfgM m hO).win 0).index t = ![0, 0, 0] := (idx t).1
  funext a; apply Fin.ext
  match a with
  | ⟨0, _⟩ => blk_simp [e] <;> simp
  | ⟨1, _⟩ => blk_simp [e] <;> simp
  | ⟨2, _⟩ => blk_simp [e] <;> simp
/-- The block of the device's own gradient, when the table names device `s`. -/
theorem in_own (s : Fin 8) (hs : tbl m = gate_tbl s) (t : Fin (cfgM m hO).N) :
    (iblk m hO c 1 t : Flat 128 1024) = layer (a := 128) (b := 1024) (rowBlocks (a := 128) (b := 1024) (N := 1024) rfl (V m c main_arg1)) s := by
  have e : ((cfgM m hO).win 1).index t = ![(s : ℕ), 0] := by
    show cc0_transform_1 inb_S1_S1_0 numel1_S1 (tbl m) (grid0.coords t) = _
    rw [hs]; exact idx_own s t
  funext j
  refine congrArg (V m c main_arg1) (?_ : (((cfgM m hO).win 1).blk t).view.emb j = _)
  funext a; apply Fin.ext
  match a with
  | ⟨0, _⟩ => blk_simp [e] <;> rfl
  | ⟨1, _⟩ => blk_simp [e] <;> rfl
/-- The other blocks are layer 2 of their arrays. -/
theorem at2 (t : Fin (cfgM m hO).N) (y : (⟨3, ![1, 128, 1024]⟩ : Shape).Idx) :
    (((cfgM m hO).win 2).blk t).view.emb y = put (n := 4) 2 y ∧ (((cfgM m hO).win 3).blk t).view.emb y = put (n := 4) 2 y
    ∧ (((cfgM m hO).win 4).blk t).view.emb y = put (n := 4) 2 y ∧ (((cfgM m hO).win 5).blk t).view.emb y = put (n := 4) 2 y
    ∧ (((cfgM m hO).win 6).blk t).view.emb y = put (n := 4) 2 y ∧ (((cfgM m hO).win 7).blk t).view.emb y = put (n := 4) 2 y
    ∧ (((cfgM m hO).win 8).blk t).view.emb y = put (n := 4) 2 y := by
  have h0 : (y 0 : ℕ) = 0 := by have := (y 0).isLt; change (y 0 : ℕ) < 1 at this; omega
  have e2 : ((cfgM m hO).win 2).index t = ![2, 0, 0] := (idx t).2
  have e3 : ((cfgM m hO).win 3).index t = ![2, 0, 0] := (idx t).2
  have e4 : ((cfgM m hO).win 4).index t = ![2, 0, 0] := (idx t).2
  have e5 : ((cfgM m hO).win 5).index t = ![2, 0, 0] := (idx t).2
  have e6 : ((cfgM m hO).win 6).index t = ![2, 0, 0] := (idx t).2
  have e7 : ((cfgM m hO).win 7).index t = ![2, 0, 0] := (idx t).2
  have e8 : ((cfgM m hO).win 8).index t = ![2, 0, 0] := (idx t).2
  and_intros <;> funext a <;> apply Fin.ext <;> match a with
  | ⟨0, _⟩ => blk_simp [e2, e3, e4, e5, e6, e7, e8] <;> simp [h0] <;> rfl
  | ⟨1, _⟩ => blk_simp [e2, e3, e4, e5, e6, e7, e8] <;> rfl
  | ⟨2, _⟩ => blk_simp [e2, e3, e4, e5, e6, e7, e8] <;> rfl

/-- The device's own gradient in blocks; the layer's gradient; the weight, its two moments, and the four arrays that hold the other layer's step. -/
abbrev blocks : Stack 8 128 1024 := rowBlocks (N := 1024) rfl (V m c main_arg1)
abbrev G (s : Fin 8) : Flat 128 1024 := total (picked (BitVec.ofNat 32 (s : ℕ)) (blocks m c) (V m c main_arg0))
abbrev Wt : Stack 4 128 1024 := V m c main_arg2
abbrev Mt : Stack 4 128 1024 := V m c main_arg3
abbrev Vt : Stack 4 128 1024 := V m c main_arg4

section Call

variable (s : Fin 8) (hs : tbl m = gate_tbl s) (t : Fin (cfgM m hO).N)

/-- What the call reads: the slots, its own block, and layer 2 of the weight and of its moments. -/
theorem slots : iblk m hO c 0 t = V m c main_arg0 := funext fun j => congrArg (V m c main_arg0) (all m hO t j)
include hs in
theorem own_block (s' : Fin 8) (h : BitVec.ofNat 32 (s' : ℕ) = BitVec.ofNat 32 (s : ℕ)) : (iblk m hO c 1 t : Flat 128 1024) = layer (blocks m c) s' := by
  obtain rfl : s' = s := same_slot s' s h
  exact in_own m hO c s' hs t
theorem in_w : layer (n := 1) (a := 128) (b := 1024) (iblk m hO c 2 t) 0 = layer (Wt m c) 2 :=
  funext fun j => congrArg (V m c main_arg2) ((at2 m hO t (ValueIdx.ix3 0 (j 0) (j 1))).1.trans rfl)
theorem in_m : layer (n := 1) (a := 128) (b := 1024) (iblk m hO c 3 t) 0 = layer (Mt m c) 2 :=
  funext fun j => congrArg (V m c main_arg3) ((at2 m hO t (ValueIdx.ix3 0 (j 0) (j 1))).2.1.trans rfl)
theorem in_v : layer (n := 1) (a := 128) (b := 1024) (iblk m hO c 4 t) 0 = layer (Vt m c) 2 :=
  funext fun j => congrArg (V m c main_arg4) ((at2 m hO t (ValueIdx.ix3 0 (j 0) (j 1))).2.2.1.trans rfl)

include hs
/-- The word that the body reads. -/
theorem named_word : (tbl m 0 : TbBuf0 (F := Ideal) c tbM0_0) = fun _ => BitVec.ofNat 32 (s : ℕ) := by rw [hs]; rfl
/-- What a step of the call leaves in the blocks of its four results. -/
theorem left : (outsAt0 m hO c t).1 = every (G m c s) ∧ (outsAt0 m hO c t).2.1 = every (delta (layer (Wt m c) 2) (G m c s) (layer (Mt m c) 2) (layer (Vt m c) 2))
    ∧ (outsAt0 m hO c t).2.2.1 = every (newM (G m c s) (layer (Mt m c) 2)) ∧ (outsAt0 m hO c t).2.2.2 = every (newV (G m c s) (layer (Vt m c) 2)) := by
  have hb := own_block m hO c s hs t
  rw [outsAt0]; dsimp only
  have q := body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (iblk m hO c 0 t) (iblk m hO c 1 t) (iblk m hO c 2 t) (iblk m hO c 3 t) (iblk m hO c 4 t) (tbl m 0) (BitVec.ofNat 32 (s : ℕ)) (named_word m s hs) (blocks m c) hb
  refine ⟨q.1.trans ?_, q.2.1.trans ?_, q.2.2.1.trans ?_, q.2.2.2.trans ?_⟩
  · rw [slots]
  · rw [slots, in_w, in_m, in_v]
  · rw [slots, in_m]
  · rw [slots, in_v]

omit t
/-- What the call leaves in the four arrays: layer 2 stepped, the other layers as they were. -/
theorem end_g : (dats m hO 0 c).arrAt 5 (cfgM m hO).N = into 2 (every (G m c s)) (V m c main_v0_0) := by
  refine (dats m hO 0 c).arrAt_eq_of_coversWhere 5 _ (fun β => β (⟨0, by decide⟩ : Fin 3) = 2) (of_decide_eq_true (by sl_kernel_rfl)) (fun t hf y => ?_) (fun j => Iff.rfl)
  blk_simp; rw [after0_5, (left m hO c s hs t).1]
  exact (congrArg (every (n := 4) (G m c s)) (at2 m hO t y).2.2.2.1).symm
theorem end_d : (dats m hO 0 c).arrAt 6 (cfgM m hO).N = into 2 (delta (Wt m c) (every (G m c s)) (Mt m c) (Vt m c)) (V m c main_v0_1) := by
  refine (dats m hO 0 c).arrAt_eq_of_coversWhere 6 _ (fun β => β (⟨0, by decide⟩ : Fin 3) = 2) (of_decide_eq_true (by sl_kernel_rfl)) (fun t hf y => ?_) (fun j => Iff.rfl)
  blk_simp; rw [after0_6, (left m hO c s hs t).2.1]
  exact (congrArg (delta (Wt m c) (every (G m c s)) (Mt m c) (Vt m c)) (at2 m hO t y).2.2.2.2.1).symm
theorem end_m : (dats m hO 0 c).arrAt 7 (cfgM m hO).N = into 2 (newM (every (G m c s)) (Mt m c)) (V m c main_v0_2) := by
  refine (dats m hO 0 c).arrAt_eq_of_coversWhere 7 _ (fun β => β (⟨0, by decide⟩ : Fin 3) = 2) (of_decide_eq_true (by sl_kernel_rfl)) (fun t hf y => ?_) (fun j => Iff.rfl)
  blk_simp; rw [after0_7, (left m hO c s hs t).2.2.1]
  exact (congrArg (newM (every (G m c s)) (Mt m c)) (at2 m hO t y).2.2.2.2.2.1).symm
theorem end_v : (dats m hO 0 c).arrAt 8 (cfgM m hO).N = into 2 (newV (every (G m c s)) (Vt m c)) (V m c main_v0_3) := by
  refine (dats m hO 0 c).arrAt_eq_of_coversWhere 8 _ (fun β => β (⟨0, by decide⟩ : Fin 3) = 2) (of_decide_eq_true (by sl_kernel_rfl)) (fun t hf y => ?_) (fun j => Iff.rfl)
  blk_simp; rw [after0_8, (left m hO c s hs t).2.2.2]
  exact (congrArg (newV (every (G m c s)) (Vt m c)) (at2 m hO t y).2.2.2.2.2.2).symm

end Call

/-! ## The results as functions of the arguments -/

/-- Under the precondition the table names a device. -/
theorem tbl_named (h : Cert.Pre_Kernel9Ideal m) : ∃ s, tbl m = gate_tbl s := by
  obtain ⟨s, e⟩ := named (m (((0 : Dev nD) : Thread nD τ).loc main_arg9)) (fun y => congrFun (h 0) y)
  refine ⟨s, funext fun j => ?_⟩
  obtain rfl : j = 0 := Subsingleton.elim _ _
  exact (V_main_arg9 m 0).trans e

/-- The arrays that the call writes its layer into are copies of the arguments. -/
theorem copied_g : V m c main_v0_0 = m ((c : Thread nD τ).loc main_arg5) := by
  show StableHlo.after hostOps0 _ _ = _
  simp only [hostOps0]; after_results; try rfl
theorem copied_d : V m c main_v0_1 = m ((c : Thread nD τ).loc main_arg6) := by
  show StableHlo.after hostOps0 _ _ = _
  simp only [hostOps0]; after_results; try rfl
theorem copied_m : V m c main_v0_2 = m ((c : Thread nD τ).loc main_arg7) := by
  show StableHlo.after hostOps0 _ _ = _
  simp only [hostOps0]; after_results; try rfl
theorem copied_v : V m c main_v0_3 = m ((c : Thread nD τ).loc main_arg8) := by
  show StableHlo.after hostOps0 _ _ = _
  simp only [hostOps0]; after_results; try rfl

/-- The kernel's frame: the block that the table names lies inside the device's own gradient. -/
theorem frame_ideal : Cert.quiescent_Kernel9Ideal := fun m ρ h => by
  obtain ⟨s, hs⟩ := tbl_named m h
  exact Cert.Kernel9Ideal.Gen.frame m ρ (show ok0 (tbl m) by rw [hs]; exact ok_gate s)

/-- The frames of the reference, from its run. -/
theorem frame_ref : Cert.quiescent_Reference9Ideal := fun m ρ _ =>
  (θ_run Cert.Reference9Ideal.defs _ _).mono
    (fun r h => ⟨fun c => (h c).2.2.2.2, sem_eq_zero_of_no_sems (by decide) r.2⟩)
    (Cert.Reference9Ideal.Value.run (F := Ideal) m ρ)

/-- The reference's frame under the precondition follows from the one without it. -/
theorem frame_ref_device : Cert.quiescent_Reference9Ideal_pre_device9 := fun m ρ _ => frame_ref m ρ trivial

/-- The same of the kernel on floats' bits. -/
def bits_tbl (s : Fin 8) : Cert.Kernel9.pre0.Contents (Elt Bits) := fun | ⟨0, _⟩ => fun _ => BitVec.ofNat 32 (s : ℕ) | ⟨_ + 1, h⟩ => absurd h (by simp)
theorem ok_bits (s : Fin 8) : Cert.Kernel9.ok0 (F := Bits) (bits_tbl s) := by
  revert s; exact of_decide_eq_true (by sl_kernel_rfl)
theorem frame_bits : Cert.quiescent_Kernel9 := fun m ρ h => by
  obtain ⟨s, e⟩ := named (m (((0 : Dev Cert.Kernel9.nD) : Thread Cert.Kernel9.nD Cert.Kernel9.τ).loc Cert.Kernel9.main_arg9)) (fun y => congrFun (h 0) y)
  have hs : Cert.Kernel9.Gen.tbl m = bits_tbl s := funext fun j => by
    obtain rfl : j = 0 := Subsingleton.elim _ _
    exact (Cert.Kernel9.Gen.V_main_arg9 m 0).trans e
  exact Cert.Kernel9.Gen.frame m ρ (show Cert.Kernel9.ok0 (Cert.Kernel9.Gen.tbl m) by rw [hs]; exact ok_bits s)

open Cert.Reference9Ideal.Gen in
set_option maxHeartbeats 2000000 in
/-- The kernel's results are the reference's. -/
theorem results : Cert.algebraic_Kernel9Ideal_Reference9Ideal := fun m ρ m' ρ' h hm => by
  obtain ⟨s, hs⟩ := tbl_named m h
  have hO : Ok m := show ok0 (tbl m) by rw [hs]; exact ok_gate s
  refine ⟨fun c => into 2 (every (G m c s)) (m ((c : Thread nD τ).loc main_arg5)),
    fun c => into 2 (delta (Wt m c) (every (G m c s)) (Mt m c) (Vt m c)) (m ((c : Thread nD τ).loc main_arg6)),
    fun c => into 2 (newM (every (G m c s)) (Mt m c)) (m ((c : Thread nD τ).loc main_arg7)),
    fun c => into 2 (newV (every (G m c s)) (Vt m c)) (m ((c : Thread nD τ).loc main_arg8)), ?_, ?_⟩
  · refine (θ_run defs _ _).mono (fun r hr c => ⟨?_, ?_, ?_, ?_, hr.1 c⟩) (θ_run_and (unchanged m ρ hO) (run_main m ρ hO))
    · exact ((hr.2 c).1 5).trans ((end_g m hO c s hs).trans (congrArg _ (copied_g m c)))
    · exact ((hr.2 c).1 6).trans ((end_d m hO c s hs).trans (congrArg _ (copied_d m c)))
    · exact ((hr.2 c).1 7).trans ((end_m m hO c s hs).trans (congrArg _ (copied_m m c)))
    · exact ((hr.2 c).1 8).trans ((end_v m hO c s hs).trans (congrArg _ (copied_v m c)))
  · refine (θ_run Cert.Reference9Ideal.defs _ _).mono (fun r hr c => ?_) (Cert.Reference9Ideal.Value.run (F := Ideal) m' ρ')
    obtain ⟨h0, h1, h2, h3, hargs⟩ := hr c
    obtain ⟨e0, e1, e2, e3, e4, e5, e6, e7, e8, e9⟩ := hm c
    have hk : ∀ y, m ((c : Thread nD τ).loc main_arg9) y = BitVec.ofNat 32 (s : ℕ) := fun y => by
      have q := congrFun (named_word m s hs) y
      obtain rfl : c = 0 := Subsingleton.elim _ _
      exact (congrFun (V_main_arg9 m 0) y).symm.trans q
    have eg := gradient_host (a := 128) (b := 1024) (m' ((c : Thread nD τ).loc Cert.Reference9Ideal.main_arg9)) _ (fun y => (congrFun e9 y).trans (hk y))
      ((rowBlocks_host (a := 128) (b := 1024) rfl _ shapeCasts_S1024x1024_S8x128x1024).trans (congrArg (rowBlocks rfl) (e1.trans (V_main_arg1 m c).symm)))
      (e0.trans (V_main_arg0 m c).symm) shapeCasts_S1_S_ bcast_S_S8x128x1024 reducesTo_S8x128x1024_S128x1024_d0 h_S_
    have em := (newM_host (n := 4) (a := 128) (b := 1024) bcast_S_S4x128x1024 bcast_S_S128x1024 bcast_S128x1024_S1x128x1024_1_2 bcast_S1x128x1024_S4x128x1024_0_1_2
      _ _).trans (newM_congr (congrArg every eg) (e3.trans (V_main_arg3 m c).symm))
    have ev := (newV_host (n := 4) (a := 128) (b := 1024) bcast_S_S4x128x1024 bcast_S_S128x1024 bcast_S128x1024_S1x128x1024_1_2 bcast_S1x128x1024_S4x128x1024_0_1_2
      _ _).trans (newV_congr (congrArg every eg) (e4.trans (V_main_arg4 m c).symm))
    have here (x old : Stack 4 128 1024) := into_host (n := 4) (a := 128) (b := 1024) 2 (by norm_num) (by norm_num) x old bcast_S_S4x128x1024
    exact ⟨h0.trans ((here _ _).trans (congrArg₂ (into 2) ((every_host (n := 4) (a := 128) (b := 1024) _ bcast_S128x1024_S4x128x1024_1_2).trans (congrArg every eg)) e5)),
      h1.trans ((here _ _).trans (congrArg₂ (into 2)
        ((delta_host (n := 4) (a := 128) (b := 1024) bcast_S_S4x128x1024 _ _ _ _ _ _ em ev).trans (delta_congr (e2.trans (V_main_arg2 m c).symm) rfl rfl rfl)) e6)),
      h2.trans ((here _ _).trans (congrArg₂ (into 2) em e7)), h3.trans ((here _ _).trans (congrArg₂ (into 2) ev e8)), hargs⟩

end Cert.Proof.GateStep

end
-- ==== Proof.PleStep.lean ====
/-
  Hand-written, untrusted. THE OPTIMISER'S CALL FOR LAYER 2 OF THE EMBEDDING'S PROJECTION: as for its gate (`Proof/GateStep.lean`), where
  the devices' blocks of the gradient are blocks of columns.
-/
module

public import proofs.«01_k».proof.Proof.PoolStep
public import proofs.«01_k».proof.Proof.Gen.Kernel10.Frame
public import proofs.«01_k».proof.Proof.Gen.Kernel10Ideal.Frame
public import proofs.«01_k».proof.Proof.Gen.Pre_device10
public import proofs.«01_k».proof.Proof.Gen.Reference10Ideal.Run

@[expose] public section

set_option maxRecDepth 16384

noncomputable section

namespace Cert.Proof.PleStep

open Idealize.ShloMosaic Idealize.SL.Sem Cert.Kernel10Ideal Cert.Adam Cert.Layer Cert.Own
open Cert.Kernel10Ideal.Gen Idealize.ShloMosaic.TcCoe Idealize.ShloMosaic.ValueIdx
open Idealize.ShloMosaic.Pipeline (Dat Cfg Window cellOf)

/-- The sum over the slots, the device's own read out of its own gradient. -/
theorem sum_slots (k : BitVec 32) (x : Vec Ideal S8x256x128 .bf16) (mine : Vec Ideal S256x128 .bf16) (own : Stack 8 256 128)
    (hm : ∀ s : Fin 8, BitVec.ofNat 32 (s : ℕ) = k → mine = layer own s) :
    k0_pay9 (F := Ideal) (k0_pay7 mine)
      (k0_pay8 mine k (View.ld x (Rect.unit ![0, 0, 0] ![1, 256, 128] inb_S8x256x128_S1x256x128_0_0_0))
        k (View.ld x (Rect.unit ![1, 0, 0] ![1, 256, 128] inb_S8x256x128_S1x256x128_1_0_0))
        k (View.ld x (Rect.unit ![2, 0, 0] ![1, 256, 128] inb_S8x256x128_S1x256x128_2_0_0))
        k (View.ld x (Rect.unit ![3, 0, 0] ![1, 256, 128] inb_S8x256x128_S1x256x128_3_0_0)))
      (Scalar.cmpi .eq k 4#32) (View.ld x (Rect.unit ![4, 0, 0] ![1, 256, 128] inb_S8x256x128_S1x256x128_4_0_0))
      k (View.ld x (Rect.unit ![5, 0, 0] ![1, 256, 128] inb_S8x256x128_S1x256x128_5_0_0))
      k (View.ld x (Rect.unit ![6, 0, 0] ![1, 256, 128] inb_S8x256x128_S1x256x128_6_0_0))
      k (View.ld x (Rect.unit ![7, 0, 0] ![1, 256, 128] inb_S8x256x128_S1x256x128_7_0_0))
      = total (a := 256) (b := 128) (picked k own x) :=
  slots_total (a := 256) (b := 128) k own mine hm x _ _ _ _ _ _ _ _ (slot_read x 0 _ _) (slot_read x 1 _ _) (slot_read x 2 _ _) (slot_read x 3 _ _)
    (slot_read x 4 _ _) (slot_read x 5 _ _) (slot_read x 6 _ _) (slot_read x 7 _ _)

/-- The body's four results from the layer's gradient: the gradient itself, the update, and the two moments. -/
theorem pay_g (g : Flat 256 128) : k0_pay3 (F := Ideal) g = every g := lift _ _
theorem pay_d (g : Flat 256 128) (w m v : Stack 1 256 128) :
    k0_pay4 (F := Ideal) g (k0_pay10 w) (k0_pay11 v) (k0_pay12 m) k0_pay13 = every (delta (layer w 0) g (layer m 0) (layer v 0)) := kept_d g w m v _ _
theorem pay_m (g : Flat 256 128) (m : Stack 1 256 128) : k0_pay5 (F := Ideal) g (k0_pay12 m) k0_pay13 = every (newM g (layer m 0)) := kept_m g m _ _
theorem pay_v (g : Flat 256 128) (v : Stack 1 256 128) : k0_pay6 (F := Ideal) g (k0_pay11 v) = every (newV g (layer v 0)) := kept_v g v _ _

section Table

variable {F : FTy → Type} [FloatOps F]
set_option backward.proofsInPublic true in
/-- The table that names device `s`. -/
def ple_tbl (s : Fin 8) : pre0.Contents (Elt F) := fun | ⟨0, _⟩ => fun _ => BitVec.ofNat 32 (s : ℕ) | ⟨_ + 1, h⟩ => absurd h (by simp)
/-- Under each such table every block lies inside its array. -/
theorem ok_ple (s : Fin 8) : ok0 (F := F) (ple_tbl s) := by
  revert s; exact of_decide_eq_true (by sl_kernel_rfl)

end Table

variable (m : (ℓ : Loc nD τ sig) → Buf (Elt Ideal) ℓ) (ρ : Dev nD → PrngReg)

variable (hO : Ok m) (c : Dev nD)

section Body

variable (i : grid0.Coords)
  (b2 : Memref sig .tc .vmem S8x256x128 .bf16) (h2 : b2.IsWhole) (b3 : Memref sig .tc .vmem S256x128 .bf16) (h3 : b3.IsWhole)
  (b4 : Memref sig .tc .vmem S1x256x128 .f32) (h4 : b4.IsWhole) (b5 : Memref sig .tc .vmem S1x256x128 .f32) (h5 : b5.IsWhole)
  (b6 : Memref sig .tc .vmem S1x256x128 .f32) (h6 : b6.IsWhole) (b7 : Memref sig .tc .vmem S1x256x128 .f32) (h7 : b7.IsWhole)
  (b8 : Memref sig .tc .vmem S1x256x128 .f32) (h8 : b8.IsWhole) (b9 : Memref sig .tc .vmem S1x256x128 .f32) (h9 : b9.IsWhole)
  (b10 : Memref sig .tc .vmem S1x256x128 .f32) (h10 : b10.IsWhole)
  (x : Vec Ideal S8x256x128 .bf16) (mine : Vec Ideal S256x128 .bf16) (w mm v : Vec Ideal S1x256x128 .f32) (xt : TbBuf0 (F := Ideal) c tbM0_0)
  (k : BitVec 32) (hx : xt = fun _ => k) (own : Stack 8 256 128) (hm : ∀ s : Fin 8, BitVec.ofNat 32 (s : ℕ) = k → mine = layer own s)
include hx hm

/-- What the body leaves of each of its four results. -/
theorem body : out0_A_5 (F := Ideal) c i b2 h2 b3 h3 b4 h4 b5 h5 b6 h6 b7 h7 b8 h8 b9 h9 b10 h10 x mine w mm v xt = every (total (picked k own x))
    ∧ out0_A_6 (F := Ideal) c i b2 h2 b3 h3 b4 h4 b5 h5 b6 h6 b7 h7 b8 h8 b9 h9 b10 h10 x mine w mm v xt = every (delta (layer w 0) (total (picked k own x)) (layer mm 0) (layer v 0))
    ∧ out0_A_7 (F := Ideal) c i b2 h2 b3 h3 b4 h4 b5 h5 b6 h6 b7 h7 b8 h8 b9 h9 b10 h10 x mine w mm v xt = every (newM (total (picked k own x)) (layer mm 0))
    ∧ out0_A_8 (F := Ideal) c i b2 h2 b3 h3 b4 h4 b5 h5 b6 h6 b7 h7 b8 h8 b9 h9 b10 h10 x mine w mm v xt = every (newV (total (picked k own x)) (layer v 0)) := by
  have e := sum_slots k x mine own hm
  subst hx; and_intros <;> funext y <;> frame_out
  · exact congrFun ((pay_g _).trans (congrArg every e)) y
  · exact congrFun ((pay_d _ _ _ _).trans (congrArg (fun g => every (delta (layer (n := 1) w 0) g (layer (n := 1) mm 0) (layer (n := 1) v 0))) e)) y
  · exact congrFun ((pay_m _ _).trans (congrArg (fun g => every (newM g (layer (n := 1) mm 0))) e)) y
  · exact congrFun ((pay_v _ _).trans (congrArg (fun g => every (newV g (layer (n := 1) v 0))) e)) y

end Body

/-- Where the blocks lie: the slots whole, of the device's own gradient the block that the table names, and of every other array layer 2. -/
theorem idx : ∀ t : Fin grid0.N, cc0_transform_0 (grid0.coords t) = ![0, 0, 0] ∧ cc0_transform_2 (grid0.coords t) = ![2, 0, 0] := by decide +kernel
theorem idx_own : ∀ (s : Fin 8) (t : Fin grid0.N), cc0_transform_1 inb_S1_S1_0 numel1_S1 (ple_tbl (F := Ideal) s) (grid0.coords t) = ![0, (s : ℕ)] :=
  of_decide_eq_true (by sl_kernel_rfl)
/-- The slots' block is the whole array. -/
theorem all (t : Fin (cfgM m hO).N) (j : (⟨3, ![8, 256, 128]⟩ : Shape).Idx) : (((cfgM m hO).win 0).blk t).view.emb j = j := by
  have e : ((cfgM m hO).win 0).index t = ![0, 0, 0] := (idx t).1
  funext a; apply Fin.ext
  match a with
  | ⟨0, _⟩ => blk_simp [e] <;> simp
  | ⟨1, _⟩ => blk_simp [e] <;> simp
  | ⟨2, _⟩ => blk_simp [e] <;> simp
/-- The block of the device's own gradient, when the table names device `s`. -/
theorem in_own (s : Fin 8) (hs : tbl m = ple_tbl s) (t : Fin (cfgM m hO).N) :
    (iblk m hO c 1 t : Flat 256 128) = layer (a := 256) (b := 128) (colBlocks (a := 256) (b := 128) (M := 1024) rfl (V m c main_arg1)) s := by
  have e : ((cfgM m hO).win 1).index t = ![0, (s : ℕ)] := by
    show cc0_transform_1 inb_S1_S1_0 numel1_S1 (tbl m) (grid0.coords t) = _
    rw [hs]; exact idx_own s t
  funext j
  refine congrArg (V m c main_arg1) (?_ : (((cfgM m hO).win 1).blk t).view.emb j = _)
  funext a; apply Fin.ext
  match a with
  | ⟨0, _⟩ => blk_simp [e] <;> rfl
  | ⟨1, _⟩ => blk_simp [e] <;> rfl
/-- The other blocks are layer 2 of their arrays. -/
theorem at2 (t : Fin (cfgM m hO).N) (y : (⟨3, ![1, 256, 128]⟩ : Shape).Idx) :
    (((cfgM m hO).win 2).blk t).view.emb y = put (n := 4) 2 y ∧ (((cfgM m hO).win 3).blk t).view.emb y = put (n := 4) 2 y
    ∧ (((cfgM m hO).win 4).blk t).view.emb y = put (n := 4) 2 y ∧ (((cfgM m hO).win 5).blk t).view.emb y = put (n := 4) 2 y
    ∧ (((cfgM m hO).win 6).blk t).view.emb y = put (n := 4) 2 y ∧ (((cfgM m hO).win 7).blk t).view.emb y = put (n := 4) 2 y
    ∧ (((cfgM m hO).win 8).blk t).view.emb y = put (n := 4) 2 y := by
  have h0 : (y 0 : ℕ) = 0 := by have := (y 0).isLt; change (y 0 : ℕ) < 1 at this; omega
  have e2 : ((cfgM m hO).win 2).index t = ![2, 0, 0] := (idx t).2
  have e3 : ((cfgM m hO).win 3).index t = ![2, 0, 0] := (idx t).2
  have e4 : ((cfgM m hO).win 4).index t = ![2, 0, 0] := (idx t).2
  have e5 : ((cfgM m hO).win 5).index t = ![2, 0, 0] := (idx t).2
  have e6 : ((cfgM m hO).win 6).index t = ![2, 0, 0] := (idx t).2
  have e7 : ((cfgM m hO).win 7).index t = ![2, 0, 0] := (idx t).2
  have e8 : ((cfgM m hO).win 8).index t = ![2, 0, 0] := (idx t).2
  and_intros <;> funext a <;> apply Fin.ext <;> match a with
  | ⟨0, _⟩ => blk_simp [e2, e3, e4, e5, e6, e7, e8] <;> simp [h0] <;> rfl
  | ⟨1, _⟩ => blk_simp [e2, e3, e4, e5, e6, e7, e8] <;> rfl
  | ⟨2, _⟩ => blk_simp [e2, e3, e4, e5, e6, e7, e8] <;> rfl

/-- The device's own gradient in blocks; the layer's gradient; the weight, its two moments, and the four arrays that hold the other layer's step. -/
abbrev blocks : Stack 8 256 128 := colBlocks (M := 1024) rfl (V m c main_arg1)
abbrev G (s : Fin 8) : Flat 256 128 := total (picked (BitVec.ofNat 32 (s : ℕ)) (blocks m c) (V m c main_arg0))
abbrev Wt : Stack 4 256 128 := V m c main_arg2
abbrev Mt : Stack 4 256 128 := V m c main_arg3
abbrev Vt : Stack 4 256 128 := V m c main_arg4

section Call

variable (s : Fin 8) (hs : tbl m = ple_tbl s) (t : Fin (cfgM m hO).N)

/-- What the call reads: the slots, its own block, and layer 2 of the weight and of its moments. -/
theorem slots : iblk m hO c 0 t = V m c main_arg0 := funext fun j => congrArg (V m c main_arg0) (all m hO t j)
include hs in
theorem own_block (s' : Fin 8) (h : BitVec.ofNat 32 (s' : ℕ) = BitVec.ofNat 32 (s : ℕ)) : (iblk m hO c 1 t : Flat 256 128) = layer (blocks m c) s' := by
  obtain rfl : s' = s := PoolStep.same_slot s' s h
  exact in_own m hO c s' hs t
theorem in_w : layer (n := 1) (a := 256) (b := 128) (iblk m hO c 2 t) 0 = layer (Wt m c) 2 :=
  funext fun j => congrArg (V m c main_arg2) ((at2 m hO t (ValueIdx.ix3 0 (j 0) (j 1))).1.trans rfl)
theorem in_m : layer (n := 1) (a := 256) (b := 128) (iblk m hO c 3 t) 0 = layer (Mt m c) 2 :=
  funext fun j => congrArg (V m c main_arg3) ((at2 m hO t (ValueIdx.ix3 0 (j 0) (j 1))).2.1.trans rfl)
theorem in_v : layer (n := 1) (a := 256) (b := 128) (iblk m hO c 4 t) 0 = layer (Vt m c) 2 :=
  funext fun j => congrArg (V m c main_arg4) ((at2 m hO t (ValueIdx.ix3 0 (j 0) (j 1))).2.2.1.trans rfl)

include hs
/-- The word that the body reads. -/
theorem named_word : (tbl m 0 : TbBuf0 (F := Ideal) c tbM0_0) = fun _ => BitVec.ofNat 32 (s : ℕ) := by rw [hs]; rfl
/-- What a step of the call leaves in the blocks of its four results. -/
theorem left : (outsAt0 m hO c t).1 = every (G m c s) ∧ (outsAt0 m hO c t).2.1 = every (delta (layer (Wt m c) 2) (G m c s) (layer (Mt m c) 2) (layer (Vt m c) 2))
    ∧ (outsAt0 m hO c t).2.2.1 = every (newM (G m c s) (layer (Mt m c) 2)) ∧ (outsAt0 m hO c t).2.2.2 = every (newV (G m c s) (layer (Vt m c) 2)) := by
  have hb := own_block m hO c s hs t
  rw [outsAt0]; dsimp only
  have q := body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (iblk m hO c 0 t) (iblk m hO c 1 t) (iblk m hO c 2 t) (iblk m hO c 3 t) (iblk m hO c 4 t) (tbl m 0) (BitVec.ofNat 32 (s : ℕ)) (named_word m s hs) (blocks m c) hb
  refine ⟨q.1.trans ?_, q.2.1.trans ?_, q.2.2.1.trans ?_, q.2.2.2.trans ?_⟩
  · rw [slots]
  · rw [slots, in_w, in_m, in_v]
  · rw [slots, in_m]
  · rw [slots, in_v]

omit t
/-- What the call leaves in the four arrays: layer 2 stepped, the other layers as they were. -/
theorem end_g : (dats m hO 0 c).arrAt 5 (cfgM m hO).N = into 2 (every (G m c s)) (V m c main_v0_0) := by
  refine (dats m hO 0 c).arrAt_eq_of_coversWhere 5 _ (fun β => β (⟨0, by decide⟩ : Fin 3) = 2) (of_decide_eq_true (by sl_kernel_rfl)) (fun t hf y => ?_) (fun j => Iff.rfl)
  blk_simp; rw [after0_5, (left m hO c s hs t).1]
  exact (congrArg (every (n := 4) (G m c s)) (at2 m hO t y).2.2.2.1).symm
theorem end_d : (dats m hO 0 c).arrAt 6 (cfgM m hO).N = into 2 (delta (Wt m c) (every (G m c s)) (Mt m c) (Vt m c)) (V m c main_v0_1) := by
  refine (dats m hO 0 c).arrAt_eq_of_coversWhere 6 _ (fun β => β (⟨0, by decide⟩ : Fin 3) = 2) (of_decide_eq_true (by sl_kernel_rfl)) (fun t hf y => ?_) (fun j => Iff.rfl)
  blk_simp; rw [after0_6, (left m hO c s hs t).2.1]
  exact (congrArg (delta (Wt m c) (every (G m c s)) (Mt m c) (Vt m c)) (at2 m hO t y).2.2.2.2.1).symm
theorem end_m : (dats m hO 0 c).arrAt 7 (cfgM m hO).N = into 2 (newM (every (G m c s)) (Mt m c)) (V m c main_v0_2) := by
  refine (dats m hO 0 c).arrAt_eq_of_coversWhere 7 _ (fun β => β (⟨0, by decide⟩ : Fin 3) = 2) (of_decide_eq_true (by sl_kernel_rfl)) (fun t hf y => ?_) (fun j => Iff.rfl)
  blk_simp; rw [after0_7, (left m hO c s hs t).2.2.1]
  exact (congrArg (newM (every (G m c s)) (Mt m c)) (at2 m hO t y).2.2.2.2.2.1).symm
theorem end_v : (dats m hO 0 c).arrAt 8 (cfgM m hO).N = into 2 (newV (every (G m c s)) (Vt m c)) (V m c main_v0_3) := by
  refine (dats m hO 0 c).arrAt_eq_of_coversWhere 8 _ (fun β => β (⟨0, by decide⟩ : Fin 3) = 2) (of_decide_eq_true (by sl_kernel_rfl)) (fun t hf y => ?_) (fun j => Iff.rfl)
  blk_simp; rw [after0_8, (left m hO c s hs t).2.2.2]
  exact (congrArg (newV (every (G m c s)) (Vt m c)) (at2 m hO t y).2.2.2.2.2.2).symm

end Call

/-! ## The results as functions of the arguments -/

/-- Under the precondition the table names a device. -/
theorem tbl_named (h : Cert.Pre_Kernel10Ideal m) : ∃ s, tbl m = ple_tbl s := by
  obtain ⟨s, e⟩ := PoolStep.named (m (((0 : Dev nD) : Thread nD τ).loc main_arg9)) (fun y => congrFun (h 0) y)
  refine ⟨s, funext fun j => ?_⟩
  obtain rfl : j = 0 := Subsingleton.elim _ _
  exact (V_main_arg9 m 0).trans e

/-- The arrays that the call writes its layer into are copies of the arguments. -/
theorem copied_g : V m c main_v0_0 = m ((c : Thread nD τ).loc main_arg5) := by
  show StableHlo.after hostOps0 _ _ = _
  simp only [hostOps0]; after_results; try rfl
theorem copied_d : V m c main_v0_1 = m ((c : Thread nD τ).loc main_arg6) := by
  show StableHlo.after hostOps0 _ _ = _
  simp only [hostOps0]; after_results; try rfl
theorem copied_m : V m c main_v0_2 = m ((c : Thread nD τ).loc main_arg7) := by
  show StableHlo.after hostOps0 _ _ = _
  simp only [hostOps0]; after_results; try rfl
theorem copied_v : V m c main_v0_3 = m ((c : Thread nD τ).loc main_arg8) := by
  show StableHlo.after hostOps0 _ _ = _
  simp only [hostOps0]; after_results; try rfl

/-- The kernel's frame: the block that the table names lies inside the device's own gradient. -/
theorem frame_ideal : Cert.quiescent_Kernel10Ideal := fun m ρ h => by
  obtain ⟨s, hs⟩ := tbl_named m h
  exact Cert.Kernel10Ideal.Gen.frame m ρ (show ok0 (tbl m) by rw [hs]; exact ok_ple s)

/-- The frames of the reference, from its run. -/
theorem frame_ref : Cert.quiescent_Reference10Ideal := fun m ρ _ =>
  (θ_run Cert.Reference10Ideal.defs _ _).mono
    (fun r h => ⟨fun c => (h c).2.2.2.2, sem_eq_zero_of_no_sems (by decide) r.2⟩)
    (Cert.Reference10Ideal.Value.run (F := Ideal) m ρ)

/-- The reference's frame under the precondition follows from the one without it. -/
theorem frame_ref_device : Cert.quiescent_Reference10Ideal_pre_device10 := fun m ρ _ => frame_ref m ρ trivial

/-- The same of the kernel on floats' bits. -/
def bits_tbl (s : Fin 8) : Cert.Kernel10.pre0.Contents (Elt Bits) := fun | ⟨0, _⟩ => fun _ => BitVec.ofNat 32 (s : ℕ) | ⟨_ + 1, h⟩ => absurd h (by simp)
theorem ok_bits (s : Fin 8) : Cert.Kernel10.ok0 (F := Bits) (bits_tbl s) := by
  revert s; exact of_decide_eq_true (by sl_kernel_rfl)
theorem frame_bits : Cert.quiescent_Kernel10 := fun m ρ h => by
  obtain ⟨s, e⟩ := PoolStep.named (m (((0 : Dev Cert.Kernel10.nD) : Thread Cert.Kernel10.nD Cert.Kernel10.τ).loc Cert.Kernel10.main_arg9)) (fun y => congrFun (h 0) y)
  have hs : Cert.Kernel10.Gen.tbl m = bits_tbl s := funext fun j => by
    obtain rfl : j = 0 := Subsingleton.elim _ _
    exact (Cert.Kernel10.Gen.V_main_arg9 m 0).trans e
  exact Cert.Kernel10.Gen.frame m ρ (show Cert.Kernel10.ok0 (Cert.Kernel10.Gen.tbl m) by rw [hs]; exact ok_bits s)

open Cert.Reference10Ideal.Gen in
set_option maxHeartbeats 2000000 in
/-- The kernel's results are the reference's. -/
theorem results : Cert.algebraic_Kernel10Ideal_Reference10Ideal := fun m ρ m' ρ' h hm => by
  obtain ⟨s, hs⟩ := tbl_named m h
  have hO : Ok m := show ok0 (tbl m) by rw [hs]; exact ok_ple s
  refine ⟨fun c => into 2 (every (G m c s)) (m ((c : Thread nD τ).loc main_arg5)),
    fun c => into 2 (delta (Wt m c) (every (G m c s)) (Mt m c) (Vt m c)) (m ((c : Thread nD τ).loc main_arg6)),
    fun c => into 2 (newM (every (G m c s)) (Mt m c)) (m ((c : Thread nD τ).loc main_arg7)),
    fun c => into 2 (newV (every (G m c s)) (Vt m c)) (m ((c : Thread nD τ).loc main_arg8)), ?_, ?_⟩
  · refine (θ_run defs _ _).mono (fun r hr c => ⟨?_, ?_, ?_, ?_, hr.1 c⟩) (θ_run_and (unchanged m ρ hO) (run_main m ρ hO))
    · exact ((hr.2 c).1 5).trans ((end_g m hO c s hs).trans (congrArg _ (copied_g m c)))
    · exact ((hr.2 c).1 6).trans ((end_d m hO c s hs).trans (congrArg _ (copied_d m c)))
    · exact ((hr.2 c).1 7).trans ((end_m m hO c s hs).trans (congrArg _ (copied_m m c)))
    · exact ((hr.2 c).1 8).trans ((end_v m hO c s hs).trans (congrArg _ (copied_v m c)))
  · refine (θ_run Cert.Reference10Ideal.defs _ _).mono (fun r hr c => ?_) (Cert.Reference10Ideal.Value.run (F := Ideal) m' ρ')
    obtain ⟨h0, h1, h2, h3, hargs⟩ := hr c
    obtain ⟨e0, e1, e2, e3, e4, e5, e6, e7, e8, e9⟩ := hm c
    have hk : ∀ y, m ((c : Thread nD τ).loc main_arg9) y = BitVec.ofNat 32 (s : ℕ) := fun y => by
      have q := congrFun (named_word m s hs) y
      obtain rfl : c = 0 := Subsingleton.elim _ _
      exact (congrFun (V_main_arg9 m 0) y).symm.trans q
    have eg := gradient_host (a := 256) (b := 128) (m' ((c : Thread nD τ).loc Cert.Reference10Ideal.main_arg9)) _ (fun y => (congrFun e9 y).trans (hk y))
      ((colBlocks_host (a := 256) (b := 128) rfl _ shapeCasts_S256x1024_S256x8x128 transposes_S256x8x128_S8x256x128_1_0_2).trans (congrArg (colBlocks rfl) (e1.trans (V_main_arg1 m c).symm)))
      (e0.trans (V_main_arg0 m c).symm) shapeCasts_S1_S_ bcast_S_S8x256x128 reducesTo_S8x256x128_S256x128_d0 h_S_
    have em := (newM_host (n := 4) (a := 256) (b := 128) bcast_S_S4x256x128 bcast_S_S256x128 bcast_S256x128_S1x256x128_1_2 bcast_S1x256x128_S4x256x128_0_1_2
      _ _).trans (newM_congr (congrArg every eg) (e3.trans (V_main_arg3 m c).symm))
    have ev := (newV_host (n := 4) (a := 256) (b := 128) bcast_S_S4x256x128 bcast_S_S256x128 bcast_S256x128_S1x256x128_1_2 bcast_S1x256x128_S4x256x128_0_1_2
      _ _).trans (newV_congr (congrArg every eg) (e4.trans (V_main_arg4 m c).symm))
    have here (x old : Stack 4 256 128) := into_host (n := 4) (a := 256) (b := 128) 2 (by norm_num) (by norm_num) x old bcast_S_S4x256x128
    exact ⟨h0.trans ((here _ _).trans (congrArg₂ (into 2) ((every_host (n := 4) (a := 256) (b := 128) _ bcast_S256x128_S4x256x128_1_2).trans (congrArg every eg)) e5)),
      h1.trans ((here _ _).trans (congrArg₂ (into 2)
        ((delta_host (n := 4) (a := 256) (b := 128) bcast_S_S4x256x128 _ _ _ _ _ _ em ev).trans (delta_congr (e2.trans (V_main_arg2 m c).symm) rfl rfl rfl)) e6)),
      h2.trans ((here _ _).trans (congrArg₂ (into 2) em e7)), h3.trans ((here _ _).trans (congrArg₂ (into 2) ev e8)), hargs⟩

end Cert.Proof.PleStep

end
-- ==== Proof.DownStep.lean ====
/-
  Hand-written, untrusted. THE OPTIMISER'S CALL FOR LAYER 2 OF THE MLP'S SECOND WEIGHT: as for the embedding's gate
  (`Proof/GateStep.lean`), but in strips of rows: step `t` of the call makes strip `t` of the layer.
-/
module

public import proofs.«01_k».proof.Proof.PoolStep
public import proofs.«01_k».proof.Proof.Gen.Kernel11.Frame
public import proofs.«01_k».proof.Proof.Gen.Kernel11Ideal.Frame
public import proofs.«01_k».proof.Proof.Gen.Pre_device11
public import proofs.«01_k».proof.Proof.Gen.Reference11Ideal.Run

@[expose] public section

set_option maxRecDepth 16384

noncomputable section

namespace Cert.Proof.DownStep

open Idealize.ShloMosaic Idealize.SL.Sem Cert.Kernel11Ideal Cert.Adam Cert.Layer Cert.Own
open Cert.Kernel11Ideal.Gen Idealize.ShloMosaic.TcCoe Idealize.ShloMosaic.ValueIdx
open Idealize.ShloMosaic.Pipeline (Dat Cfg Window cellOf)

/-- The sum over the slots, the device's own read out of its own gradient. -/
theorem sum_slots (k : BitVec 32) (x : Vec Ideal S8x256x1024 .bf16) (mine : Vec Ideal S256x1024 .bf16) (own : Stack 8 256 1024)
    (hm : ∀ s : Fin 8, BitVec.ofNat 32 (s : ℕ) = k → mine = layer own s) :
    k0_pay9 (F := Ideal) (k0_pay7 mine)
      (k0_pay8 mine k (View.ld x (Rect.unit ![0, 0, 0] ![1, 256, 1024] inb_S8x256x1024_S1x256x1024_0_0_0))
        k (View.ld x (Rect.unit ![1, 0, 0] ![1, 256, 1024] inb_S8x256x1024_S1x256x1024_1_0_0))
        k (View.ld x (Rect.unit ![2, 0, 0] ![1, 256, 1024] inb_S8x256x1024_S1x256x1024_2_0_0))
        k (View.ld x (Rect.unit ![3, 0, 0] ![1, 256, 1024] inb_S8x256x1024_S1x256x1024_3_0_0)))
      (Scalar.cmpi .eq k 4#32) (View.ld x (Rect.unit ![4, 0, 0] ![1, 256, 1024] inb_S8x256x1024_S1x256x1024_4_0_0))
      k (View.ld x (Rect.unit ![5, 0, 0] ![1, 256, 1024] inb_S8x256x1024_S1x256x1024_5_0_0))
      k (View.ld x (Rect.unit ![6, 0, 0] ![1, 256, 1024] inb_S8x256x1024_S1x256x1024_6_0_0))
      k (View.ld x (Rect.unit ![7, 0, 0] ![1, 256, 1024] inb_S8x256x1024_S1x256x1024_7_0_0))
      = total (a := 256) (b := 1024) (picked k own x) :=
  slots_total (a := 256) (b := 1024) k own mine hm x _ _ _ _ _ _ _ _ (slot_read x 0 _ _) (slot_read x 1 _ _) (slot_read x 2 _ _) (slot_read x 3 _ _)
    (slot_read x 4 _ _) (slot_read x 5 _ _) (slot_read x 6 _ _) (slot_read x 7 _ _)

/-- The body's four results from the layer's gradient: the gradient itself, the update, and the two moments. -/
theorem pay_g (g : Flat 256 1024) : k0_pay3 (F := Ideal) g = every g := lift _ _
theorem pay_d (g : Flat 256 1024) (w m v : Stack 1 256 1024) :
    k0_pay4 (F := Ideal) g (k0_pay10 w) (k0_pay11 v) (k0_pay12 m) k0_pay13 = every (delta (layer w 0) g (layer m 0) (layer v 0)) := kept_d g w m v _ _
theorem pay_m (g : Flat 256 1024) (m : Stack 1 256 1024) : k0_pay5 (F := Ideal) g (k0_pay12 m) k0_pay13 = every (newM g (layer m 0)) := kept_m g m _ _
theorem pay_v (g : Flat 256 1024) (v : Stack 1 256 1024) : k0_pay6 (F := Ideal) g (k0_pay11 v) = every (newV g (layer v 0)) := kept_v g v _ _

section Table

variable {F : FTy → Type} [FloatOps F]
set_option backward.proofsInPublic true in
/-- The table that names device `s`. -/
def down_tbl (s : Fin 8) : pre0.Contents (Elt F) := fun | ⟨0, _⟩ => fun _ => BitVec.ofNat 32 (s : ℕ) | ⟨_ + 1, h⟩ => absurd h (by simp)
/-- Under each such table every block lies inside its array. -/
theorem ok_down (s : Fin 8) : ok0 (F := F) (down_tbl s) := by
  revert s; exact of_decide_eq_true (by sl_kernel_rfl)

end Table

variable (m : (ℓ : Loc nD τ sig) → Buf (Elt Ideal) ℓ) (ρ : Dev nD → PrngReg)

variable (hO : Ok m) (c : Dev nD)

section Body

variable (i : grid0.Coords)
  (b2 : Memref sig .tc .vmem S8x256x1024 .bf16) (h2 : b2.IsWhole) (b3 : Memref sig .tc .vmem S256x1024 .bf16) (h3 : b3.IsWhole)
  (b4 : Memref sig .tc .vmem S1x256x1024 .f32) (h4 : b4.IsWhole) (b5 : Memref sig .tc .vmem S1x256x1024 .f32) (h5 : b5.IsWhole)
  (b6 : Memref sig .tc .vmem S1x256x1024 .f32) (h6 : b6.IsWhole) (b7 : Memref sig .tc .vmem S1x256x1024 .f32) (h7 : b7.IsWhole)
  (b8 : Memref sig .tc .vmem S1x256x1024 .f32) (h8 : b8.IsWhole) (b9 : Memref sig .tc .vmem S1x256x1024 .f32) (h9 : b9.IsWhole)
  (b10 : Memref sig .tc .vmem S1x256x1024 .f32) (h10 : b10.IsWhole)
  (x : Vec Ideal S8x256x1024 .bf16) (mine : Vec Ideal S256x1024 .bf16) (w mm v : Vec Ideal S1x256x1024 .f32) (xt : TbBuf0 (F := Ideal) c tbM0_0)
  (k : BitVec 32) (hx : xt = fun _ => k) (own : Stack 8 256 1024) (hm : ∀ s : Fin 8, BitVec.ofNat 32 (s : ℕ) = k → mine = layer own s)
include hx hm

/-- What the body leaves of each of its four results. -/
theorem body : out0_A_5 (F := Ideal) c i b2 h2 b3 h3 b4 h4 b5 h5 b6 h6 b7 h7 b8 h8 b9 h9 b10 h10 x mine w mm v xt = every (total (picked k own x))
    ∧ out0_A_6 (F := Ideal) c i b2 h2 b3 h3 b4 h4 b5 h5 b6 h6 b7 h7 b8 h8 b9 h9 b10 h10 x mine w mm v xt = every (delta (layer w 0) (total (picked k own x)) (layer mm 0) (layer v 0))
    ∧ out0_A_7 (F := Ideal) c i b2 h2 b3 h3 b4 h4 b5 h5 b6 h6 b7 h7 b8 h8 b9 h9 b10 h10 x mine w mm v xt = every (newM (total (picked k own x)) (layer mm 0))
    ∧ out0_A_8 (F := Ideal) c i b2 h2 b3 h3 b4 h4 b5 h5 b6 h6 b7 h7 b8 h8 b9 h9 b10 h10 x mine w mm v xt = every (newV (total (picked k own x)) (layer v 0)) := by
  have e := sum_slots k x mine own hm
  subst hx; and_intros <;> funext y <;> frame_out
  · exact congrFun ((pay_g _).trans (congrArg every e)) y
  · exact congrFun ((pay_d _ _ _ _).trans (congrArg (fun g => every (delta (layer (n := 1) w 0) g (layer (n := 1) mm 0) (layer (n := 1) v 0))) e)) y
  · exact congrFun ((pay_m _ _).trans (congrArg (fun g => every (newM g (layer (n := 1) mm 0))) e)) y
  · exact congrFun ((pay_v _ _).trans (congrArg (fun g => every (newV g (layer (n := 1) v 0))) e)) y

end Body

/-- Where the blocks lie: strip `t` of the slots, of the device's own gradient the strip of the block that the table names, and of every
other array strip `t` of layer 2. -/
theorem idx : ∀ t : Fin grid0.N, cc0_transform_0 (grid0.coords t) = ![0, (t : ℕ), 0] ∧ cc0_transform_2 (grid0.coords t) = ![2, (t : ℕ), 0] := by decide +kernel
theorem idx_own : ∀ (s : Fin 8) (t : Fin grid0.N), cc0_transform_1 inb_S1_S1_0 numel1_S1 (down_tbl (F := Ideal) s) (grid0.coords t) = ![(s : ℕ) * 2 + (t : ℕ), 0] :=
  of_decide_eq_true (by sl_kernel_rfl)
theorem hA : 512 = grid0.N * 256 := by decide
theorem at_slots (t : Fin (cfgM m hO).N) (j : (⟨3, ![8, 256, 1024]⟩ : Shape).Idx) :
    (((cfgM m hO).win 0).blk t).view.emb j = ValueIdx.ix3 (j 0) (row hA t (j 1)) (j 2) := by
  have e : ((cfgM m hO).win 0).index t = ![0, (t : ℕ), 0] := (idx t).1
  funext a; apply Fin.ext
  match a with
  | ⟨0, _⟩ => blk_simp [e] <;> simp <;> rfl
  | ⟨1, _⟩ => blk_simp [e] <;> rfl
  | ⟨2, _⟩ => blk_simp [e] <;> simp <;> rfl
theorem in_own (s : Fin 8) (hs : tbl m = down_tbl s) (t : Fin (cfgM m hO).N) :
    (iblk m hO c 1 t : Flat 256 1024) = layer (strips (n := 8) (b := 1024) hA t (rowBlocks (a := 512) (b := 1024) rfl (V m c main_arg1))) s := by
  have e : ((cfgM m hO).win 1).index t = ![(s : ℕ) * 2 + (t : ℕ), 0] := by
    show cc0_transform_1 inb_S1_S1_0 numel1_S1 (tbl m) (grid0.coords t) = _
    rw [hs]; exact idx_own s t
  refine funext fun (j : (⟨2, ![256, 1024]⟩ : Shape).Idx) => congrArg (V m c main_arg1) (?_ : (((cfgM m hO).win 1).blk t).view.emb j = _)
  funext a; apply Fin.ext
  match a with
  | ⟨0, _⟩ =>
    have h : ((s : ℕ) * 2 + (t : ℕ)) * 256 + (j 0 : ℕ) = (s : ℕ) * 512 + ((t : ℕ) * 256 + (j 0 : ℕ)) := by ring
    blk_simp [e] <;> exact h
  | ⟨1, _⟩ => blk_simp [e] <;> simp <;> rfl
theorem at2 (t : Fin (cfgM m hO).N) (y : (⟨3, ![1, 256, 1024]⟩ : Shape).Idx) :
    (((cfgM m hO).win 2).blk t).view.emb y = inLayer hA t (2 : Fin 4) y ∧ (((cfgM m hO).win 3).blk t).view.emb y = inLayer hA t (2 : Fin 4) y
    ∧ (((cfgM m hO).win 4).blk t).view.emb y = inLayer hA t (2 : Fin 4) y ∧ (((cfgM m hO).win 5).blk t).view.emb y = inLayer hA t (2 : Fin 4) y
    ∧ (((cfgM m hO).win 6).blk t).view.emb y = inLayer hA t (2 : Fin 4) y ∧ (((cfgM m hO).win 7).blk t).view.emb y = inLayer hA t (2 : Fin 4) y
    ∧ (((cfgM m hO).win 8).blk t).view.emb y = inLayer hA t (2 : Fin 4) y := by
  have h0 : (y 0 : ℕ) = 0 := by have := (y 0).isLt; change (y 0 : ℕ) < 1 at this; omega
  have e2 : ((cfgM m hO).win 2).index t = ![2, (t : ℕ), 0] := (idx t).2
  have e3 : ((cfgM m hO).win 3).index t = ![2, (t : ℕ), 0] := (idx t).2
  have e4 : ((cfgM m hO).win 4).index t = ![2, (t : ℕ), 0] := (idx t).2
  have e5 : ((cfgM m hO).win 5).index t = ![2, (t : ℕ), 0] := (idx t).2
  have e6 : ((cfgM m hO).win 6).index t = ![2, (t : ℕ), 0] := (idx t).2
  have e7 : ((cfgM m hO).win 7).index t = ![2, (t : ℕ), 0] := (idx t).2
  have e8 : ((cfgM m hO).win 8).index t = ![2, (t : ℕ), 0] := (idx t).2
  and_intros <;> funext a <;> apply Fin.ext <;> match a with
  | ⟨0, _⟩ => blk_simp [e2, e3, e4, e5, e6, e7, e8] <;> simp [h0] <;> rfl
  | ⟨1, _⟩ => blk_simp [e2, e3, e4, e5, e6, e7, e8] <;> rfl
  | ⟨2, _⟩ => blk_simp [e2, e3, e4, e5, e6, e7, e8] <;> simp <;> rfl

/-- The device's own gradient in blocks; the layer's gradient; the weight, its two moments. -/
abbrev blocks : Stack 8 512 1024 := rowBlocks (a := 512) (b := 1024) rfl (V m c main_arg1)
abbrev G (s : Fin 8) : Flat 512 1024 := total (picked (BitVec.ofNat 32 (s : ℕ)) (blocks m c) (V m c main_arg0))
abbrev Wt : Stack 4 512 1024 := V m c main_arg2
abbrev Mt : Stack 4 512 1024 := V m c main_arg3
abbrev Vt : Stack 4 512 1024 := V m c main_arg4

section Call

variable (s : Fin 8) (hs : tbl m = down_tbl s) (t : Fin (cfgM m hO).N)

/-- What the call reads: strips of the slots, of its own block, and of layer 2 of the weight and of its moments. -/
theorem slots : (iblk m hO c 0 t : Stack 8 256 1024) = strips (n := 8) (b := 1024) hA t (V m c main_arg0) := funext fun j => congrArg (V m c main_arg0) (at_slots m hO t j)
include hs in
theorem own_block (s' : Fin 8) (h : BitVec.ofNat 32 (s' : ℕ) = BitVec.ofNat 32 (s : ℕ)) : (iblk m hO c 1 t : Flat 256 1024) = layer (strips hA t (blocks m c)) s' := by
  obtain rfl : s' = s := PoolStep.same_slot s' s h
  exact in_own m hO c s' hs t
theorem in_w : layer (n := 1) (a := 256) (b := 1024) (iblk m hO c 2 t) 0 = strip hA t (layer (Wt m c) 2) :=
  funext fun j => congrArg (V m c main_arg2) ((at2 m hO t (ValueIdx.ix3 0 (j 0) (j 1))).1.trans rfl)
theorem in_m : layer (n := 1) (a := 256) (b := 1024) (iblk m hO c 3 t) 0 = strip hA t (layer (Mt m c) 2) :=
  funext fun j => congrArg (V m c main_arg3) ((at2 m hO t (ValueIdx.ix3 0 (j 0) (j 1))).2.1.trans rfl)
theorem in_v : layer (n := 1) (a := 256) (b := 1024) (iblk m hO c 4 t) 0 = strip hA t (layer (Vt m c) 2) :=
  funext fun j => congrArg (V m c main_arg4) ((at2 m hO t (ValueIdx.ix3 0 (j 0) (j 1))).2.2.1.trans rfl)

include hs
/-- The word that the body reads. -/
theorem named_word : (tbl m 0 : TbBuf0 (F := Ideal) c tbM0_0) = fun _ => BitVec.ofNat 32 (s : ℕ) := by rw [hs]; rfl
/-- What step `t` of the call leaves in the blocks of its four results. -/
theorem left : (outsAt0 m hO c t).1 = every (strip hA t (G m c s))
    ∧ (outsAt0 m hO c t).2.1 = every (delta (strip hA t (layer (Wt m c) 2)) (strip hA t (G m c s)) (strip hA t (layer (Mt m c) 2)) (strip hA t (layer (Vt m c) 2)))
    ∧ (outsAt0 m hO c t).2.2.1 = every (newM (strip hA t (G m c s)) (strip hA t (layer (Mt m c) 2)))
    ∧ (outsAt0 m hO c t).2.2.2 = every (newV (strip hA t (G m c s)) (strip hA t (layer (Vt m c) 2))) := by
  have hb := own_block m hO c s hs t
  rw [outsAt0]; dsimp only
  have q := body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (iblk m hO c 0 t) (iblk m hO c 1 t) (iblk m hO c 2 t) (iblk m hO c 3 t) (iblk m hO c 4 t) (tbl m 0) (BitVec.ofNat 32 (s : ℕ)) (named_word m s hs) (strips hA t (blocks m c)) hb
  refine ⟨q.1.trans ?_, q.2.1.trans ?_, q.2.2.1.trans ?_, q.2.2.2.trans ?_⟩
  · rw [slots, total_strips]
  · rw [slots, total_strips, in_w, in_m, in_v]
  · rw [slots, total_strips, in_m]
  · rw [slots, total_strips, in_v]

omit t
/-- What the call leaves in the four arrays: layer 2 stepped, the other layers as they were. -/
theorem end_g : (dats m hO 0 c).arrAt 5 (cfgM m hO).N = into 2 (every (G m c s)) (V m c main_v0_0) := by
  refine (dats m hO 0 c).arrAt_eq_of_coversWhere 5 _ (fun β => β (⟨0, by decide⟩ : Fin 3) = 2) (of_decide_eq_true (by sl_kernel_rfl)) (fun t hf y => ?_) (fun j => Iff.rfl)
  blk_simp; rw [after0_5, (left m hO c s hs t).1]
  exact (congrArg (every (n := 4) (G m c s)) (at2 m hO t y).2.2.2.1).symm
theorem end_d : (dats m hO 0 c).arrAt 6 (cfgM m hO).N = into 2 (delta (Wt m c) (every (G m c s)) (Mt m c) (Vt m c)) (V m c main_v0_1) := by
  refine (dats m hO 0 c).arrAt_eq_of_coversWhere 6 _ (fun β => β (⟨0, by decide⟩ : Fin 3) = 2) (of_decide_eq_true (by sl_kernel_rfl)) (fun t hf y => ?_) (fun j => Iff.rfl)
  blk_simp; rw [after0_6, (left m hO c s hs t).2.1]
  exact (congrArg (delta (Wt m c) (every (G m c s)) (Mt m c) (Vt m c)) (at2 m hO t y).2.2.2.2.1).symm
theorem end_m : (dats m hO 0 c).arrAt 7 (cfgM m hO).N = into 2 (newM (every (G m c s)) (Mt m c)) (V m c main_v0_2) := by
  refine (dats m hO 0 c).arrAt_eq_of_coversWhere 7 _ (fun β => β (⟨0, by decide⟩ : Fin 3) = 2) (of_decide_eq_true (by sl_kernel_rfl)) (fun t hf y => ?_) (fun j => Iff.rfl)
  blk_simp; rw [after0_7, (left m hO c s hs t).2.2.1]
  exact (congrArg (newM (every (G m c s)) (Mt m c)) (at2 m hO t y).2.2.2.2.2.1).symm
theorem end_v : (dats m hO 0 c).arrAt 8 (cfgM m hO).N = into 2 (newV (every (G m c s)) (Vt m c)) (V m c main_v0_3) := by
  refine (dats m hO 0 c).arrAt_eq_of_coversWhere 8 _ (fun β => β (⟨0, by decide⟩ : Fin 3) = 2) (of_decide_eq_true (by sl_kernel_rfl)) (fun t hf y => ?_) (fun j => Iff.rfl)
  blk_simp; rw [after0_8, (left m hO c s hs t).2.2.2]
  exact (congrArg (newV (every (G m c s)) (Vt m c)) (at2 m hO t y).2.2.2.2.2.2).symm

end Call

/-! ## The results as functions of the arguments -/

/-- Under the precondition the table names a device. -/
theorem tbl_named (h : Cert.Pre_Kernel11Ideal m) : ∃ s, tbl m = down_tbl s := by
  obtain ⟨s, e⟩ := PoolStep.named (m (((0 : Dev nD) : Thread nD τ).loc main_arg9)) (fun y => congrFun (h 0) y)
  refine ⟨s, funext fun j => ?_⟩
  obtain rfl : j = 0 := Subsingleton.elim _ _
  exact (V_main_arg9 m 0).trans e

/-- The arrays that the call writes its layer into are copies of the arguments. -/
theorem copied_g : V m c main_v0_0 = m ((c : Thread nD τ).loc main_arg5) := by
  show StableHlo.after hostOps0 _ _ = _
  simp only [hostOps0]; after_results; try rfl
theorem copied_d : V m c main_v0_1 = m ((c : Thread nD τ).loc main_arg6) := by
  show StableHlo.after hostOps0 _ _ = _
  simp only [hostOps0]; after_results; try rfl
theorem copied_m : V m c main_v0_2 = m ((c : Thread nD τ).loc main_arg7) := by
  show StableHlo.after hostOps0 _ _ = _
  simp only [hostOps0]; after_results; try rfl
theorem copied_v : V m c main_v0_3 = m ((c : Thread nD τ).loc main_arg8) := by
  show StableHlo.after hostOps0 _ _ = _
  simp only [hostOps0]; after_results; try rfl

/-- The kernel's frame: the block that the table names lies inside the device's own gradient. -/
theorem frame_ideal : Cert.quiescent_Kernel11Ideal := fun m ρ h => by
  obtain ⟨s, hs⟩ := tbl_named m h
  exact Cert.Kernel11Ideal.Gen.frame m ρ (show ok0 (tbl m) by rw [hs]; exact ok_down s)

/-- The frames of the reference, from its run. -/
theorem frame_ref : Cert.quiescent_Reference11Ideal := fun m ρ _ =>
  (θ_run Cert.Reference11Ideal.defs _ _).mono
    (fun r h => ⟨fun c => (h c).2.2.2.2, sem_eq_zero_of_no_sems (by decide) r.2⟩)
    (Cert.Reference11Ideal.Value.run (F := Ideal) m ρ)

/-- The reference's frame under the precondition follows from the one without it. -/
theorem frame_ref_device : Cert.quiescent_Reference11Ideal_pre_device11 := fun m ρ _ => frame_ref m ρ trivial

/-- The same of the kernel on floats' bits. -/
def bits_tbl (s : Fin 8) : Cert.Kernel11.pre0.Contents (Elt Bits) := fun | ⟨0, _⟩ => fun _ => BitVec.ofNat 32 (s : ℕ) | ⟨_ + 1, h⟩ => absurd h (by simp)
theorem ok_bits (s : Fin 8) : Cert.Kernel11.ok0 (F := Bits) (bits_tbl s) := by
  revert s; exact of_decide_eq_true (by sl_kernel_rfl)
theorem frame_bits : Cert.quiescent_Kernel11 := fun m ρ h => by
  obtain ⟨s, e⟩ := PoolStep.named (m (((0 : Dev Cert.Kernel11.nD) : Thread Cert.Kernel11.nD Cert.Kernel11.τ).loc Cert.Kernel11.main_arg9)) (fun y => congrFun (h 0) y)
  have hs : Cert.Kernel11.Gen.tbl m = bits_tbl s := funext fun j => by
    obtain rfl : j = 0 := Subsingleton.elim _ _
    exact (Cert.Kernel11.Gen.V_main_arg9 m 0).trans e
  exact Cert.Kernel11.Gen.frame m ρ (show Cert.Kernel11.ok0 (Cert.Kernel11.Gen.tbl m) by rw [hs]; exact ok_bits s)

open Cert.Reference11Ideal.Gen in
set_option maxHeartbeats 2000000 in
/-- The kernel's results are the reference's. -/
theorem results : Cert.algebraic_Kernel11Ideal_Reference11Ideal := fun m ρ m' ρ' h hm => by
  obtain ⟨s, hs⟩ := tbl_named m h
  have hO : Ok m := show ok0 (tbl m) by rw [hs]; exact ok_down s
  refine ⟨fun c => into 2 (every (G m c s)) (m ((c : Thread nD τ).loc main_arg5)),
    fun c => into 2 (delta (Wt m c) (every (G m c s)) (Mt m c) (Vt m c)) (m ((c : Thread nD τ).loc main_arg6)),
    fun c => into 2 (newM (every (G m c s)) (Mt m c)) (m ((c : Thread nD τ).loc main_arg7)),
    fun c => into 2 (newV (every (G m c s)) (Vt m c)) (m ((c : Thread nD τ).loc main_arg8)), ?_, ?_⟩
  · refine (θ_run defs _ _).mono (fun r hr c => ⟨?_, ?_, ?_, ?_, hr.1 c⟩) (θ_run_and (unchanged m ρ hO) (run_main m ρ hO))
    · exact ((hr.2 c).1 5).trans ((end_g m hO c s hs).trans (congrArg _ (copied_g m c)))
    · exact ((hr.2 c).1 6).trans ((end_d m hO c s hs).trans (congrArg _ (copied_d m c)))
    · exact ((hr.2 c).1 7).trans ((end_m m hO c s hs).trans (congrArg _ (copied_m m c)))
    · exact ((hr.2 c).1 8).trans ((end_v m hO c s hs).trans (congrArg _ (copied_v m c)))
  · refine (θ_run Cert.Reference11Ideal.defs _ _).mono (fun r hr c => ?_) (Cert.Reference11Ideal.Value.run (F := Ideal) m' ρ')
    obtain ⟨h0, h1, h2, h3, hargs⟩ := hr c
    obtain ⟨e0, e1, e2, e3, e4, e5, e6, e7, e8, e9⟩ := hm c
    have hk : ∀ y, m ((c : Thread nD τ).loc main_arg9) y = BitVec.ofNat 32 (s : ℕ) := fun y => by
      have q := congrFun (named_word m s hs) y
      obtain rfl : c = 0 := Subsingleton.elim _ _
      exact (congrFun (V_main_arg9 m 0) y).symm.trans q
    have eg := gradient_host (a := 512) (b := 1024) (m' ((c : Thread nD τ).loc Cert.Reference11Ideal.main_arg9)) _ (fun y => (congrFun e9 y).trans (hk y))
      ((rowBlocks_host (a := 512) (b := 1024) rfl _ shapeCasts_S4096x1024_S8x512x1024).trans (congrArg (rowBlocks rfl) (e1.trans (V_main_arg1 m c).symm)))
      (e0.trans (V_main_arg0 m c).symm) shapeCasts_S1_S_ bcast_S_S8x512x1024 reducesTo_S8x512x1024_S512x1024_d0 h_S_
    have em := (newM_host (n := 4) (a := 512) (b := 1024) bcast_S_S4x512x1024 bcast_S_S512x1024 bcast_S512x1024_S1x512x1024_1_2 bcast_S1x512x1024_S4x512x1024_0_1_2
      _ _).trans (newM_congr (congrArg every eg) (e3.trans (V_main_arg3 m c).symm))
    have ev := (newV_host (n := 4) (a := 512) (b := 1024) bcast_S_S4x512x1024 bcast_S_S512x1024 bcast_S512x1024_S1x512x1024_1_2 bcast_S1x512x1024_S4x512x1024_0_1_2
      _ _).trans (newV_congr (congrArg every eg) (e4.trans (V_main_arg4 m c).symm))
    have here (x old : Stack 4 512 1024) := into_host (n := 4) (a := 512) (b := 1024) 2 (by norm_num) (by norm_num) x old bcast_S_S4x512x1024
    exact ⟨h0.trans ((here _ _).trans (congrArg₂ (into 2) ((every_host (n := 4) (a := 512) (b := 1024) _ bcast_S512x1024_S4x512x1024_1_2).trans (congrArg every eg)) e5)),
      h1.trans ((here _ _).trans (congrArg₂ (into 2)
        ((delta_host (n := 4) (a := 512) (b := 1024) bcast_S_S4x512x1024 _ _ _ _ _ _ em ev).trans (delta_congr (e2.trans (V_main_arg2 m c).symm) rfl rfl rfl)) e6)),
      h2.trans ((here _ _).trans (congrArg₂ (into 2) em e7)), h3.trans ((here _ _).trans (congrArg₂ (into 2) ev e8)), hargs⟩

end Cert.Proof.DownStep

end
-- ==== Proof.UpStep.lean ====
/-
  Hand-written, untrusted. THE OPTIMISER'S CALL FOR LAYER 2 OF THE MLP'S FIRST WEIGHT: as for the second (`Proof/DownStep.lean`), where
  the devices' blocks of the gradient are blocks of columns.
-/
module

public import proofs.«01_k».proof.Proof.PoolStep
public import proofs.«01_k».proof.Proof.Gen.Kernel12.Frame
public import proofs.«01_k».proof.Proof.Gen.Kernel12Ideal.Frame
public import proofs.«01_k».proof.Proof.Gen.Pre_device12
public import proofs.«01_k».proof.Proof.Gen.Reference12Ideal.Run

@[expose] public section

set_option maxRecDepth 16384

noncomputable section

namespace Cert.Proof.UpStep

open Idealize.ShloMosaic Idealize.SL.Sem Cert.Kernel12Ideal Cert.Adam Cert.Layer Cert.Own
open Cert.Kernel12Ideal.Gen Idealize.ShloMosaic.TcCoe Idealize.ShloMosaic.ValueIdx
open Idealize.ShloMosaic.Pipeline (Dat Cfg Window cellOf)

/-- The sum over the slots, the device's own read out of its own gradient. -/
theorem sum_slots (k : BitVec 32) (x : Vec Ideal S8x256x512 .bf16) (mine : Vec Ideal S256x512 .bf16) (own : Stack 8 256 512)
    (hm : ∀ s : Fin 8, BitVec.ofNat 32 (s : ℕ) = k → mine = layer own s) :
    k0_pay9 (F := Ideal) (k0_pay7 mine)
      (k0_pay8 mine k (View.ld x (Rect.unit ![0, 0, 0] ![1, 256, 512] inb_S8x256x512_S1x256x512_0_0_0))
        k (View.ld x (Rect.unit ![1, 0, 0] ![1, 256, 512] inb_S8x256x512_S1x256x512_1_0_0))
        k (View.ld x (Rect.unit ![2, 0, 0] ![1, 256, 512] inb_S8x256x512_S1x256x512_2_0_0))
        k (View.ld x (Rect.unit ![3, 0, 0] ![1, 256, 512] inb_S8x256x512_S1x256x512_3_0_0)))
      (Scalar.cmpi .eq k 4#32) (View.ld x (Rect.unit ![4, 0, 0] ![1, 256, 512] inb_S8x256x512_S1x256x512_4_0_0))
      k (View.ld x (Rect.unit ![5, 0, 0] ![1, 256, 512] inb_S8x256x512_S1x256x512_5_0_0))
      k (View.ld x (Rect.unit ![6, 0, 0] ![1, 256, 512] inb_S8x256x512_S1x256x512_6_0_0))
      k (View.ld x (Rect.unit ![7, 0, 0] ![1, 256, 512] inb_S8x256x512_S1x256x512_7_0_0))
      = total (a := 256) (b := 512) (picked k own x) :=
  slots_total (a := 256) (b := 512) k own mine hm x _ _ _ _ _ _ _ _ (slot_read x 0 _ _) (slot_read x 1 _ _) (slot_read x 2 _ _) (slot_read x 3 _ _)
    (slot_read x 4 _ _) (slot_read x 5 _ _) (slot_read x 6 _ _) (slot_read x 7 _ _)

/-- The body's four results from the layer's gradient: the gradient itself, the update, and the two moments. -/
theorem pay_g (g : Flat 256 512) : k0_pay3 (F := Ideal) g = every g := lift _ _
theorem pay_d (g : Flat 256 512) (w m v : Stack 1 256 512) :
    k0_pay4 (F := Ideal) g (k0_pay10 w) (k0_pay11 v) (k0_pay12 m) k0_pay13 = every (delta (layer w 0) g (layer m 0) (layer v 0)) := kept_d g w m v _ _
theorem pay_m (g : Flat 256 512) (m : Stack 1 256 512) : k0_pay5 (F := Ideal) g (k0_pay12 m) k0_pay13 = every (newM g (layer m 0)) := kept_m g m _ _
theorem pay_v (g : Flat 256 512) (v : Stack 1 256 512) : k0_pay6 (F := Ideal) g (k0_pay11 v) = every (newV g (layer v 0)) := kept_v g v _ _

section Table

variable {F : FTy → Type} [FloatOps F]
set_option backward.proofsInPublic true in
/-- The table that names device `s`. -/
def up_tbl (s : Fin 8) : pre0.Contents (Elt F) := fun | ⟨0, _⟩ => fun _ => BitVec.ofNat 32 (s : ℕ) | ⟨_ + 1, h⟩ => absurd h (by simp)
/-- Under each such table every block lies inside its array. -/
theorem ok_up (s : Fin 8) : ok0 (F := F) (up_tbl s) := by
  revert s; exact of_decide_eq_true (by sl_kernel_rfl)

end Table

variable (m : (ℓ : Loc nD τ sig) → Buf (Elt Ideal) ℓ) (ρ : Dev nD → PrngReg)

variable (hO : Ok m) (c : Dev nD)

section Body

variable (i : grid0.Coords)
  (b2 : Memref sig .tc .vmem S8x256x512 .bf16) (h2 : b2.IsWhole) (b3 : Memref sig .tc .vmem S256x512 .bf16) (h3 : b3.IsWhole)
  (b4 : Memref sig .tc .vmem S1x256x512 .f32) (h4 : b4.IsWhole) (b5 : Memref sig .tc .vmem S1x256x512 .f32) (h5 : b5.IsWhole)
  (b6 : Memref sig .tc .vmem S1x256x512 .f32) (h6 : b6.IsWhole) (b7 : Memref sig .tc .vmem S1x256x512 .f32) (h7 : b7.IsWhole)
  (b8 : Memref sig .tc .vmem S1x256x512 .f32) (h8 : b8.IsWhole) (b9 : Memref sig .tc .vmem S1x256x512 .f32) (h9 : b9.IsWhole)
  (b10 : Memref sig .tc .vmem S1x256x512 .f32) (h10 : b10.IsWhole)
  (x : Vec Ideal S8x256x512 .bf16) (mine : Vec Ideal S256x512 .bf16) (w mm v : Vec Ideal S1x256x512 .f32) (xt : TbBuf0 (F := Ideal) c tbM0_0)
  (k : BitVec 32) (hx : xt = fun _ => k) (own : Stack 8 256 512) (hm : ∀ s : Fin 8, BitVec.ofNat 32 (s : ℕ) = k → mine = layer own s)
include hx hm

/-- What the body leaves of each of its four results. -/
theorem body : out0_A_5 (F := Ideal) c i b2 h2 b3 h3 b4 h4 b5 h5 b6 h6 b7 h7 b8 h8 b9 h9 b10 h10 x mine w mm v xt = every (total (picked k own x))
    ∧ out0_A_6 (F := Ideal) c i b2 h2 b3 h3 b4 h4 b5 h5 b6 h6 b7 h7 b8 h8 b9 h9 b10 h10 x mine w mm v xt = every (delta (layer w 0) (total (picked k own x)) (layer mm 0) (layer v 0))
    ∧ out0_A_7 (F := Ideal) c i b2 h2 b3 h3 b4 h4 b5 h5 b6 h6 b7 h7 b8 h8 b9 h9 b10 h10 x mine w mm v xt = every (newM (total (picked k own x)) (layer mm 0))
    ∧ out0_A_8 (F := Ideal) c i b2 h2 b3 h3 b4 h4 b5 h5 b6 h6 b7 h7 b8 h8 b9 h9 b10 h10 x mine w mm v xt = every (newV (total (picked k own x)) (layer v 0)) := by
  have e := sum_slots k x mine own hm
  subst hx; and_intros <;> funext y <;> frame_out
  · exact congrFun ((pay_g _).trans (congrArg every e)) y
  · exact congrFun ((pay_d _ _ _ _).trans (congrArg (fun g => every (delta (layer (n := 1) w 0) g (layer (n := 1) mm 0) (layer (n := 1) v 0))) e)) y
  · exact congrFun ((pay_m _ _).trans (congrArg (fun g => every (newM g (layer (n := 1) mm 0))) e)) y
  · exact congrFun ((pay_v _ _).trans (congrArg (fun g => every (newV g (layer (n := 1) v 0))) e)) y

end Body

/-- Where the blocks lie: strip `t` of the slots, of the device's own gradient the strip of the block that the table names, and of every
other array strip `t` of layer 2. -/
theorem idx : ∀ t : Fin grid0.N, cc0_transform_0 (grid0.coords t) = ![0, (t : ℕ), 0] ∧ cc0_transform_2 (grid0.coords t) = ![2, (t : ℕ), 0] := by decide +kernel
theorem idx_own : ∀ (s : Fin 8) (t : Fin grid0.N), cc0_transform_1 inb_S1_S1_0 numel1_S1 (up_tbl (F := Ideal) s) (grid0.coords t) = ![(t : ℕ), (s : ℕ)] :=
  of_decide_eq_true (by sl_kernel_rfl)
theorem hA : 1024 = grid0.N * 256 := by decide
theorem at_slots (t : Fin (cfgM m hO).N) (j : (⟨3, ![8, 256, 512]⟩ : Shape).Idx) :
    (((cfgM m hO).win 0).blk t).view.emb j = ValueIdx.ix3 (j 0) (row hA t (j 1)) (j 2) := by
  have e : ((cfgM m hO).win 0).index t = ![0, (t : ℕ), 0] := (idx t).1
  funext a; apply Fin.ext
  match a with
  | ⟨0, _⟩ => blk_simp [e] <;> simp <;> rfl
  | ⟨1, _⟩ => blk_simp [e] <;> rfl
  | ⟨2, _⟩ => blk_simp [e] <;> simp <;> rfl
theorem in_own (s : Fin 8) (hs : tbl m = up_tbl s) (t : Fin (cfgM m hO).N) :
    (iblk m hO c 1 t : Flat 256 512) = layer (strips (n := 8) (b := 512) hA t (colBlocks (a := 1024) (b := 512) rfl (V m c main_arg1))) s := by
  have e : ((cfgM m hO).win 1).index t = ![(t : ℕ), (s : ℕ)] := by
    show cc0_transform_1 inb_S1_S1_0 numel1_S1 (tbl m) (grid0.coords t) = _
    rw [hs]; exact idx_own s t
  refine funext fun (j : (⟨2, ![256, 512]⟩ : Shape).Idx) => congrArg (V m c main_arg1) (?_ : (((cfgM m hO).win 1).blk t).view.emb j = _)
  funext a; apply Fin.ext
  match a with
  | ⟨0, _⟩ => blk_simp [e] <;> rfl
  | ⟨1, _⟩ => blk_simp [e] <;> rfl
theorem at2 (t : Fin (cfgM m hO).N) (y : (⟨3, ![1, 256, 512]⟩ : Shape).Idx) :
    (((cfgM m hO).win 2).blk t).view.emb y = inLayer hA t (2 : Fin 4) y ∧ (((cfgM m hO).win 3).blk t).view.emb y = inLayer hA t (2 : Fin 4) y
    ∧ (((cfgM m hO).win 4).blk t).view.emb y = inLayer hA t (2 : Fin 4) y ∧ (((cfgM m hO).win 5).blk t).view.emb y = inLayer hA t (2 : Fin 4) y
    ∧ (((cfgM m hO).win 6).blk t).view.emb y = inLayer hA t (2 : Fin 4) y ∧ (((cfgM m hO).win 7).blk t).view.emb y = inLayer hA t (2 : Fin 4) y
    ∧ (((cfgM m hO).win 8).blk t).view.emb y = inLayer hA t (2 : Fin 4) y := by
  have h0 : (y 0 : ℕ) = 0 := by have := (y 0).isLt; change (y 0 : ℕ) < 1 at this; omega
  have e2 : ((cfgM m hO).win 2).index t = ![2, (t : ℕ), 0] := (idx t).2
  have e3 : ((cfgM m hO).win 3).index t = ![2, (t : ℕ), 0] := (idx t).2
  have e4 : ((cfgM m hO).win 4).index t = ![2, (t : ℕ), 0] := (idx t).2
  have e5 : ((cfgM m hO).win 5).index t = ![2, (t : ℕ), 0] := (idx t).2
  have e6 : ((cfgM m hO).win 6).index t = ![2, (t : ℕ), 0] := (idx t).2
  have e7 : ((cfgM m hO).win 7).index t = ![2, (t : ℕ), 0] := (idx t).2
  have e8 : ((cfgM m hO).win 8).index t = ![2, (t : ℕ), 0] := (idx t).2
  and_intros <;> funext a <;> apply Fin.ext <;> match a with
  | ⟨0, _⟩ => blk_simp [e2, e3, e4, e5, e6, e7, e8] <;> simp [h0] <;> rfl
  | ⟨1, _⟩ => blk_simp [e2, e3, e4, e5, e6, e7, e8] <;> rfl
  | ⟨2, _⟩ => blk_simp [e2, e3, e4, e5, e6, e7, e8] <;> simp <;> rfl

/-- The device's own gradient in blocks; the layer's gradient; the weight, its two moments. -/
abbrev blocks : Stack 8 1024 512 := colBlocks (a := 1024) (b := 512) rfl (V m c main_arg1)
abbrev G (s : Fin 8) : Flat 1024 512 := total (picked (BitVec.ofNat 32 (s : ℕ)) (blocks m c) (V m c main_arg0))
abbrev Wt : Stack 4 1024 512 := V m c main_arg2
abbrev Mt : Stack 4 1024 512 := V m c main_arg3
abbrev Vt : Stack 4 1024 512 := V m c main_arg4

section Call

variable (s : Fin 8) (hs : tbl m = up_tbl s) (t : Fin (cfgM m hO).N)

/-- What the call reads: strips of the slots, of its own block, and of layer 2 of the weight and of its moments. -/
theorem slots : (iblk m hO c 0 t : Stack 8 256 512) = strips (n := 8) (b := 512) hA t (V m c main_arg0) := funext fun j => congrArg (V m c main_arg0) (at_slots m hO t j)
include hs in
theorem own_block (s' : Fin 8) (h : BitVec.ofNat 32 (s' : ℕ) = BitVec.ofNat 32 (s : ℕ)) : (iblk m hO c 1 t : Flat 256 512) = layer (strips hA t (blocks m c)) s' := by
  obtain rfl : s' = s := PoolStep.same_slot s' s h
  exact in_own m hO c s' hs t
theorem in_w : layer (n := 1) (a := 256) (b := 512) (iblk m hO c 2 t) 0 = strip hA t (layer (Wt m c) 2) :=
  funext fun j => congrArg (V m c main_arg2) ((at2 m hO t (ValueIdx.ix3 0 (j 0) (j 1))).1.trans rfl)
theorem in_m : layer (n := 1) (a := 256) (b := 512) (iblk m hO c 3 t) 0 = strip hA t (layer (Mt m c) 2) :=
  funext fun j => congrArg (V m c main_arg3) ((at2 m hO t (ValueIdx.ix3 0 (j 0) (j 1))).2.1.trans rfl)
theorem in_v : layer (n := 1) (a := 256) (b := 512) (iblk m hO c 4 t) 0 = strip hA t (layer (Vt m c) 2) :=
  funext fun j => congrArg (V m c main_arg4) ((at2 m hO t (ValueIdx.ix3 0 (j 0) (j 1))).2.2.1.trans rfl)

include hs
/-- The word that the body reads. -/
theorem named_word : (tbl m 0 : TbBuf0 (F := Ideal) c tbM0_0) = fun _ => BitVec.ofNat 32 (s : ℕ) := by rw [hs]; rfl
/-- What step `t` of the call leaves in the blocks of its four results. -/
theorem left : (outsAt0 m hO c t).1 = every (strip hA t (G m c s))
    ∧ (outsAt0 m hO c t).2.1 = every (delta (strip hA t (layer (Wt m c) 2)) (strip hA t (G m c s)) (strip hA t (layer (Mt m c) 2)) (strip hA t (layer (Vt m c) 2)))
    ∧ (outsAt0 m hO c t).2.2.1 = every (newM (strip hA t (G m c s)) (strip hA t (layer (Mt m c) 2)))
    ∧ (outsAt0 m hO c t).2.2.2 = every (newV (strip hA t (G m c s)) (strip hA t (layer (Vt m c) 2))) := by
  have hb := own_block m hO c s hs t
  rw [outsAt0]; dsimp only
  have q := body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (iblk m hO c 0 t) (iblk m hO c 1 t) (iblk m hO c 2 t) (iblk m hO c 3 t) (iblk m hO c 4 t) (tbl m 0) (BitVec.ofNat 32 (s : ℕ)) (named_word m s hs) (strips hA t (blocks m c)) hb
  refine ⟨q.1.trans ?_, q.2.1.trans ?_, q.2.2.1.trans ?_, q.2.2.2.trans ?_⟩
  · rw [slots, total_strips]
  · rw [slots, total_strips, in_w, in_m, in_v]
  · rw [slots, total_strips, in_m]
  · rw [slots, total_strips, in_v]

omit t
/-- What the call leaves in the four arrays: layer 2 stepped, the other layers as they were. -/
theorem end_g : (dats m hO 0 c).arrAt 5 (cfgM m hO).N = into 2 (every (G m c s)) (V m c main_v0_0) := by
  refine (dats m hO 0 c).arrAt_eq_of_coversWhere 5 _ (fun β => β (⟨0, by decide⟩ : Fin 3) = 2) (of_decide_eq_true (by sl_kernel_rfl)) (fun t hf y => ?_) (fun j => Iff.rfl)
  blk_simp; rw [after0_5, (left m hO c s hs t).1]
  exact (congrArg (every (n := 4) (G m c s)) (at2 m hO t y).2.2.2.1).symm
theorem end_d : (dats m hO 0 c).arrAt 6 (cfgM m hO).N = into 2 (delta (Wt m c) (every (G m c s)) (Mt m c) (Vt m c)) (V m c main_v0_1) := by
  refine (dats m hO 0 c).arrAt_eq_of_coversWhere 6 _ (fun β => β (⟨0, by decide⟩ : Fin 3) = 2) (of_decide_eq_true (by sl_kernel_rfl)) (fun t hf y => ?_) (fun j => Iff.rfl)
  blk_simp; rw [after0_6, (left m hO c s hs t).2.1]
  exact (congrArg (delta (Wt m c) (every (G m c s)) (Mt m c) (Vt m c)) (at2 m hO t y).2.2.2.2.1).symm
theorem end_m : (dats m hO 0 c).arrAt 7 (cfgM m hO).N = into 2 (newM (every (G m c s)) (Mt m c)) (V m c main_v0_2) := by
  refine (dats m hO 0 c).arrAt_eq_of_coversWhere 7 _ (fun β => β (⟨0, by decide⟩ : Fin 3) = 2) (of_decide_eq_true (by sl_kernel_rfl)) (fun t hf y => ?_) (fun j => Iff.rfl)
  blk_simp; rw [after0_7, (left m hO c s hs t).2.2.1]
  exact (congrArg (newM (every (G m c s)) (Mt m c)) (at2 m hO t y).2.2.2.2.2.1).symm
theorem end_v : (dats m hO 0 c).arrAt 8 (cfgM m hO).N = into 2 (newV (every (G m c s)) (Vt m c)) (V m c main_v0_3) := by
  refine (dats m hO 0 c).arrAt_eq_of_coversWhere 8 _ (fun β => β (⟨0, by decide⟩ : Fin 3) = 2) (of_decide_eq_true (by sl_kernel_rfl)) (fun t hf y => ?_) (fun j => Iff.rfl)
  blk_simp; rw [after0_8, (left m hO c s hs t).2.2.2]
  exact (congrArg (newV (every (G m c s)) (Vt m c)) (at2 m hO t y).2.2.2.2.2.2).symm

end Call

/-! ## The results as functions of the arguments -/

/-- Under the precondition the table names a device. -/
theorem tbl_named (h : Cert.Pre_Kernel12Ideal m) : ∃ s, tbl m = up_tbl s := by
  obtain ⟨s, e⟩ := PoolStep.named (m (((0 : Dev nD) : Thread nD τ).loc main_arg9)) (fun y => congrFun (h 0) y)
  refine ⟨s, funext fun j => ?_⟩
  obtain rfl : j = 0 := Subsingleton.elim _ _
  exact (V_main_arg9 m 0).trans e

/-- The arrays that the call writes its layer into are copies of the arguments. -/
theorem copied_g : V m c main_v0_0 = m ((c : Thread nD τ).loc main_arg5) := by
  show StableHlo.after hostOps0 _ _ = _
  simp only [hostOps0]; after_results; try rfl
theorem copied_d : V m c main_v0_1 = m ((c : Thread nD τ).loc main_arg6) := by
  show StableHlo.after hostOps0 _ _ = _
  simp only [hostOps0]; after_results; try rfl
theorem copied_m : V m c main_v0_2 = m ((c : Thread nD τ).loc main_arg7) := by
  show StableHlo.after hostOps0 _ _ = _
  simp only [hostOps0]; after_results; try rfl
theorem copied_v : V m c main_v0_3 = m ((c : Thread nD τ).loc main_arg8) := by
  show StableHlo.after hostOps0 _ _ = _
  simp only [hostOps0]; after_results; try rfl

/-- The kernel's frame: the block that the table names lies inside the device's own gradient. -/
theorem frame_ideal : Cert.quiescent_Kernel12Ideal := fun m ρ h => by
  obtain ⟨s, hs⟩ := tbl_named m h
  exact Cert.Kernel12Ideal.Gen.frame m ρ (show ok0 (tbl m) by rw [hs]; exact ok_up s)

/-- The frames of the reference, from its run. -/
theorem frame_ref : Cert.quiescent_Reference12Ideal := fun m ρ _ =>
  (θ_run Cert.Reference12Ideal.defs _ _).mono
    (fun r h => ⟨fun c => (h c).2.2.2.2, sem_eq_zero_of_no_sems (by decide) r.2⟩)
    (Cert.Reference12Ideal.Value.run (F := Ideal) m ρ)

/-- The reference's frame under the precondition follows from the one without it. -/
theorem frame_ref_device : Cert.quiescent_Reference12Ideal_pre_device12 := fun m ρ _ => frame_ref m ρ trivial

/-- The same of the kernel on floats' bits. -/
def bits_tbl (s : Fin 8) : Cert.Kernel12.pre0.Contents (Elt Bits) := fun | ⟨0, _⟩ => fun _ => BitVec.ofNat 32 (s : ℕ) | ⟨_ + 1, h⟩ => absurd h (by simp)
theorem ok_bits (s : Fin 8) : Cert.Kernel12.ok0 (F := Bits) (bits_tbl s) := by
  revert s; exact of_decide_eq_true (by sl_kernel_rfl)
theorem frame_bits : Cert.quiescent_Kernel12 := fun m ρ h => by
  obtain ⟨s, e⟩ := PoolStep.named (m (((0 : Dev Cert.Kernel12.nD) : Thread Cert.Kernel12.nD Cert.Kernel12.τ).loc Cert.Kernel12.main_arg9)) (fun y => congrFun (h 0) y)
  have hs : Cert.Kernel12.Gen.tbl m = bits_tbl s := funext fun j => by
    obtain rfl : j = 0 := Subsingleton.elim _ _
    exact (Cert.Kernel12.Gen.V_main_arg9 m 0).trans e
  exact Cert.Kernel12.Gen.frame m ρ (show Cert.Kernel12.ok0 (Cert.Kernel12.Gen.tbl m) by rw [hs]; exact ok_bits s)

open Cert.Reference12Ideal.Gen in
set_option maxHeartbeats 2000000 in
/-- The kernel's results are the reference's. -/
theorem results : Cert.algebraic_Kernel12Ideal_Reference12Ideal := fun m ρ m' ρ' h hm => by
  obtain ⟨s, hs⟩ := tbl_named m h
  have hO : Ok m := show ok0 (tbl m) by rw [hs]; exact ok_up s
  refine ⟨fun c => into 2 (every (G m c s)) (m ((c : Thread nD τ).loc main_arg5)),
    fun c => into 2 (delta (Wt m c) (every (G m c s)) (Mt m c) (Vt m c)) (m ((c : Thread nD τ).loc main_arg6)),
    fun c => into 2 (newM (every (G m c s)) (Mt m c)) (m ((c : Thread nD τ).loc main_arg7)),
    fun c => into 2 (newV (every (G m c s)) (Vt m c)) (m ((c : Thread nD τ).loc main_arg8)), ?_, ?_⟩
  · refine (θ_run defs _ _).mono (fun r hr c => ⟨?_, ?_, ?_, ?_, hr.1 c⟩) (θ_run_and (unchanged m ρ hO) (run_main m ρ hO))
    · exact ((hr.2 c).1 5).trans ((end_g m hO c s hs).trans (congrArg _ (copied_g m c)))
    · exact ((hr.2 c).1 6).trans ((end_d m hO c s hs).trans (congrArg _ (copied_d m c)))
    · exact ((hr.2 c).1 7).trans ((end_m m hO c s hs).trans (congrArg _ (copied_m m c)))
    · exact ((hr.2 c).1 8).trans ((end_v m hO c s hs).trans (congrArg _ (copied_v m c)))
  · refine (θ_run Cert.Reference12Ideal.defs _ _).mono (fun r hr c => ?_) (Cert.Reference12Ideal.Value.run (F := Ideal) m' ρ')
    obtain ⟨h0, h1, h2, h3, hargs⟩ := hr c
    obtain ⟨e0, e1, e2, e3, e4, e5, e6, e7, e8, e9⟩ := hm c
    have hk : ∀ y, m ((c : Thread nD τ).loc main_arg9) y = BitVec.ofNat 32 (s : ℕ) := fun y => by
      have q := congrFun (named_word m s hs) y
      obtain rfl : c = 0 := Subsingleton.elim _ _
      exact (congrFun (V_main_arg9 m 0) y).symm.trans q
    have eg := gradient_host (a := 1024) (b := 512) (m' ((c : Thread nD τ).loc Cert.Reference12Ideal.main_arg9)) _ (fun y => (congrFun e9 y).trans (hk y))
      ((colBlocks_host (a := 1024) (b := 512) rfl _ shapeCasts_S1024x4096_S1024x8x512 transposes_S1024x8x512_S8x1024x512_1_0_2).trans (congrArg (colBlocks rfl) (e1.trans (V_main_arg1 m c).symm)))
      (e0.trans (V_main_arg0 m c).symm) shapeCasts_S1_S_ bcast_S_S8x1024x512 reducesTo_S8x1024x512_S1024x512_d0 h_S_
    have em := (newM_host (n := 4) (a := 1024) (b := 512) bcast_S_S4x1024x512 bcast_S_S1024x512 bcast_S1024x512_S1x1024x512_1_2 bcast_S1x1024x512_S4x1024x512_0_1_2
      _ _).trans (newM_congr (congrArg every eg) (e3.trans (V_main_arg3 m c).symm))
    have ev := (newV_host (n := 4) (a := 1024) (b := 512) bcast_S_S4x1024x512 bcast_S_S1024x512 bcast_S1024x512_S1x1024x512_1_2 bcast_S1x1024x512_S4x1024x512_0_1_2
      _ _).trans (newV_congr (congrArg every eg) (e4.trans (V_main_arg4 m c).symm))
    have here (x old : Stack 4 1024 512) := into_host (n := 4) (a := 1024) (b := 512) 2 (by norm_num) (by norm_num) x old bcast_S_S4x1024x512
    exact ⟨h0.trans ((here _ _).trans (congrArg₂ (into 2) ((every_host (n := 4) (a := 1024) (b := 512) _ bcast_S1024x512_S4x1024x512_1_2).trans (congrArg every eg)) e5)),
      h1.trans ((here _ _).trans (congrArg₂ (into 2)
        ((delta_host (n := 4) (a := 1024) (b := 512) bcast_S_S4x1024x512 _ _ _ _ _ _ em ev).trans (delta_congr (e2.trans (V_main_arg2 m c).symm) rfl rfl rfl)) e6)),
      h2.trans ((here _ _).trans (congrArg₂ (into 2) em e7)), h3.trans ((here _ _).trans (congrArg₂ (into 2) ev e8)), hargs⟩

end Cert.Proof.UpStep

end
-- ==== Proof.lean ====
/-
  Hand-written, untrusted. THE CLAIMS: for each of the twelve programs (the MLP's calls, the calls around the recurrent mixer's core,
  those around the pooling mixer's core, the per-layer embedding's, and the optimiser's for the recurrent mixer's small weights, for the
  vectors, for the pooling mixer's grouped weight, and for a layer of its other two weights, of the embedding's gate, of its
  projection and of the MLP's two weights), the three frames, that the idealization preserves the program, and that its results over the extended reals are the
  reference's.
-/
module

public import proofs.«01_k».proof.Defs
public import proofs.«01_k».proof.Proof.MlpValue
public import proofs.«01_k».proof.Proof.LruValue
public import proofs.«01_k».proof.Proof.PoolValue
public import proofs.«01_k».proof.Proof.PleValue
public import proofs.«01_k».proof.Proof.SmallValue
public import proofs.«01_k».proof.Proof.VecValue
public import proofs.«01_k».proof.Proof.GrpValue
public import proofs.«01_k».proof.Proof.PoolStep
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Pre_device
public import proofs.«01_k».proof.Proof.GateStep
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Pre_device9
public import proofs.«01_k».proof.Proof.PleStep
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Pre_device10
public import proofs.«01_k».proof.Proof.DownStep
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Pre_device11
public import proofs.«01_k».proof.Proof.UpStep
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Pre_device12

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_device.Gen.facts, Cert.Pre_device9.Gen.facts, Cert.Pre_device10.Gen.facts, Cert.Pre_device11.Gen.facts, Cert.Pre_device12.Gen.facts,
  fun m ρ _ => Cert.Kernel.Gen.frame m ρ, fun m ρ _ => Cert.KernelIdeal.Gen.frame m ρ, Mlp.frame_ref,
  fun m ρ _ => Cert.Kernel2.Gen.frame m ρ, fun m ρ _ => Cert.Kernel2Ideal.Gen.frame m ρ, Lru.frame_ref,
  fun m ρ _ => Cert.Kernel3.Gen.frame m ρ, fun m ρ _ => Cert.Kernel3Ideal.Gen.frame m ρ, Pool.frame_ref,
  fun m ρ _ => Cert.Kernel4.Gen.frame m ρ, fun m ρ _ => Cert.Kernel4Ideal.Gen.frame m ρ, Ple.frame_ref,
  fun m ρ _ => Cert.Kernel5.Gen.frame m ρ, fun m ρ _ => Cert.Kernel5Ideal.Gen.frame m ρ, Small.frame_ref,
  fun m ρ _ => Cert.Kernel6.Gen.frame m ρ, fun m ρ _ => Cert.Kernel6Ideal.Gen.frame m ρ, Vec.frame_ref,
  fun m ρ _ => Cert.Kernel7.Gen.frame m ρ, fun m ρ _ => Cert.Kernel7Ideal.Gen.frame m ρ, Grp.frame_ref,
  PoolStep.frame_bits, PoolStep.frame_ideal, PoolStep.frame_ref, PoolStep.frame_ref_device,
  GateStep.frame_bits, GateStep.frame_ideal, GateStep.frame_ref, GateStep.frame_ref_device,
  PleStep.frame_bits, PleStep.frame_ideal, PleStep.frame_ref, PleStep.frame_ref_device,
  DownStep.frame_bits, DownStep.frame_ideal, DownStep.frame_ref, DownStep.frame_ref_device,
  UpStep.frame_bits, UpStep.frame_ideal, UpStep.frame_ref, UpStep.frame_ref_device,
  trivial, Mlp.results, trivial, Lru.results, trivial, Pool.results, trivial, Ple.results,
  trivial, Small.results, trivial, Vec.results, trivial, Grp.results, trivial, PoolStep.results,
  trivial, GateStep.results, trivial, PleStep.results, trivial, DownStep.results, trivial, UpStep.results⟩

end Cert.Proof

end
